-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_gates_finite [hPre_gates_finite : Cert.Pre_gates_finite.Facts] (m : (ℓ : Loc Cert.GdnIdeal.nD Cert.GdnIdeal.τ Cert.GdnIdeal.sig) → Buf (Elt Ideal) ℓ) : Prop :=
  ∀ c : Dev Cert.GdnIdeal.nD,
    (Cert.Pre_gates_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6)) (m ((c.tc : Thread Cert.GdnIdeal.nD Cert.GdnIdeal.τ).loc Cert.GdnIdeal.main_arg7))) = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_gates_finite [hPre_gates_finite : Cert.Pre_gates_finite.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_gates_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6)) (m ((c.tc : Thread Cert.GdnRefIdeal.nD Cert.GdnRefIdeal.τ).loc Cert.GdnRefIdeal.main_arg7))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7))
      ∧ r.2.sem = fun _ => 0)

def quiescent_GdnIdeal_pre_gates_finite [hGdnIdeal : Cert.GdnIdeal.Facts] [hPre_gates_finite : Cert.Pre_gates_finite.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_gates_finite m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6)
      ∧ r.2.mem ((c.tc : Thread Cert.GdnRefIdeal.nD Cert.GdnRefIdeal.τ).loc Cert.GdnRefIdeal.main_arg7) = m ((c.tc : Thread Cert.GdnRefIdeal.nD Cert.GdnRefIdeal.τ).loc Cert.GdnRefIdeal.main_arg7))
      ∧ r.2.sem = fun _ => 0)

def quiescent_GdnRefIdeal_pre_gates_finite [hGdnRefIdeal : Cert.GdnRefIdeal.Facts] [hPre_gates_finite : Cert.Pre_gates_finite.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_gates_finite m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6)
      ∧ r.2.mem ((c.tc : Thread Cert.GdnRefIdeal.nD Cert.GdnRefIdeal.τ).loc Cert.GdnRefIdeal.main_arg7) = m ((c.tc : Thread Cert.GdnRefIdeal.nD Cert.GdnRefIdeal.τ).loc Cert.GdnRefIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v18) = v0 c
          ∧ r.2.mem ((c.tc : Thread Cert.MemKvRefIdeal.nD Cert.MemKvRefIdeal.τ).loc Cert.MemKvRefIdeal.main_v19) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)) →
    ∃ (v0 : (c : Dev Cert.MlpSIdeal.nD) → Buf (Elt Ideal) ((c.tc : Thread Cert.MlpSIdeal.nD Cert.MlpSIdeal.τ).loc Cert.MlpSIdeal.main_v6)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v6) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v34) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)) →
    ∃ (v0 : (c : Dev Cert.ProjSIdeal.nD) → Buf (Elt Ideal) ((c.tc : Thread Cert.ProjSIdeal.nD Cert.ProjSIdeal.τ).loc Cert.ProjSIdeal.main_v35_0)) (v1 : (c : Dev Cert.ProjSIdeal.nD) → Buf (Elt Ideal) ((c.tc : Thread Cert.ProjSIdeal.nD Cert.ProjSIdeal.τ).loc Cert.ProjSIdeal.main_v35_1)) (v2 : (c : Dev Cert.ProjSIdeal.nD) → Buf (Elt Ideal) ((c.tc : Thread Cert.ProjSIdeal.nD Cert.ProjSIdeal.τ).loc Cert.ProjSIdeal.main_v35_4)) (v3 : (c : Dev Cert.ProjSIdeal.nD) → Buf (Elt Ideal) ((c.tc : Thread Cert.ProjSIdeal.nD Cert.ProjSIdeal.τ).loc Cert.ProjSIdeal.main_v35_6)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v35_0) = v0 c
          ∧ r.2.mem ((c.tc : Thread Cert.ProjSIdeal.nD Cert.ProjSIdeal.τ).loc Cert.ProjSIdeal.main_v35_1) = v1 c
          ∧ r.2.mem ((c.tc : Thread Cert.ProjSIdeal.nD Cert.ProjSIdeal.τ).loc Cert.ProjSIdeal.main_v35_4) = v2 c
          ∧ r.2.mem ((c.tc : Thread Cert.ProjSIdeal.nD Cert.ProjSIdeal.τ).loc Cert.ProjSIdeal.main_v35_6) = v3 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v42) = v0 c
          ∧ r.2.mem ((c.tc : Thread Cert.ProjSRefIdeal.nD Cert.ProjSRefIdeal.τ).loc Cert.ProjSRefIdeal.main_v43) = v1 c
          ∧ r.2.mem ((c.tc : Thread Cert.ProjSRefIdeal.nD Cert.ProjSRefIdeal.τ).loc Cert.ProjSRefIdeal.main_v44) = v2 c
          ∧ r.2.mem ((c.tc : Thread Cert.ProjSRefIdeal.nD Cert.ProjSRefIdeal.τ).loc Cert.ProjSRefIdeal.main_v45) = v3 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_4)) (v3 : (c : Dev Cert.ProjIdeal.nD) → Buf (Elt Ideal) ((c.tc : Thread Cert.ProjIdeal.nD Cert.ProjIdeal.τ).loc Cert.ProjIdeal.main_v29_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_4) = v2 c
          ∧ r.2.mem ((c.tc : Thread Cert.ProjIdeal.nD Cert.ProjIdeal.τ).loc Cert.ProjIdeal.main_v29_6) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v42) = v0 c
          ∧ r.2.mem ((c.tc : Thread Cert.ProjRefIdeal.nD Cert.ProjRefIdeal.τ).loc Cert.ProjRefIdeal.main_v43) = v1 c
          ∧ r.2.mem ((c.tc : Thread Cert.ProjRefIdeal.nD Cert.ProjRefIdeal.τ).loc Cert.ProjRefIdeal.main_v44) = v2 c
          ∧ r.2.mem ((c.tc : Thread Cert.ProjRefIdeal.nD Cert.ProjRefIdeal.τ).loc Cert.ProjRefIdeal.main_v45) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Gdn_GdnIdeal : Prop :=
  True

def algebraic_GdnIdeal_GdnRefIdeal_pre_gates_finite [hGdnIdeal : Cert.GdnIdeal.Facts] [hGdnRefIdeal : Cert.GdnRefIdeal.Facts] [hPre_gates_finite : Cert.Pre_gates_finite.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_gates_finite m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)
      ∧ m' ((c.tc : Thread Cert.GdnRefIdeal.nD Cert.GdnRefIdeal.τ).loc Cert.GdnRefIdeal.main_arg5) = m ((c.tc : Thread Cert.GdnIdeal.nD Cert.GdnIdeal.τ).loc Cert.GdnIdeal.main_arg5)
      ∧ m' ((c.tc : Thread Cert.GdnRefIdeal.nD Cert.GdnRefIdeal.τ).loc Cert.GdnRefIdeal.main_arg6) = m ((c.tc : Thread Cert.GdnIdeal.nD Cert.GdnIdeal.τ).loc Cert.GdnIdeal.main_arg6)
      ∧ m' ((c.tc : Thread Cert.GdnRefIdeal.nD Cert.GdnRefIdeal.τ).loc Cert.GdnRefIdeal.main_arg7) = m ((c.tc : Thread Cert.GdnIdeal.nD Cert.GdnIdeal.τ).loc Cert.GdnIdeal.main_arg7)) →
    ∃ (v0 : (c : Dev Cert.GdnIdeal.nD) → Buf (Elt Ideal) ((c.tc : Thread Cert.GdnIdeal.nD Cert.GdnIdeal.τ).loc Cert.GdnIdeal.main_v7_0)) (v1 : (c : Dev Cert.GdnIdeal.nD) → Buf (Elt Ideal) ((c.tc : Thread Cert.GdnIdeal.nD Cert.GdnIdeal.τ).loc Cert.GdnIdeal.main_v7_1)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v7_0) = v0 c
          ∧ r.2.mem ((c.tc : Thread Cert.GdnIdeal.nD Cert.GdnIdeal.τ).loc Cert.GdnIdeal.main_v7_1) = v1 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
          ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
          ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v329) = v0 c
          ∧ r.2.mem ((c.tc : Thread Cert.GdnRefIdeal.nD Cert.GdnRefIdeal.τ).loc Cert.GdnRefIdeal.main_v306) = v1 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4)
          ∧ r.2.mem ((c.tc : Thread Cert.GdnRefIdeal.nD Cert.GdnRefIdeal.τ).loc Cert.GdnRefIdeal.main_arg5) = m' ((c.tc : Thread Cert.GdnRefIdeal.nD Cert.GdnRefIdeal.τ).loc Cert.GdnRefIdeal.main_arg5)
          ∧ r.2.mem ((c.tc : Thread Cert.GdnRefIdeal.nD Cert.GdnRefIdeal.τ).loc Cert.GdnRefIdeal.main_arg6) = m' ((c.tc : Thread Cert.GdnRefIdeal.nD Cert.GdnRefIdeal.τ).loc Cert.GdnRefIdeal.main_arg6)
          ∧ r.2.mem ((c.tc : Thread Cert.GdnRefIdeal.nD Cert.GdnRefIdeal.τ).loc Cert.GdnRefIdeal.main_arg7) = m' ((c.tc : Thread Cert.GdnRefIdeal.nD Cert.GdnRefIdeal.τ).loc Cert.GdnRefIdeal.main_arg7))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v10)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v42) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def Claim : Prop :=
  ∃ (hMlp : Cert.Mlp.Facts) (hMlpIdeal : Cert.MlpIdeal.Facts) (hMlpRefIdeal : Cert.MlpRefIdeal.Facts) (hMemKv : Cert.MemKv.Facts) (hMemKvIdeal : Cert.MemKvIdeal.Facts) (hMemKvRefIdeal : Cert.MemKvRefIdeal.Facts) (hMlpS : Cert.MlpS.Facts) (hMlpSIdeal : Cert.MlpSIdeal.Facts) (hMlpSRefIdeal : Cert.MlpSRefIdeal.Facts) (hProjS : Cert.ProjS.Facts) (hProjSIdeal : Cert.ProjSIdeal.Facts) (hProjSRefIdeal : Cert.ProjSRefIdeal.Facts) (hProj : Cert.Proj.Facts) (hProjIdeal : Cert.ProjIdeal.Facts) (hProjRefIdeal : Cert.ProjRefIdeal.Facts) (hGdn : Cert.Gdn.Facts) (hGdnIdeal : Cert.GdnIdeal.Facts) (hGdnRefIdeal : Cert.GdnRefIdeal.Facts) (hPost : Cert.Post.Facts) (hPostIdeal : Cert.PostIdeal.Facts) (hPostRefIdeal : Cert.PostRefIdeal.Facts) (hPre_gates_finite : Cert.Pre_gates_finite.Facts),
    quiescent_Mlp (hMlp := hMlp)
    ∧ quiescent_MlpIdeal (hMlpIdeal := hMlpIdeal)
    ∧ quiescent_MlpRefIdeal (hMlpRefIdeal := hMlpRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Proj (hProj := hProj)
    ∧ quiescent_ProjIdeal (hProjIdeal := hProjIdeal)
    ∧ quiescent_ProjRefIdeal (hProjRefIdeal := hProjRefIdeal)
    ∧ quiescent_Gdn (hGdn := hGdn)
    ∧ quiescent_GdnIdeal (hGdnIdeal := hGdnIdeal)
    ∧ quiescent_GdnIdeal_pre_gates_finite (hGdnIdeal := hGdnIdeal) (hPre_gates_finite := hPre_gates_finite)
    ∧ quiescent_GdnRefIdeal (hGdnRefIdeal := hGdnRefIdeal)
    ∧ quiescent_GdnRefIdeal_pre_gates_finite (hGdnRefIdeal := hGdnRefIdeal) (hPre_gates_finite := hPre_gates_finite)
    ∧ quiescent_Post (hPost := hPost)
    ∧ quiescent_PostIdeal (hPostIdeal := hPostIdeal)
    ∧ quiescent_PostRefIdeal (hPostRefIdeal := hPostRefIdeal)
    ∧ preserves_Mlp_MlpIdeal
    ∧ algebraic_MlpIdeal_MlpRefIdeal (hMlpIdeal := hMlpIdeal) (hMlpRefIdeal := hMlpRefIdeal)
    ∧ preserves_MemKv_MemKvIdeal
    ∧ algebraic_MemKvIdeal_MemKvRefIdeal (hMemKvIdeal := hMemKvIdeal) (hMemKvRefIdeal := hMemKvRefIdeal)
    ∧ preserves_MlpS_MlpSIdeal
    ∧ algebraic_MlpSIdeal_MlpSRefIdeal (hMlpSIdeal := hMlpSIdeal) (hMlpSRefIdeal := hMlpSRefIdeal)
    ∧ preserves_ProjS_ProjSIdeal
    ∧ algebraic_ProjSIdeal_ProjSRefIdeal (hProjSIdeal := hProjSIdeal) (hProjSRefIdeal := hProjSRefIdeal)
    ∧ preserves_Proj_ProjIdeal
    ∧ algebraic_ProjIdeal_ProjRefIdeal (hProjIdeal := hProjIdeal) (hProjRefIdeal := hProjRefIdeal)
    ∧ preserves_Gdn_GdnIdeal
    ∧ algebraic_GdnIdeal_GdnRefIdeal_pre_gates_finite (hGdnIdeal := hGdnIdeal) (hGdnRefIdeal := hGdnRefIdeal) (hPre_gates_finite := hPre_gates_finite)
    ∧ preserves_Post_PostIdeal
    ∧ algebraic_PostIdeal_PostRefIdeal (hPostIdeal := hPostIdeal) (hPostRefIdeal := hPostRefIdeal)
-- ==== Pre_gates_finite.lean ====
abbrev S16x32x1536 : Shape := ⟨3, ![16, 32, 1536]⟩
abbrev S16x32x512 : Shape := ⟨3, ![16, 32, 512]⟩
abbrev S16x32x4 : Shape := ⟨3, ![16, 32, 4]⟩
abbrev S1x16x3x1536 : Shape := ⟨4, ![1, 16, 3, 1536]⟩
abbrev S1x16x4x128x128 : Shape := ⟨5, ![1, 16, 4, 128, 128]⟩
abbrev S1x4x1536 : Shape := ⟨3, ![1, 4, 1536]⟩
abbrev S1x128 : Shape := ⟨2, ![1, 128]⟩
abbrev S_ : Shape := ⟨0, ![]⟩

class Facts : Prop where
  bcast_S_S16x32x4 : S_.BroadcastsInDim S16x32x4 (![] : Fin 0 → Fin S16x32x4.rank)
  reducesTo_S16x32x4_S_d0_1_2 : S16x32x4.ReducesTo [0, 1, 2] S_
  h_S_ : 0 < S_.numel

variable [Facts]

def fn {F : FTy → Type} [FloatOps F] (main_arg0 : FVec F S16x32x1536 .f32) (main_arg1 : FVec F S16x32x512 .f32) (main_arg2 : FVec F S16x32x4 .f32) (main_arg3 : FVec F S16x32x4 .f32) (main_arg4 : FVec F S1x16x3x1536 .f32) (main_arg5 : FVec F S1x16x4x128x128 .f32) (main_arg6 : FVec F S1x4x1536 .f32) (main_arg7 : FVec F S1x128 .f32) : IVec S_ 1 :=
  let main_v0 : FVec F S16x32x4 .f32 := Host.absf main_arg2
  let main_cst : FVec F S_ .f32 := constant S_ .f32 0x7F800000#32
  let main_v1 : FVec F S16x32x4 .f32 := broadcastInDim S16x32x4 ![] bcast_S_S16x32x4 main_cst
  let main_v2 : IVec S16x32x4 1 := cmpf .olt main_v0 main_v1
  let main_c : IVec S_ 1 := constantI S_ 1 1#1
  let main_v3 : IVec S_ 1 := (fun x v => Host.reduce IntOp.andi x v reducesTo_S16x32x4_S_d0_1_2 h_S_) main_v2 main_c
  let main_v4 : FVec F S16x32x4 .f32 := Host.absf main_arg3
  let main_cst_0 : FVec F S_ .f32 := constant S_ .f32 0x7F800000#32
  let main_v5 : FVec F S16x32x4 .f32 := broadcastInDim S16x32x4 ![] bcast_S_S16x32x4 main_cst_0
  let main_v6 : IVec S16x32x4 1 := cmpf .olt main_v4 main_v5
  let main_c_1 : IVec S_ 1 := constantI S_ 1 1#1
  let main_v7 : IVec S_ 1 := (fun x v => Host.reduce IntOp.andi x v reducesTo_S16x32x4_S_d0_1_2 h_S_) main_v6 main_c_1
  let main_v8 : IVec S_ 1 := andi main_v3 main_v7
  main_v8
-- ==== Mlp.lean ====
abbrev S8x8192x1024 : Shape := ⟨3, ![8, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1024x1024 : Shape := ⟨2, ![1024, 1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S65536x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S8x8192x1024 : Shape := ⟨3, ![8, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x4096 : Shape := ⟨2, ![1024, 4096]⟩
abbrev S8x8192x4096 : Shape := ⟨3, ![8, 8192, 4096]⟩
abbrev S4096x1024 : Shape := ⟨2, ![4096, 1024]⟩
abbrev S65536x1024 : Shape := ⟨2, ![65536, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S1024x4096, .f32⟩
  | .hbm, ⟨23, _⟩ => ⟨S8x8192x4096, .f32⟩
  | .hbm, ⟨24, _⟩ => ⟨S_, .f32⟩
  | .hbm, ⟨25, _⟩ => ⟨S8x8192x4096, .f32⟩
  | .hbm, ⟨26, _⟩ => ⟨S8x8192x4096, .f32⟩
  | .hbm, ⟨27, _⟩ => ⟨S8x8192x4096, .f32⟩
  | .hbm, ⟨28, _⟩ => ⟨S4096x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S8x8192x1, .f32⟩
  | .hbm, ⟨42, _⟩ => ⟨S8x8192x1024, .f32⟩
  | .hbm, ⟨43, _⟩ => ⟨S8x8192x1024, .f32⟩
  | .hbm, ⟨44, _⟩ => ⟨S1x1x1024, .f32⟩
  | .hbm, ⟨45, _⟩ => ⟨S8x8192x1024, .f32⟩
  | .hbm, ⟨46, _⟩ => ⟨S8x8192x1024, .f32⟩
  | .hbm, ⟨47, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S2048x1024 : Shape := ⟨2, ![2048, 1024]⟩
abbrev S2048x4x128 : Shape := ⟨3, ![2048, 4, 128]⟩
abbrev S2048x512 : Shape := ⟨2, ![2048, 512]⟩
abbrev S512x1024 : Shape := ⟨2, ![512, 1024]⟩
abbrev S512x4x128 : Shape := ⟨3, ![512, 4, 128]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S2048x1024, .f32⟩
  | .hbm, ⟨6, _⟩ => ⟨S2048x4x128, .f32⟩
  | .hbm, ⟨7, _⟩ => ⟨S2048x4x128, .f32⟩
  | .hbm, ⟨8, _⟩ => ⟨S2048x512, .bf16⟩
  | .hbm, ⟨9, _⟩ => ⟨S2048x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x4x128, .f32⟩
  | .local _ .vmem, ⟨5, _⟩ => ⟨S512x4x128, .f32⟩
  | .local _ .vmem, ⟨6, _⟩ => ⟨S512x4x128, .f32⟩
  | .local _ .vmem, ⟨7, _⟩ => ⟨S512x4x128, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S2048x4x128 : Shape := ⟨3, ![2048, 4, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x1024, .f32⟩
  | .hbm, ⟨21, _⟩ => ⟨S8x256x1024, .f32⟩
  | .hbm, ⟨22, _⟩ => ⟨S8x256x512, .f32⟩
  | .hbm, ⟨23, _⟩ => ⟨S8x256x512, .f32⟩
  | .hbm, ⟨24, _⟩ => ⟨S2048x4x128, .f32⟩
  | .hbm, ⟨25, _⟩ => ⟨S2048x4x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MlpS.lean ====
abbrev S16x32x1024 : Shape := ⟨3, ![16, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S512x1024, .f32⟩
  | .hbm, ⟨11, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S512x1024, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MlpSRefIdeal.lean ====
abbrev S16x32x1024 : Shape := ⟨3, ![16, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S1024x4096 : Shape := ⟨2, ![1024, 4096]⟩
abbrev S16x32x4096 : Shape := ⟨3, ![16, 32, 4096]⟩
abbrev S4096x1024 : Shape := ⟨2, ![4096, 1024]⟩
abbrev S512x1024 : Shape := ⟨2, ![512, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S16x32x1024, .f32⟩
  | .hbm, ⟨7, _⟩ => ⟨S_, .f32⟩
  | .hbm, ⟨8, _⟩ => ⟨S16x32, .f32⟩
  | .hbm, ⟨9, _⟩ => ⟨S16x32x1, .f32⟩
  | .hbm, ⟨10, _⟩ => ⟨S_, .f32⟩
  | .hbm, ⟨11, _⟩ => ⟨S16x32x1, .f32⟩
  | .hbm, ⟨12, _⟩ => ⟨S16x32x1, .f32⟩
  | .hbm, ⟨13, _⟩ => ⟨S_, .f32⟩
  | .hbm, ⟨14, _⟩ => ⟨S16x32x1, .f32⟩
  | .hbm, ⟨15, _⟩ => ⟨S16x32x1, .f32⟩
  | .hbm, ⟨16, _⟩ => ⟨S16x32x1, .f32⟩
  | .hbm, ⟨17, _⟩ => ⟨S16x32x1024, .f32⟩
  | .hbm, ⟨18, _⟩ => ⟨S16x32x1024, .f32⟩
  | .hbm, ⟨19, _⟩ => ⟨S1x1x1024, .f32⟩
  | .hbm, ⟨20, _⟩ => ⟨S16x32x1024, .f32⟩
  | .hbm, ⟨21, _⟩ => ⟨S16x32x1024, .f32⟩
  | .hbm, ⟨22, _⟩ => ⟨S1024x4096, .f32⟩
  | .hbm, ⟨23, _⟩ => ⟨S16x32x4096, .f32⟩
  | .hbm, ⟨24, _⟩ => ⟨S_, .f32⟩
  | .hbm, ⟨25, _⟩ => ⟨S16x32x4096, .f32⟩
  | .hbm, ⟨26, _⟩ => ⟨S16x32x4096, .f32⟩
  | .hbm, ⟨27, _⟩ => ⟨S16x32x4096, .f32⟩
  | .hbm, ⟨28, _⟩ => ⟨S4096x1024, .f32⟩
  | .hbm, ⟨29, _⟩ => ⟨S16x32x1024, .f32⟩
  | .hbm, ⟨30, _⟩ => ⟨S16x32x1024, .f32⟩
  | .hbm, ⟨31, _⟩ => ⟨S16x32x1024, .f32⟩
  | .hbm, ⟨32, _⟩ => ⟨S_, .f32⟩
  | .hbm, ⟨33, _⟩ => ⟨S16x32, .f32⟩
  | .hbm, ⟨34, _⟩ => ⟨S16x32x1, .f32⟩
  | .hbm, ⟨35, _⟩ => ⟨S_, .f32⟩
  | .hbm, ⟨36, _⟩ => ⟨S16x32x1, .f32⟩
  | .hbm, ⟨37, _⟩ => ⟨S16x32x1, .f32⟩
  | .hbm, ⟨38, _⟩ => ⟨S_, .f32⟩
  | .hbm, ⟨39, _⟩ => ⟨S16x32x1, .f32⟩
  | .hbm, ⟨40, _⟩ => ⟨S16x32x1, .f32⟩
  | .hbm, ⟨41, _⟩ => ⟨S16x32x1, .f32⟩
  | .hbm, ⟨42, _⟩ => ⟨S16x32x1024, .f32⟩
  | .hbm, ⟨43, _⟩ => ⟨S16x32x1024, .f32⟩
  | .hbm, ⟨44, _⟩ => ⟨S1x1x1024, .f32⟩
  | .hbm, ⟨45, _⟩ => ⟨S16x32x1024, .f32⟩
  | .hbm, ⟨46, _⟩ => ⟨S16x32x1024, .f32⟩
  | .hbm, ⟨47, _⟩ => ⟨S512x1024, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== ProjS.lean ====
abbrev S16x32x1024 : Shape := ⟨3, ![16, 32, 1024]⟩
abbrev S32x8 : Shape := ⟨2, ![32, 8]⟩
abbrev S1x1024 : Shape := ⟨2, ![1, 1024]⟩
abbrev S1x1024x3592 : Shape := ⟨3, ![1, 1024, 3592]⟩
abbrev S1x4 : Shape := ⟨2, ![1, 4]⟩
abbrev S_ : Shape := ⟨0, ![]⟩
abbrev S32x48 : Shape := ⟨2, ![32, 48]⟩
abbrev S32x64 : Shape := ⟨2, ![32, 64]⟩
abbrev S32x128 : Shape := ⟨2, ![32, 128]⟩
abbrev S16x32x128 : Shape := ⟨3, ![16, 32, 128]⟩
abbrev S512x128 : Shape := ⟨2, ![512, 128]⟩
abbrev S1024x3592 : Shape := ⟨2, ![1024, 3592]⟩
abbrev S1024x8 : Shape := ⟨2, ![1024, 8]⟩
abbrev S1024x120 : Shape := ⟨2, ![1024, 120]⟩
abbrev S1024x128 : Shape := ⟨2, ![1024, 128]⟩
abbrev S1024x2048 : Shape := ⟨2, ![1024, 2048]⟩
abbrev S1024x1536 : Shape := ⟨2, ![1024, 1536]⟩
abbrev S1024x3584 : Shape := ⟨2, ![1024, 3584]⟩
abbrev S4 : Shape := ⟨1, ![4]⟩
abbrev S124 : Shape := ⟨1, ![124]⟩
abbrev S128 : Shape := ⟨1, ![128]⟩
abbrev S1x128 : Shape := ⟨2, ![1, 128]⟩
abbrev S512x1024 : Shape := ⟨2, ![512, 1024]⟩
abbrev S512x1536 : Shape := ⟨2, ![512, 1536]⟩
abbrev S512x512 : Shape := ⟨2, ![512, 512]⟩
abbrev S512x4x128 : Shape := ⟨3, ![512, 4, 128]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S128x512 : Shape := ⟨2, ![128, 512]⟩
abbrev S1x128x512 : Shape := ⟨3, ![1, 128, 512]⟩

abbrev nBuf : Space → Nat
  | .hbm => 57
  | .vmem => 18
  | .smem => 0
  | _ => 0

abbrev bufTy : (tb : Table) → Fin (tcTables nBuf tb) → BufTy
  | .hbm, ⟨0, _⟩ => ⟨S16x32x1024, .f32⟩
  | .hbm, ⟨1, _⟩ => ⟨S32x8, .f32⟩
  | .hbm, ⟨2, _⟩ => ⟨S32x8, .f32⟩
  | .hbm, ⟨3, _⟩ => ⟨S1x1024, .f32⟩
  | .hbm, ⟨4, _⟩ => ⟨S1x1024x3592, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S32x8, .f32⟩
  | .hbm, ⟨9, _⟩ => ⟨S_, .f32⟩
  | .hbm, ⟨10, _⟩ => ⟨S32x48, .f32⟩
  | .hbm, ⟨11, _⟩ => ⟨S_, .f32⟩
  | .hbm, ⟨12, _⟩ => ⟨S32x48, .f32⟩
  | .hbm, ⟨13, _⟩ => ⟨S32x48, .f32⟩
  | .hbm, ⟨14, _⟩ => ⟨S32x64, .f32⟩
  | .hbm, ⟨15, _⟩ => ⟨S32x8, .f32⟩
  | .hbm, ⟨16, _⟩ => ⟨S32x64, .f32⟩
  | .hbm, ⟨17, _⟩ => ⟨S32x64, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S16x32x128, .f32⟩
  | .hbm, ⟨22, _⟩ => ⟨S512x128, .f32⟩
  | .hbm, ⟨23, _⟩ => ⟨S16x32x128, .f32⟩
  | .hbm, ⟨24, _⟩ => ⟨S512x128, .f32⟩
  | .hbm, ⟨25, _⟩ => ⟨S16x32x128, .f32⟩
  | .hbm, ⟨26, _⟩ => ⟨S512x128, .f32⟩
  | .hbm, ⟨27, _⟩ => ⟨S1024x3592, .f32⟩
  | .hbm, ⟨28, _⟩ => ⟨S1024x8, .f32⟩
  | .hbm, ⟨29, _⟩ => ⟨S_, .f32⟩
  | .hbm, ⟨30, _⟩ => ⟨S1024x120, .f32⟩
  | .hbm, ⟨31, _⟩ => ⟨S1024x128, .f32⟩
  | .hbm, ⟨32, _⟩ => ⟨S1024x2048, .f32⟩
  | .hbm, ⟨33, _⟩ => ⟨S1024x1536, .f32⟩
  | .hbm, ⟨34, _⟩ => ⟨S1024x3584, .f32⟩
  | .hbm, ⟨35, _⟩ => ⟨S1024x3584, .bf16⟩
  | .hbm, ⟨36, _⟩ => ⟨S1024x128, .bf16⟩
  | .hbm, ⟨37, _⟩ => ⟨S4, .f32⟩
  | .hbm, ⟨38, _⟩ => ⟨S_, .f32⟩
  | .hbm, ⟨39, _⟩ => ⟨S124, .f32⟩
  | .hbm, ⟨40, _⟩ => ⟨S128, .f32⟩
  | .hbm, ⟨41, _⟩ => ⟨S1x128, .f32⟩
  | .hbm, ⟨42, _⟩ => ⟨S4, .f32⟩
  | .hbm, ⟨43, _⟩ => ⟨S_, .f32⟩
  | .hbm, ⟨44, _⟩ => ⟨S124, .f32⟩
  | .hbm, ⟨45, _⟩ => ⟨S128, .f32⟩
  | .hbm, ⟨46, _⟩ => ⟨S1x128, .f32⟩
  | .hbm, ⟨47, _⟩ => ⟨S512x1024, .f32⟩
  | .hbm, ⟨48, _⟩ => ⟨S512x1536, .f32⟩
  | .hbm, ⟨49, _⟩ => ⟨S512x512, .f32⟩
  | .hbm, ⟨50, _⟩ => ⟨S512x128, .f32⟩
  | .hbm, ⟨51, _⟩ => ⟨S512x512, .bf16⟩
  | .hbm, ⟨52, _⟩ => ⟨S512x4x128, .f32⟩
  | .hbm, ⟨53, _⟩ => ⟨S512x512, .bf16⟩
  | .hbm, ⟨54, _⟩ => ⟨S512x4x128, .f32⟩
  | .hbm, ⟨55, _⟩ => ⟨S512x512, .bf16⟩
  | .hbm, ⟨56, _⟩ => ⟨S1x512x512, .bf16⟩
  | .local _ .vmem, ⟨0, _⟩ => ⟨S512x1024, .f32⟩
  | .local _ .vmem, ⟨1, _⟩ => ⟨S1x1024, .f32⟩
  | .local _ .vmem, ⟨2, _⟩ => ⟨S1024x3584, .bf16⟩
  | .local _ .vmem, ⟨3, _⟩ => ⟨S1024x128, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .f32⟩
  | .local _ .vmem, ⟨10, _⟩ => ⟨S512x512, .f32⟩
  | .local _ .vmem, ⟨11, _⟩ => ⟨S512x128, .f32⟩
  | .local _ .vmem, ⟨12, _⟩ => ⟨S512x512, .bf16⟩
  | .local _ .vmem, ⟨13, _⟩ => ⟨S512x4x128, .f32⟩
  | .local _ .vmem, ⟨14, _⟩ => ⟨S512x512, .bf16⟩
  | .local _ .vmem, ⟨15, _⟩ => ⟨S512x4x128, .f32⟩
  | .local _ .vmem, ⟨16, _⟩ => ⟨S512x512, .bf16⟩
  | .local _ .vmem, ⟨17, _⟩ => ⟨S1x512x512, .bf16⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev main_v35_7 : Ref sig .tc := ⟨.hbm, 55, rfl⟩
abbrev main_v35_8 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ProjSIdeal.lean ====
abbrev S16x32x1024 : Shape := ⟨3, ![16, 32, 1024]⟩
abbrev S32x8 : Shape := ⟨2, ![32, 8]⟩
abbrev S1x1024 : Shape := ⟨2, ![1, 1024]⟩
abbrev S1x1024x3592 : Shape := ⟨3, ![1, 1024, 3592]⟩
abbrev S1x4 : Shape := ⟨2, ![1, 4]⟩
abbrev S_ : Shape := ⟨0, ![]⟩
abbrev S32x48 : Shape := ⟨2, ![32, 48]⟩
abbrev S32x64 : Shape := ⟨2, ![32, 64]⟩
abbrev S32x128 : Shape := ⟨2, ![32, 128]⟩
abbrev S16x32x128 : Shape := ⟨3, ![16, 32, 128]⟩
abbrev S512x128 : Shape := ⟨2, ![512, 128]⟩
abbrev S1024x3592 : Shape := ⟨2, ![1024, 3592]⟩
abbrev S1024x8 : Shape := ⟨2, ![1024, 8]⟩
abbrev S1024x120 : Shape := ⟨2, ![1024, 120]⟩
abbrev S1024x128 : Shape := ⟨2, ![1024, 128]⟩
abbrev S1024x2048 : Shape := ⟨2, ![1024, 2048]⟩
abbrev S1024x1536 : Shape := ⟨2, ![1024, 1536]⟩
abbrev S1024x3584 : Shape := ⟨2, ![1024, 3584]⟩
abbrev S4 : Shape := ⟨1, ![4]⟩
abbrev S124 : Shape := ⟨1, ![124]⟩
abbrev S128 : Shape := ⟨1, ![128]⟩
abbrev S1x128 : Shape := ⟨2, ![1, 128]⟩
abbrev S512x1024 : Shape := ⟨2, ![512, 1024]⟩
abbrev S512x1536 : Shape := ⟨2, ![512, 1536]⟩
abbrev S512x512 : Shape := ⟨2, ![512, 512]⟩
abbrev S512x4x128 : Shape := ⟨3, ![512, 4, 128]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S128x512 : Shape := ⟨2, ![128, 512]⟩
abbrev S1x128x512 : Shape := ⟨3, ![1, 128, 512]⟩

abbrev nBuf : Space → Nat
  | .hbm => 57
  | .vmem => 18
  | .smem => 0
  | _ => 0

abbrev bufTy : (tb : Table) → Fin (tcTables nBuf tb) → BufTy
  | .hbm, ⟨0, _⟩ => ⟨S16x32x1024, .f32⟩
  | .hbm, ⟨1, _⟩ => ⟨S32x8, .f32⟩
  | .hbm, ⟨2, _⟩ => ⟨S32x8, .f32⟩
  | .hbm, ⟨3, _⟩ => ⟨S1x1024, .f32⟩
  | .hbm, ⟨4, _⟩ => ⟨S1x1024x3592, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S32x8, .f32⟩
  | .hbm, ⟨9, _⟩ => ⟨S_, .f32⟩
  | .hbm, ⟨10, _⟩ => ⟨S32x48, .f32⟩
  | .hbm, ⟨11, _⟩ => ⟨S_, .f32⟩
  | .hbm, ⟨12, _⟩ => ⟨S32x48, .f32⟩
  | .hbm, ⟨13, _⟩ => ⟨S32x48, .f32⟩
  | .hbm, ⟨14, _⟩ => ⟨S32x64, .f32⟩
  | .hbm, ⟨15, _⟩ => ⟨S32x8, .f32⟩
  | .hbm, ⟨16, _⟩ => ⟨S32x64, .f32⟩
  | .hbm, ⟨17, _⟩ => ⟨S32x64, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S16x32x128, .f32⟩
  | .hbm, ⟨22, _⟩ => ⟨S512x128, .f32⟩
  | .hbm, ⟨23, _⟩ => ⟨S16x32x128, .f32⟩
  | .hbm, ⟨24, _⟩ => ⟨S512x128, .f32⟩
  | .hbm, ⟨25, _⟩ => ⟨S16x32x128, .f32⟩
  | .hbm, ⟨26, _⟩ => ⟨S512x128, .f32⟩
  | .hbm, ⟨27, _⟩ => ⟨S1024x3592, .f32⟩
  | .hbm, ⟨28, _⟩ => ⟨S1024x8, .f32⟩
  | .hbm, ⟨29, _⟩ => ⟨S_, .f32⟩
  | .hbm, ⟨30, _⟩ => ⟨S1024x120, .f32⟩
  | .hbm, ⟨31, _⟩ => ⟨S1024x128, .f32⟩
  | .hbm, ⟨32, _⟩ => ⟨S1024x2048, .f32⟩
  | .hbm, ⟨33, _⟩ => ⟨S1024x1536, .f32⟩
  | .hbm, ⟨34, _⟩ => ⟨S1024x3584, .f32⟩
  | .hbm, ⟨35, _⟩ => ⟨S1024x3584, .bf16⟩
  | .hbm, ⟨36, _⟩ => ⟨S1024x128, .bf16⟩
  | .hbm, ⟨37, _⟩ => ⟨S4, .f32⟩
  | .hbm, ⟨38, _⟩ => ⟨S_, .f32⟩
  | .hbm, ⟨39, _⟩ => ⟨S124, .f32⟩
  | .hbm, ⟨40, _⟩ => ⟨S128, .f32⟩
  | .hbm, ⟨41, _⟩ => ⟨S1x128, .f32⟩
  | .hbm, ⟨42, _⟩ => ⟨S4, .f32⟩
  | .hbm, ⟨43, _⟩ => ⟨S_, .f32⟩
  | .hbm, ⟨44, _⟩ => ⟨S124, .f32⟩
  | .hbm, ⟨45, _⟩ => ⟨S128, .f32⟩
  | .hbm, ⟨46, _⟩ => ⟨S1x128, .f32⟩
  | .hbm, ⟨47, _⟩ => ⟨S512x1024, .f32⟩
  | .hbm, ⟨48, _⟩ => ⟨S512x1536, .f32⟩
  | .hbm, ⟨49, _⟩ => ⟨S512x512, .f32⟩
  | .hbm, ⟨50, _⟩ => ⟨S512x128, .f32⟩
  | .hbm, ⟨51, _⟩ => ⟨S512x512, .bf16⟩
  | .hbm, ⟨52, _⟩ => ⟨S512x4x128, .f32⟩
  | .hbm, ⟨53, _⟩ => ⟨S512x512, .bf16⟩
  | .hbm, ⟨54, _⟩ => ⟨S512x4x128, .f32⟩
  | .hbm, ⟨55, _⟩ => ⟨S512x512, .bf16⟩
  | .hbm, ⟨56, _⟩ => ⟨S1x512x512, .bf16⟩
  | .local _ .vmem, ⟨0, _⟩ => ⟨S512x1024, .f32⟩
  | .local _ .vmem, ⟨1, _⟩ => ⟨S1x1024, .f32⟩
  | .local _ .vmem, ⟨2, _⟩ => ⟨S1024x3584, .bf16⟩
  | .local _ .vmem, ⟨3, _⟩ => ⟨S1024x128, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .f32⟩
  | .local _ .vmem, ⟨10, _⟩ => ⟨S512x512, .f32⟩
  | .local _ .vmem, ⟨11, _⟩ => ⟨S512x128, .f32⟩
  | .local _ .vmem, ⟨12, _⟩ => ⟨S512x512, .bf16⟩
  | .local _ .vmem, ⟨13, _⟩ => ⟨S512x4x128, .f32⟩
  | .local _ .vmem, ⟨14, _⟩ => ⟨S512x512, .bf16⟩
  | .local _ .vmem, ⟨15, _⟩ => ⟨S512x4x128, .f32⟩
  | .local _ .vmem, ⟨16, _⟩ => ⟨S512x512, .bf16⟩
  | .local _ .vmem, ⟨17, _⟩ => ⟨S1x512x512, .bf16⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev main_v35_7 : Ref sig .tc := ⟨.hbm, 55, rfl⟩
abbrev main_v35_8 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ProjSRefIdeal.lean ====
abbrev S16x32x1024 : Shape := ⟨3, ![16, 32, 1024]⟩
abbrev S32x8 : Shape := ⟨2, ![32, 8]⟩
abbrev S1x1024 : Shape := ⟨2, ![1, 1024]⟩
abbrev S1x1024x3592 : Shape := ⟨3, ![1, 1024, 3592]⟩
abbrev S1x4 : Shape := ⟨2, ![1, 4]⟩
abbrev S1024 : Shape := ⟨1, ![1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S1024x3592 : Shape := ⟨2, ![1024, 3592]⟩
abbrev S16x32x3592 : Shape := ⟨3, ![16, 32, 3592]⟩
abbrev S16x32x1536 : Shape := ⟨3, ![16, 32, 1536]⟩
abbrev S16x32x512 : Shape := ⟨3, ![16, 32, 512]⟩
abbrev S16x32x4 : Shape := ⟨3, ![16, 32, 4]⟩
abbrev S16x32x4x2x64 : Shape := ⟨5, ![16, 32, 4, 2, 64]⟩
abbrev S1x32x1x1x8 : Shape := ⟨5, ![1, 32, 1, 1, 8]⟩
abbrev S16x32x4x2x16 : Shape := ⟨5, ![16, 32, 4, 2, 16]⟩
abbrev S16x32x4x2x8 : Shape := ⟨5, ![16, 32, 4, 2, 8]⟩
abbrev S16x32x4x2x48 : Shape := ⟨5, ![16, 32, 4, 2, 48]⟩
abbrev S512x1536 : Shape := ⟨2, ![512, 1536]⟩
abbrev S512x512 : Shape := ⟨2, ![512, 512]⟩
abbrev S512x4x128 : Shape := ⟨3, ![512, 4, 128]⟩

abbrev nBuf : Space → Nat
  | .hbm => 56
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S32x8, .f32⟩
  | .hbm, ⟨2, _⟩ => ⟨S32x8, .f32⟩
  | .hbm, ⟨3, _⟩ => ⟨S1x1024, .f32⟩
  | .hbm, ⟨4, _⟩ => ⟨S1x1024x3592, .f32⟩
  | .hbm, ⟨5, _⟩ => ⟨S1x4, .f32⟩
  | .hbm, ⟨6, _⟩ => ⟨S1x4, .f32⟩
  | .hbm, ⟨7, _⟩ => ⟨S1024, .f32⟩
  | .hbm, ⟨8, _⟩ => ⟨S16x32x1024, .f32⟩
  | .hbm, ⟨9, _⟩ => ⟨S_, .f32⟩
  | .hbm, ⟨10, _⟩ => ⟨S16x32, .f32⟩
  | .hbm, ⟨11, _⟩ => ⟨S16x32x1, .f32⟩
  | .hbm, ⟨12, _⟩ => ⟨S_, .f32⟩
  | .hbm, ⟨13, _⟩ => ⟨S16x32x1, .f32⟩
  | .hbm, ⟨14, _⟩ => ⟨S16x32x1, .f32⟩
  | .hbm, ⟨15, _⟩ => ⟨S_, .f32⟩
  | .hbm, ⟨16, _⟩ => ⟨S16x32x1, .f32⟩
  | .hbm, ⟨17, _⟩ => ⟨S16x32x1, .f32⟩
  | .hbm, ⟨18, _⟩ => ⟨S16x32x1, .f32⟩
  | .hbm, ⟨19, _⟩ => ⟨S16x32x1024, .f32⟩
  | .hbm, ⟨20, _⟩ => ⟨S16x32x1024, .f32⟩
  | .hbm, ⟨21, _⟩ => ⟨S1x1x1024, .f32⟩
  | .hbm, ⟨22, _⟩ => ⟨S16x32x1024, .f32⟩
  | .hbm, ⟨23, _⟩ => ⟨S16x32x1024, .f32⟩
  | .hbm, ⟨24, _⟩ => ⟨S1024x3592, .f32⟩
  | .hbm, ⟨25, _⟩ => ⟨S16x32x3592, .f32⟩
  | .hbm, ⟨26, _⟩ => ⟨S16x32x1536, .f32⟩
  | .hbm, ⟨27, _⟩ => ⟨S16x32x512, .f32⟩
  | .hbm, ⟨28, _⟩ => ⟨S16x32x4, .f32⟩
  | .hbm, ⟨29, _⟩ => ⟨S16x32x4, .f32⟩
  | .hbm, ⟨30, _⟩ => ⟨S16x32x512, .f32⟩
  | .hbm, ⟨31, _⟩ => ⟨S16x32x512, .f32⟩
  | .hbm, ⟨32, _⟩ => ⟨S16x32x512, .f32⟩
  | .hbm, ⟨33, _⟩ => ⟨S16x32x4x2x64, .f32⟩
  | .hbm, ⟨34, _⟩ => ⟨S1x32x1x1x8, .f32⟩
  | .hbm, ⟨35, _⟩ => ⟨S1x32x1x1x8, .f32⟩
  | .hbm, ⟨36, _⟩ => ⟨S16x32x4x2x16, .f32⟩
  | .hbm, ⟨37, _⟩ => ⟨S16x32x4x2x8, .f32⟩
  | .hbm, ⟨38, _⟩ => ⟨S16x32x4x2x8, .f32⟩
  | .hbm, ⟨39, _⟩ => ⟨S16x32x4x2x8, .f32⟩
  | .hbm, ⟨40, _⟩ => ⟨S16x32x4x2x8, .f32⟩
  | .hbm, ⟨41, _⟩ => ⟨S16x32x4x2x8, .f32⟩
  | .hbm, ⟨42, _⟩ => ⟨S16x32x4x2x8, .f32⟩
  | .hbm, ⟨43, _⟩ => ⟨S16x32x4x2x8, .f32⟩
  | .hbm, ⟨44, _⟩ => ⟨S16x32x4x2x8, .f32⟩
  | .hbm, ⟨45, _⟩ => ⟨S16x32x4x2x8, .f32⟩
  | .hbm, ⟨46, _⟩ => ⟨S16x32x4x2x8, .f32⟩
  | .hbm, ⟨47, _⟩ => ⟨S16x32x4x2x8, .f32⟩
  | .hbm, ⟨48, _⟩ => ⟨S16x32x4x2x8, .f32⟩
  | .hbm, ⟨49, _⟩ => ⟨S16x32x4x2x16, .f32⟩
  | .hbm, ⟨50, _⟩ => ⟨S16x32x4x2x48, .f32⟩
  | .hbm, ⟨51, _⟩ => ⟨S16x32x4x2x64, .f32⟩
  | .hbm, ⟨52, _⟩ => ⟨S512x1536, .f32⟩
  | .hbm, ⟨53, _⟩ => ⟨S512x512, .f32⟩
  | .hbm, ⟨54, _⟩ => ⟨S512x4x128, .f32⟩
  | .hbm, ⟨55, _⟩ => ⟨S512x4x128, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Proj.lean ====
abbrev S8x8192x1024 : Shape := ⟨3, ![8, 8192, 1024]⟩
abbrev S8192x8 : Shape := ⟨2, ![8192, 8]⟩
abbrev S1x1024 : Shape := ⟨2, ![1, 1024]⟩
abbrev S1x1024x3592 : Shape := ⟨3, ![1, 1024, 3592]⟩
abbrev S1x4 : Shape := ⟨2, ![1, 4]⟩
abbrev S_ : Shape := ⟨0, ![]⟩
abbrev S8192x48 : Shape := ⟨2, ![8192, 48]⟩
abbrev S8192x64 : Shape := ⟨2, ![8192, 64]⟩
abbrev S8192x128 : Shape := ⟨2, ![8192, 128]⟩
abbrev S1024x3592 : Shape := ⟨2, ![1024, 3592]⟩
abbrev S1024x8 : Shape := ⟨2, ![1024, 8]⟩
abbrev S1024x120 : Shape := ⟨2, ![1024, 120]⟩
abbrev S1024x128 : Shape := ⟨2, ![1024, 128]⟩
abbrev S1024x2048 : Shape := ⟨2, ![1024, 2048]⟩
abbrev S1024x1536 : Shape := ⟨2, ![1024, 1536]⟩
abbrev S1024x3584 : Shape := ⟨2, ![1024, 3584]⟩
abbrev S4 : Shape := ⟨1, ![4]⟩
abbrev S124 : Shape := ⟨1, ![124]⟩
abbrev S128 : Shape := ⟨1, ![128]⟩
abbrev S1x128 : Shape := ⟨2, ![1, 128]⟩
abbrev S65536x1024 : Shape := ⟨2, ![65536, 1024]⟩
abbrev S65536x1536 : Shape := ⟨2, ![65536, 1536]⟩
abbrev S65536x512 : Shape := ⟨2, ![65536, 512]⟩
abbrev S65536x128 : Shape := ⟨2, ![65536, 128]⟩
abbrev S65536x4x128 : Shape := ⟨3, ![65536, 4, 128]⟩
abbrev S128x512x512 : Shape := ⟨3, ![128, 512, 512]⟩
abbrev S512x1024 : Shape := ⟨2, ![512, 1024]⟩
abbrev S512x128 : Shape := ⟨2, ![512, 128]⟩
abbrev S512x1536 : Shape := ⟨2, ![512, 1536]⟩
abbrev S512x512 : Shape := ⟨2, ![512, 512]⟩
abbrev S512x4x128 : Shape := ⟨3, ![512, 4, 128]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S128x512 : Shape := ⟨2, ![128, 512]⟩
abbrev S1x128x512 : Shape := ⟨3, ![1, 128, 512]⟩

abbrev nBuf : Space → Nat
  | .hbm => 51
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S8192x8, .f32⟩
  | .hbm, ⟨2, _⟩ => ⟨S8192x8, .f32⟩
  | .hbm, ⟨3, _⟩ => ⟨S1x1024, .f32⟩
  | .hbm, ⟨4, _⟩ => ⟨S1x1024x3592, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S8192x8, .f32⟩
  | .hbm, ⟨9, _⟩ => ⟨S_, .f32⟩
  | .hbm, ⟨10, _⟩ => ⟨S8192x48, .f32⟩
  | .hbm, ⟨11, _⟩ => ⟨S_, .f32⟩
  | .hbm, ⟨12, _⟩ => ⟨S8192x48, .f32⟩
  | .hbm, ⟨13, _⟩ => ⟨S8192x48, .f32⟩
  | .hbm, ⟨14, _⟩ => ⟨S8192x64, .f32⟩
  | .hbm, ⟨15, _⟩ => ⟨S8192x8, .f32⟩
  | .hbm, ⟨16, _⟩ => ⟨S8192x64, .f32⟩
  | .hbm, ⟨17, _⟩ => ⟨S8192x64, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S1024x3592, .f32⟩
  | .hbm, ⟨22, _⟩ => ⟨S1024x8, .f32⟩
  | .hbm, ⟨23, _⟩ => ⟨S_, .f32⟩
  | .hbm, ⟨24, _⟩ => ⟨S1024x120, .f32⟩
  | .hbm, ⟨25, _⟩ => ⟨S1024x128, .f32⟩
  | .hbm, ⟨26, _⟩ => ⟨S1024x2048, .f32⟩
  | .hbm, ⟨27, _⟩ => ⟨S1024x1536, .f32⟩
  | .hbm, ⟨28, _⟩ => ⟨S1024x3584, .f32⟩
  | .hbm, ⟨29, _⟩ => ⟨S1024x3584, .bf16⟩
  | .hbm, ⟨30, _⟩ => ⟨S1024x128, .bf16⟩
  | .hbm, ⟨31, _⟩ => ⟨S4, .f32⟩
  | .hbm, ⟨32, _⟩ => ⟨S_, .f32⟩
  | .hbm, ⟨33, _⟩ => ⟨S124, .f32⟩
  | .hbm, ⟨34, _⟩ => ⟨S128, .f32⟩
  | .hbm, ⟨35, _⟩ => ⟨S1x128, .f32⟩
  | .hbm, ⟨36, _⟩ => ⟨S4, .f32⟩
  | .hbm, ⟨37, _⟩ => ⟨S_, .f32⟩
  | .hbm, ⟨38, _⟩ => ⟨S124, .f32⟩
  | .hbm, ⟨39, _⟩ => ⟨S128, .f32⟩
  | .hbm, ⟨40, _⟩ => ⟨S1x128, .f32⟩
  | .hbm, ⟨41, _⟩ => ⟨S65536x1024, .f32⟩
  | .hbm, ⟨42, _⟩ => ⟨S65536x1536, .f32⟩
  | .hbm, ⟨43, _⟩ => ⟨S65536x512, .f32⟩
  | .hbm, ⟨44, _⟩ => ⟨S65536x128, .f32⟩
  | .hbm, ⟨45, _⟩ => ⟨S65536x512, .bf16⟩
  | .hbm, ⟨46, _⟩ => ⟨S65536x4x128, .f32⟩
  | .hbm, ⟨47, _⟩ => ⟨S65536x512, .bf16⟩
  | .hbm, ⟨48, _⟩ => ⟨S65536x4x128, .f32⟩
  | .hbm, ⟨49, _⟩ => ⟨S65536x512, .bf16⟩
  | .hbm, ⟨50, _⟩ => ⟨S128x512x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1536, .f32⟩
  | .local _ .vmem, ⟨14, _⟩ => ⟨S512x1536, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S512x4x128, .f32⟩
  | .local _ .vmem, ⟨22, _⟩ => ⟨S512x4x128, .f32⟩
  | .local _ .vmem, ⟨23, _⟩ => ⟨S512x512, .bf16⟩
  | .local _ .vmem, ⟨24, _⟩ => ⟨S512x512, .bf16⟩
  | .local _ .vmem, ⟨25, _⟩ => ⟨S512x4x128, .f32⟩
  | .local _ .vmem, ⟨26, _⟩ => ⟨S512x4x128, .f32⟩
  | .local _ .vmem, ⟨27, _⟩ => ⟨S512x512, .bf16⟩
  | .local _ .vmem, ⟨28, _⟩ => ⟨S512x512, .bf16⟩
  | .local _ .vmem, ⟨29, _⟩ => ⟨S1x512x512, .bf16⟩
  | .local _ .vmem, ⟨30, _⟩ => ⟨S1x512x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev main_v29_7 : Ref sig .tc := ⟨.hbm, 49, rfl⟩
abbrev main_v29_8 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjRefIdeal.lean ====
abbrev S8x8192x1024 : Shape := ⟨3, ![8, 8192, 1024]⟩
abbrev S8192x8 : Shape := ⟨2, ![8192, 8]⟩
abbrev S1x1024 : Shape := ⟨2, ![1, 1024]⟩
abbrev S1x1024x3592 : Shape := ⟨3, ![1, 1024, 3592]⟩
abbrev S1x4 : Shape := ⟨2, ![1, 4]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x3592 : Shape := ⟨2, ![1024, 3592]⟩
abbrev S8x8192x3592 : Shape := ⟨3, ![8, 8192, 3592]⟩
abbrev S8x8192x1536 : Shape := ⟨3, ![8, 8192, 1536]⟩
abbrev S8x8192x512 : Shape := ⟨3, ![8, 8192, 512]⟩
abbrev S8x8192x4 : Shape := ⟨3, ![8, 8192, 4]⟩
abbrev S8x8192x4x2x64 : Shape := ⟨5, ![8, 8192, 4, 2, 64]⟩
abbrev S1x8192x1x1x8 : Shape := ⟨5, ![1, 8192, 1, 1, 8]⟩
abbrev S8x8192x4x2x16 : Shape := ⟨5, ![8, 8192, 4, 2, 16]⟩
abbrev S8x8192x4x2x8 : Shape := ⟨5, ![8, 8192, 4, 2, 8]⟩
abbrev S8x8192x4x2x48 : Shape := ⟨5, ![8, 8192, 4, 2, 48]⟩
abbrev S65536x1536 : Shape := ⟨2, ![65536, 1536]⟩
abbrev S65536x512 : Shape := ⟨2, ![65536, 512]⟩
abbrev S65536x4x128 : Shape := ⟨3, ![65536, 4, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8192x8, .f32⟩
  | .hbm, ⟨2, _⟩ => ⟨S8192x8, .f32⟩
  | .hbm, ⟨3, _⟩ => ⟨S1x1024, .f32⟩
  | .hbm, ⟨4, _⟩ => ⟨S1x1024x3592, .f32⟩
  | .hbm, ⟨5, _⟩ => ⟨S1x4, .f32⟩
  | .hbm, ⟨6, _⟩ => ⟨S1x4, .f32⟩
  | .hbm, ⟨7, _⟩ => ⟨S1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S1024x3592, .f32⟩
  | .hbm, ⟨25, _⟩ => ⟨S8x8192x3592, .f32⟩
  | .hbm, ⟨26, _⟩ => ⟨S8x8192x1536, .f32⟩
  | .hbm, ⟨27, _⟩ => ⟨S8x8192x512, .f32⟩
  | .hbm, ⟨28, _⟩ => ⟨S8x8192x4, .f32⟩
  | .hbm, ⟨29, _⟩ => ⟨S8x8192x4, .f32⟩
  | .hbm, ⟨30, _⟩ => ⟨S8x8192x512, .f32⟩
  | .hbm, ⟨31, _⟩ => ⟨S8x8192x512, .f32⟩
  | .hbm, ⟨32, _⟩ => ⟨S8x8192x512, .f32⟩
  | .hbm, ⟨33, _⟩ => ⟨S8x8192x4x2x64, .f32⟩
  | .hbm, ⟨34, _⟩ => ⟨S1x8192x1x1x8, .f32⟩
  | .hbm, ⟨35, _⟩ => ⟨S1x8192x1x1x8, .f32⟩
  | .hbm, ⟨36, _⟩ => ⟨S8x8192x4x2x16, .f32⟩
  | .hbm, ⟨37, _⟩ => ⟨S8x8192x4x2x8, .f32⟩
  | .hbm, ⟨38, _⟩ => ⟨S8x8192x4x2x8, .f32⟩
  | .hbm, ⟨39, _⟩ => ⟨S8x8192x4x2x8, .f32⟩
  | .hbm, ⟨40, _⟩ => ⟨S8x8192x4x2x8, .f32⟩
  | .hbm, ⟨41, _⟩ => ⟨S8x8192x4x2x8, .f32⟩
  | .hbm, ⟨42, _⟩ => ⟨S8x8192x4x2x8, .f32⟩
  | .hbm, ⟨43, _⟩ => ⟨S8x8192x4x2x8, .f32⟩
  | .hbm, ⟨44, _⟩ => ⟨S8x8192x4x2x8, .f32⟩
  | .hbm, ⟨45, _⟩ => ⟨S8x8192x4x2x8, .f32⟩
  | .hbm, ⟨46, _⟩ => ⟨S8x8192x4x2x8, .f32⟩
  | .hbm, ⟨47, _⟩ => ⟨S8x8192x4x2x8, .f32⟩
  | .hbm, ⟨48, _⟩ => ⟨S8x8192x4x2x8, .f32⟩
  | .hbm, ⟨49, _⟩ => ⟨S8x8192x4x2x16, .f32⟩
  | .hbm, ⟨50, _⟩ => ⟨S8x8192x4x2x48, .f32⟩
  | .hbm, ⟨51, _⟩ => ⟨S8x8192x4x2x64, .f32⟩
  | .hbm, ⟨52, _⟩ => ⟨S65536x1536, .f32⟩
  | .hbm, ⟨53, _⟩ => ⟨S65536x512, .f32⟩
  | .hbm, ⟨54, _⟩ => ⟨S65536x4x128, .f32⟩
  | .hbm, ⟨55, _⟩ => ⟨S65536x4x128, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Gdn.lean ====
abbrev S16x32x1536 : Shape := ⟨3, ![16, 32, 1536]⟩
abbrev S16x32x512 : Shape := ⟨3, ![16, 32, 512]⟩
abbrev S16x32x4 : Shape := ⟨3, ![16, 32, 4]⟩
abbrev S1x16x3x1536 : Shape := ⟨4, ![1, 16, 3, 1536]⟩
abbrev S1x16x4x128x128 : Shape := ⟨5, ![1, 16, 4, 128, 128]⟩
abbrev S1x4x1536 : Shape := ⟨3, ![1, 4, 1536]⟩
abbrev S1x128 : Shape := ⟨2, ![1, 128]⟩
abbrev S_ : Shape := ⟨0, ![]⟩
abbrev S16x32x120 : Shape := ⟨3, ![16, 32, 120]⟩
abbrev S16x32x128 : Shape := ⟨3, ![16, 32, 128]⟩
abbrev S4x1536 : Shape := ⟨2, ![4, 1536]⟩
abbrev S16x3x1536 : Shape := ⟨3, ![16, 3, 1536]⟩
abbrev S16x4x128x128 : Shape := ⟨4, ![16, 4, 128, 128]⟩
abbrev S16x5x1536 : Shape := ⟨3, ![16, 5, 1536]⟩
abbrev S16x8x1536 : Shape := ⟨3, ![16, 8, 1536]⟩
abbrev S1x32x1536 : Shape := ⟨3, ![1, 32, 1536]⟩
abbrev S1x32x512 : Shape := ⟨3, ![1, 32, 512]⟩
abbrev S1x32x128 : Shape := ⟨3, ![1, 32, 128]⟩
abbrev S1x8x1536 : Shape := ⟨3, ![1, 8, 1536]⟩
abbrev S1x4x128x128 : Shape := ⟨4, ![1, 4, 128, 128]⟩
abbrev S40x1536 : Shape := ⟨2, ![40, 1536]⟩
abbrev S32x1536 : Shape := ⟨2, ![32, 1536]⟩
abbrev S4x128x128 : Shape := ⟨3, ![4, 128, 128]⟩
abbrev S8x1536 : Shape := ⟨2, ![8, 1536]⟩
abbrev S1x1536 : Shape := ⟨2, ![1, 1536]⟩
abbrev S128x128 : Shape := ⟨2, ![128, 128]⟩
abbrev S32x32 : Shape := ⟨2, ![32, 32]⟩
abbrev S32x128 : Shape := ⟨2, ![32, 128]⟩
abbrev S96x128 : Shape := ⟨2, ![96, 128]⟩
abbrev S8x128 : Shape := ⟨2, ![8, 128]⟩
abbrev S1x128x128 : Shape := ⟨3, ![1, 128, 128]⟩
abbrev S8x32 : Shape := ⟨2, ![8, 32]⟩
abbrev S32 : Shape := ⟨1, ![32]⟩
abbrev S32x1 : Shape := ⟨2, ![32, 1]⟩
abbrev S1x1 : Shape := ⟨2, ![1, 1]⟩
abbrev S1x32 : Shape := ⟨2, ![1, 32]⟩
abbrev S128x256 : Shape := ⟨2, ![128, 256]⟩
abbrev S64x128 : Shape := ⟨2, ![64, 128]⟩

abbrev nBuf : Space → Nat
  | .hbm => 19
  | .vmem => 19
  | .smem => 0
  | _ => 0

abbrev bufTy : (tb : Table) → Fin (tcTables nBuf tb) → BufTy
  | .hbm, ⟨0, _⟩ => ⟨S16x32x1536, .f32⟩
  | .hbm, ⟨1, _⟩ => ⟨S16x32x512, .f32⟩
  | .hbm, ⟨2, _⟩ => ⟨S16x32x4, .f32⟩
  | .hbm, ⟨3, _⟩ => ⟨S16x32x4, .f32⟩
  | .hbm, ⟨4, _⟩ => ⟨S1x16x3x1536, .f32⟩
  | .hbm, ⟨5, _⟩ => ⟨S1x16x4x128x128, .f32⟩
  | .hbm, ⟨6, _⟩ => ⟨S1x4x1536, .f32⟩
  | .hbm, ⟨7, _⟩ => ⟨S1x128, .f32⟩
  | .hbm, ⟨8, _⟩ => ⟨S_, .f32⟩
  | .hbm, ⟨9, _⟩ => ⟨S16x32x120, .f32⟩
  | .hbm, ⟨10, _⟩ => ⟨S16x32x128, .f32⟩
  | .hbm, ⟨11, _⟩ => ⟨S4x1536, .f32⟩
  | .hbm, ⟨12, _⟩ => ⟨S16x3x1536, .f32⟩
  | .hbm, ⟨13, _⟩ => ⟨S16x4x128x128, .f32⟩
  | .hbm, ⟨14, _⟩ => ⟨S_, .f32⟩
  | .hbm, ⟨15, _⟩ => ⟨S16x5x1536, .f32⟩
  | .hbm, ⟨16, _⟩ => ⟨S16x8x1536, .f32⟩
  | .hbm, ⟨17, _⟩ => ⟨S16x32x512, .bf16⟩
  | .hbm, ⟨18, _⟩ => ⟨S16x4x128x128, .f32⟩
  | .local _ .vmem, ⟨0, _⟩ => ⟨S1x32x1536, .f32⟩
  | .local _ .vmem, ⟨1, _⟩ => ⟨S1x32x1536, .f32⟩
  | .local _ .vmem, ⟨2, _⟩ => ⟨S1x32x512, .f32⟩
  | .local _ .vmem, ⟨3, _⟩ => ⟨S1x32x512, .f32⟩
  | .local _ .vmem, ⟨4, _⟩ => ⟨S1x32x128, .f32⟩
  | .local _ .vmem, ⟨5, _⟩ => ⟨S1x32x128, .f32⟩
  | .local _ .vmem, ⟨6, _⟩ => ⟨S1x8x1536, .f32⟩
  | .local _ .vmem, ⟨7, _⟩ => ⟨S1x8x1536, .f32⟩
  | .local _ .vmem, ⟨8, _⟩ => ⟨S1x4x128x128, .f32⟩
  | .local _ .vmem, ⟨9, _⟩ => ⟨S1x4x128x128, .f32⟩
  | .local _ .vmem, ⟨10, _⟩ => ⟨S4x1536, .f32⟩
  | .local _ .vmem, ⟨11, _⟩ => ⟨S1x128, .f32⟩
  | .local _ .vmem, ⟨12, _⟩ => ⟨S1x32x512, .bf16⟩
  | .local _ .vmem, ⟨13, _⟩ => ⟨S1x32x512, .bf16⟩
  | .local _ .vmem, ⟨14, _⟩ => ⟨S1x4x128x128, .f32⟩
  | .local _ .vmem, ⟨15, _⟩ => ⟨S1x4x128x128, .f32⟩
  | .local _ .vmem, ⟨16, _⟩ => ⟨S40x1536, .f32⟩
  | .local _ .vmem, ⟨17, _⟩ => ⟨S32x1536, .f32⟩
  | .local _ .vmem, ⟨18, _⟩ => ⟨S4x128x128, .f32⟩
  | _, _ => ⟨S16x32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_163 : BitVec 32 := 0#32
  let v548 : BitVec 1 := Scalar.cmpi .eq arg1 c0_i32_163
  let v549 : BitVec 32 := Scalar.extui v548
  let c0_i32_164 : BitVec 32 := 0#32
  let v550 : BitVec 1 := Scalar.cmpi .ne v549 c0_i32_164
  v550

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GdnRefIdeal.lean ====
abbrev S16x32x1536 : Shape := ⟨3, ![16, 32, 1536]⟩
abbrev S16x32x512 : Shape := ⟨3, ![16, 32, 512]⟩
abbrev S16x32x4 : Shape := ⟨3, ![16, 32, 4]⟩
abbrev S1x16x3x1536 : Shape := ⟨4, ![1, 16, 3, 1536]⟩
abbrev S1x16x4x128x128 : Shape := ⟨5, ![1, 16, 4, 128, 128]⟩
abbrev S1x4x1536 : Shape := ⟨3, ![1, 4, 1536]⟩
abbrev S1x128 : Shape := ⟨2, ![1, 128]⟩
abbrev S16x3x1536 : Shape := ⟨3, ![16, 3, 1536]⟩
abbrev S16x35x1536 : Shape := ⟨3, ![16, 35, 1536]⟩
abbrev S1x1x1536 : Shape := ⟨3, ![1, 1, 1536]⟩
abbrev S1536 : Shape := ⟨1, ![1536]⟩
abbrev S_ : Shape := ⟨0, ![]⟩
abbrev S16x32x4x128 : Shape := ⟨4, ![16, 32, 4, 128]⟩
abbrev S16x32x4x1 : Shape := ⟨4, ![16, 32, 4, 1]⟩
abbrev S16x1x32x4x128 : Shape := ⟨5, ![16, 1, 32, 4, 128]⟩
abbrev S16x1x4x32x128 : Shape := ⟨5, ![16, 1, 4, 32, 128]⟩
abbrev S16x1x32x4 : Shape := ⟨4, ![16, 1, 32, 4]⟩
abbrev S16x1x4x32 : Shape := ⟨4, ![16, 1, 4, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S16x1x4x32x1 : Shape := ⟨5, ![16, 1, 4, 32, 1]⟩
abbrev S16x1x4x1x32 : Shape := ⟨5, ![16, 1, 4, 1, 32]⟩
abbrev S16x1x4x32x32 : Shape := ⟨5, ![16, 1, 4, 32, 32]⟩
abbrev S16x4x32x32 : Shape := ⟨4, ![16, 4, 32, 32]⟩
abbrev S16x4x32x128 : Shape := ⟨4, ![16, 4, 32, 128]⟩
abbrev S16x1x4x1 : Shape := ⟨4, ![16, 1, 4, 1]⟩
abbrev S16x1x4 : Shape := ⟨3, ![16, 1, 4]⟩
abbrev S1x16x4x32x128 : Shape := ⟨5, ![1, 16, 4, 32, 128]⟩
abbrev S1x16x4x32x32 : Shape := ⟨5, ![1, 16, 4, 32, 32]⟩
abbrev S1x16x4 : Shape := ⟨3, ![1, 16, 4]⟩
abbrev S16x4x128x128 : Shape := ⟨4, ![16, 4, 128, 128]⟩
abbrev S16x4 : Shape := ⟨2, ![16, 4]⟩
abbrev S16x4x1x1 : Shape := ⟨4, ![16, 4, 1, 1]⟩
abbrev S128 : Shape := ⟨1, ![128]⟩
abbrev S1x1x1x128 : Shape := ⟨4, ![1, 1, 1, 128]⟩

abbrev nBuf : Space → Nat
  | .hbm => 404
  | .vmem => 0
  | .smem => 0
  | _ => 0

abbrev hbmTy0_0 (i : Nat) : BufTy := match i % 128 with
  | 0 => ⟨S16x32x1536, .f32⟩
  | 1 => ⟨S16x32x512, .f32⟩
  | 2 => ⟨S16x32x4, .f32⟩
  | 3 => ⟨S16x32x4, .f32⟩
  | 4 => ⟨S1x16x3x1536, .f32⟩
  | 5 => ⟨S1x16x4x128x128, .f32⟩
  | 6 => ⟨S1x4x1536, .f32⟩
  | 7 => ⟨S1x128, .f32⟩
  | 8 => ⟨S16x3x1536, .f32⟩
  | 9 => ⟨S16x35x1536, .f32⟩
  | 10 => ⟨S16x32x1536, .f32⟩
  | 11 => ⟨S1x1x1536, .f32⟩
  | 12 => ⟨S1536, .f32⟩
  | 13 => ⟨S1x1x1536, .f32⟩
  | 14 => ⟨S16x32x1536, .f32⟩
  | 15 => ⟨S16x32x1536, .f32⟩
  | 16 => ⟨S16x32x1536, .f32⟩
  | 17 => ⟨S1x1x1536, .f32⟩
  | 18 => ⟨S1536, .f32⟩
  | 19 => ⟨S1x1x1536, .f32⟩
  | 20 => ⟨S16x32x1536, .f32⟩
  | 21 => ⟨S16x32x1536, .f32⟩
  | 22 => ⟨S16x32x1536, .f32⟩
  | 23 => ⟨S16x32x1536, .f32⟩
  | 24 => ⟨S1x1x1536, .f32⟩
  | 25 => ⟨S1536, .f32⟩
  | 26 => ⟨S1x1x1536, .f32⟩
  | 27 => ⟨S16x32x1536, .f32⟩
  | 28 => ⟨S16x32x1536, .f32⟩
  | 29 => ⟨S16x32x1536, .f32⟩
  | 30 => ⟨S16x32x1536, .f32⟩
  | 31 => ⟨S1x1x1536, .f32⟩
  | 32 => ⟨S1536, .f32⟩
  | 33 => ⟨S1x1x1536, .f32⟩
  | 34 => ⟨S16x32x1536, .f32⟩
  | 35 => ⟨S16x32x1536, .f32⟩
  | 36 => ⟨S16x32x1536, .f32⟩
  | 37 => ⟨S16x32x1536, .f32⟩
  | 38 => ⟨S16x32x1536, .f32⟩
  | 39 => ⟨S_, .f32⟩
  | 40 => ⟨S16x32x1536, .f32⟩
  | 41 => ⟨S16x32x1536, .f32⟩
  | 42 => ⟨S_, .f32⟩
  | 43 => ⟨S16x32x1536, .f32⟩
  | 44 => ⟨S16x32x1536, .f32⟩
  | 45 => ⟨S16x32x1536, .f32⟩
  | 46 => ⟨S16x32x512, .f32⟩
  | 47 => ⟨S16x32x512, .f32⟩
  | 48 => ⟨S16x32x512, .f32⟩
  | 49 => ⟨S16x32x4x128, .f32⟩
  | 50 => ⟨S16x32x4x128, .f32⟩
  | 51 => ⟨S_, .f32⟩
  | 52 => ⟨S16x32x4, .f32⟩
  | 53 => ⟨S16x32x4x1, .f32⟩
  | 54 => ⟨S_, .f32⟩
  | 55 => ⟨S16x32x4x1, .f32⟩
  | 56 => ⟨S16x32x4x1, .f32⟩
  | 57 => ⟨S16x32x4x1, .f32⟩
  | 58 => ⟨S16x32x4x128, .f32⟩
  | 59 => ⟨S16x32x4x128, .f32⟩
  | 60 => ⟨S_, .f32⟩
  | 61 => ⟨S16x32x4x128, .f32⟩
  | 62 => ⟨S16x32x4x128, .f32⟩
  | 63 => ⟨S16x32x4x128, .f32⟩
  | 64 => ⟨S16x32x4x128, .f32⟩
  | 65 => ⟨S_, .f32⟩
  | 66 => ⟨S16x32x4, .f32⟩
  | 67 => ⟨S16x32x4x1, .f32⟩
  | 68 => ⟨S_, .f32⟩
  | 69 => ⟨S16x32x4x1, .f32⟩
  | 70 => ⟨S16x32x4x1, .f32⟩
  | 71 => ⟨S16x32x4x1, .f32⟩
  | 72 => ⟨S16x32x4x128, .f32⟩
  | 73 => ⟨S16x32x4x128, .f32⟩
  | 74 => ⟨S16x32x4x128, .f32⟩
  | 75 => ⟨S16x1x32x4x128, .f32⟩
  | 76 => ⟨S16x1x4x32x128, .f32⟩
  | 77 => ⟨S16x1x32x4x128, .f32⟩
  | 78 => ⟨S16x1x4x32x128, .f32⟩
  | 79 => ⟨S16x1x32x4x128, .f32⟩
  | 80 => ⟨S16x1x4x32x128, .f32⟩
  | 81 => ⟨S16x1x32x4, .f32⟩
  | 82 => ⟨S16x1x4x32, .f32⟩
  | 83 => ⟨S16x1x32x4, .f32⟩
  | 84 => ⟨S16x1x4x32, .f32⟩
  | 85 => ⟨S_, .f32⟩
  | 86 => ⟨S_, .f32⟩
  | 87 => ⟨S16x1x4x32, .f32⟩
  | 88 => ⟨S32, .i32⟩
  | 89 => ⟨S32x1, .i32⟩
  | 90 => ⟨S1x32, .i32⟩
  | 91 => ⟨S32x32, .i32⟩
  | 92 => ⟨S32x32, .i32⟩
  | 93 => ⟨S32x32, .i1⟩
  | 94 => ⟨S32x1, .i32⟩
  | 95 => ⟨S1x32, .i32⟩
  | 96 => ⟨S32x32, .i32⟩
  | 97 => ⟨S32x32, .i32⟩
  | 98 => ⟨S32x32, .i1⟩
  | 99 => ⟨S16x1x4x32x1, .f32⟩
  | 100 => ⟨S16x1x4x1x32, .f32⟩
  | 101 => ⟨S16x1x4x32x32, .f32⟩
  | 102 => ⟨S16x1x4x32x32, .f32⟩
  | 103 => ⟨S16x1x4x32x32, .f32⟩
  | 104 => ⟨S_, .f32⟩
  | 105 => ⟨S_, .f32⟩
  | 106 => ⟨S16x1x4x32x32, .i1⟩
  | 107 => ⟨S16x1x4x32x32, .f32⟩
  | 108 => ⟨S16x1x4x32x32, .f32⟩
  | 109 => ⟨S16x1x4x32x32, .f32⟩
  | 110 => ⟨S16x1x4x32x1, .f32⟩
  | 111 => ⟨S16x1x4x32x128, .f32⟩
  | 112 => ⟨S16x1x4x32x128, .f32⟩
  | 113 => ⟨S16x1x4x32x32, .f32⟩
  | 114 => ⟨S16x1x4x32x32, .f32⟩
  | 115 => ⟨S_, .f32⟩
  | 116 => ⟨S_, .f32⟩
  | 117 => ⟨S16x1x4x32x32, .i1⟩
  | 118 => ⟨S16x1x4x32x32, .f32⟩
  | 119 => ⟨S16x1x4x32x32, .f32⟩
  | 120 => ⟨S32x32, .i32⟩
  | 121 => ⟨S32x32, .i32⟩
  | 122 => ⟨S_, .i32⟩
  | 123 => ⟨S32x32, .i32⟩
  | 124 => ⟨S32x32, .i32⟩
  | 125 => ⟨S32x32, .i1⟩
  | 126 => ⟨S32x32, .f32⟩
  | 127 => ⟨S16x1x4x32x32, .f32⟩
  | _ => ⟨S16x32x1536, .f32⟩

abbrev hbmTy0_1 (i : Nat) : BufTy := match i % 128 with
  | 0 => ⟨S32x1, .i32⟩
  | 1 => ⟨S16x1x4x32x32, .i32⟩
  | 2 => ⟨S_, .i32⟩
  | 3 => ⟨S16x1x4x32x32, .i32⟩
  | 4 => ⟨S16x1x4x32x32, .i1⟩
  | 5 => ⟨S16x1x4x32x32, .f32⟩
  | 6 => ⟨S16x1x4x32x32, .f32⟩
  | 7 => ⟨S16x1x4x32x32, .f32⟩
  | 8 => ⟨S_, .i32⟩
  | 9 => ⟨S16x1x4x32x32, .i32⟩
  | 10 => ⟨S16x1x4x32x32, .i1⟩
  | 11 => ⟨S16x1x4x32x32, .f32⟩
  | 12 => ⟨S16x1x4x32x32, .f32⟩
  | 13 => ⟨S16x1x4x32x32, .f32⟩
  | 14 => ⟨S_, .i32⟩
  | 15 => ⟨S16x1x4x32x32, .i32⟩
  | 16 => ⟨S16x1x4x32x32, .i1⟩
  | 17 => ⟨S16x1x4x32x32, .f32⟩
  | 18 => ⟨S16x1x4x32x32, .f32⟩
  | 19 => ⟨S16x1x4x32x32, .f32⟩
  | 20 => ⟨S_, .i32⟩
  | 21 => ⟨S16x1x4x32x32, .i32⟩
  | 22 => ⟨S16x1x4x32x32, .i1⟩
  | 23 => ⟨S16x1x4x32x32, .f32⟩
  | 24 => ⟨S16x1x4x32x32, .f32⟩
  | 25 => ⟨S16x1x4x32x32, .f32⟩
  | 26 => ⟨S_, .i32⟩
  | 27 => ⟨S16x1x4x32x32, .i32⟩
  | 28 => ⟨S16x1x4x32x32, .i1⟩
  | 29 => ⟨S16x1x4x32x32, .f32⟩
  | 30 => ⟨S16x1x4x32x32, .f32⟩
  | 31 => ⟨S16x1x4x32x32, .f32⟩
  | 32 => ⟨S_, .i32⟩
  | 33 => ⟨S16x1x4x32x32, .i32⟩
  | 34 => ⟨S16x1x4x32x32, .i1⟩
  | 35 => ⟨S16x1x4x32x32, .f32⟩
  | 36 => ⟨S16x1x4x32x32, .f32⟩
  | 37 => ⟨S16x1x4x32x32, .f32⟩
  | 38 => ⟨S_, .i32⟩
  | 39 => ⟨S16x1x4x32x32, .i32⟩
  | 40 => ⟨S16x1x4x32x32, .i1⟩
  | 41 => ⟨S16x1x4x32x32, .f32⟩
  | 42 => ⟨S16x1x4x32x32, .f32⟩
  | 43 => ⟨S16x1x4x32x32, .f32⟩
  | 44 => ⟨S_, .i32⟩
  | 45 => ⟨S16x1x4x32x32, .i32⟩
  | 46 => ⟨S16x1x4x32x32, .i1⟩
  | 47 => ⟨S16x1x4x32x32, .f32⟩
  | 48 => ⟨S16x1x4x32x32, .f32⟩
  | 49 => ⟨S16x1x4x32x32, .f32⟩
  | 50 => ⟨S_, .i32⟩
  | 51 => ⟨S16x1x4x32x32, .i32⟩
  | 52 => ⟨S16x1x4x32x32, .i1⟩
  | 53 => ⟨S16x1x4x32x32, .f32⟩
  | 54 => ⟨S16x1x4x32x32, .f32⟩
  | 55 => ⟨S16x1x4x32x32, .f32⟩
  | 56 => ⟨S_, .i32⟩
  | 57 => ⟨S16x1x4x32x32, .i32⟩
  | 58 => ⟨S16x1x4x32x32, .i1⟩
  | 59 => ⟨S16x1x4x32x32, .f32⟩
  | 60 => ⟨S16x1x4x32x32, .f32⟩
  | 61 => ⟨S16x1x4x32x32, .f32⟩
  | 62 => ⟨S_, .i32⟩
  | 63 => ⟨S16x1x4x32x32, .i32⟩
  | 64 => ⟨S16x1x4x32x32, .i1⟩
  | 65 => ⟨S16x1x4x32x32, .f32⟩
  | 66 => ⟨S16x1x4x32x32, .f32⟩
  | 67 => ⟨S16x1x4x32x32, .f32⟩
  | 68 => ⟨S_, .i32⟩
  | 69 => ⟨S16x1x4x32x32, .i32⟩
  | 70 => ⟨S16x1x4x32x32, .i1⟩
  | 71 => ⟨S16x1x4x32x32, .f32⟩
  | 72 => ⟨S16x1x4x32x32, .f32⟩
  | 73 => ⟨S16x1x4x32x32, .f32⟩
  | 74 => ⟨S_, .i32⟩
  | 75 => ⟨S16x1x4x32x32, .i32⟩
  | 76 => ⟨S16x1x4x32x32, .i1⟩
  | 77 => ⟨S16x1x4x32x32, .f32⟩
  | 78 => ⟨S16x1x4x32x32, .f32⟩
  | 79 => ⟨S16x1x4x32x32, .f32⟩
  | 80 => ⟨S_, .i32⟩
  | 81 => ⟨S16x1x4x32x32, .i32⟩
  | 82 => ⟨S16x1x4x32x32, .i1⟩
  | 83 => ⟨S16x1x4x32x32, .f32⟩
  | 84 => ⟨S16x1x4x32x32, .f32⟩
  | 85 => ⟨S16x1x4x32x32, .f32⟩
  | 86 => ⟨S_, .i32⟩
  | 87 => ⟨S16x1x4x32x32, .i32⟩
  | 88 => ⟨S16x1x4x32x32, .i1⟩
  | 89 => ⟨S16x1x4x32x32, .f32⟩
  | 90 => ⟨S16x1x4x32x32, .f32⟩
  | 91 => ⟨S16x1x4x32x32, .f32⟩
  | 92 => ⟨S_, .i32⟩
  | 93 => ⟨S16x1x4x32x32, .i32⟩
  | 94 => ⟨S16x1x4x32x32, .i1⟩
  | 95 => ⟨S16x1x4x32x32, .f32⟩
  | 96 => ⟨S16x1x4x32x32, .f32⟩
  | 97 => ⟨S16x1x4x32x32, .f32⟩
  | 98 => ⟨S_, .i32⟩
  | 99 => ⟨S16x1x4x32x32, .i32⟩
  | 100 => ⟨S16x1x4x32x32, .i1⟩
  | 101 => ⟨S16x1x4x32x32, .f32⟩
  | 102 => ⟨S16x1x4x32x32, .f32⟩
  | 103 => ⟨S16x1x4x32x32, .f32⟩
  | 104 => ⟨S_, .i32⟩
  | 105 => ⟨S16x1x4x32x32, .i32⟩
  | 106 => ⟨S16x1x4x32x32, .i1⟩
  | 107 => ⟨S16x1x4x32x32, .f32⟩
  | 108 => ⟨S16x1x4x32x32, .f32⟩
  | 109 => ⟨S16x1x4x32x32, .f32⟩
  | 110 => ⟨S_, .i32⟩
  | 111 => ⟨S16x1x4x32x32, .i32⟩
  | 112 => ⟨S16x1x4x32x32, .i1⟩
  | 113 => ⟨S16x1x4x32x32, .f32⟩
  | 114 => ⟨S16x1x4x32x32, .f32⟩
  | 115 => ⟨S16x1x4x32x32, .f32⟩
  | 116 => ⟨S_, .i32⟩
  | 117 => ⟨S16x1x4x32x32, .i32⟩
  | 118 => ⟨S16x1x4x32x32, .i1⟩
  | 119 => ⟨S16x1x4x32x32, .f32⟩
  | 120 => ⟨S16x1x4x32x32, .f32⟩
  | 121 => ⟨S16x1x4x32x32, .f32⟩
  | 122 => ⟨S_, .i32⟩
  | 123 => ⟨S16x1x4x32x32, .i32⟩
  | 124 => ⟨S16x1x4x32x32, .i1⟩
  | 125 => ⟨S16x1x4x32x32, .f32⟩
  | 126 => ⟨S16x1x4x32x32, .f32⟩
  | 127 => ⟨S16x1x4x32x32, .f32⟩
  | _ => ⟨S16x32x1536, .f32⟩

abbrev hbmTy0_2 (i : Nat) : BufTy := match i % 128 with
  | 0 => ⟨S_, .i32⟩
  | 1 => ⟨S16x1x4x32x32, .i32⟩
  | 2 => ⟨S16x1x4x32x32, .i1⟩
  | 3 => ⟨S16x1x4x32x32, .f32⟩
  | 4 => ⟨S16x1x4x32x32, .f32⟩
  | 5 => ⟨S16x1x4x32x32, .f32⟩
  | 6 => ⟨S_, .i32⟩
  | 7 => ⟨S16x1x4x32x32, .i32⟩
  | 8 => ⟨S16x1x4x32x32, .i1⟩
  | 9 => ⟨S16x1x4x32x32, .f32⟩
  | 10 => ⟨S16x1x4x32x32, .f32⟩
  | 11 => ⟨S16x1x4x32x32, .f32⟩
  | 12 => ⟨S_, .i32⟩
  | 13 => ⟨S16x1x4x32x32, .i32⟩
  | 14 => ⟨S16x1x4x32x32, .i1⟩
  | 15 => ⟨S16x1x4x32x32, .f32⟩
  | 16 => ⟨S16x1x4x32x32, .f32⟩
  | 17 => ⟨S16x1x4x32x32, .f32⟩
  | 18 => ⟨S_, .i32⟩
  | 19 => ⟨S16x1x4x32x32, .i32⟩
  | 20 => ⟨S16x1x4x32x32, .i1⟩
  | 21 => ⟨S16x1x4x32x32, .f32⟩
  | 22 => ⟨S16x1x4x32x32, .f32⟩
  | 23 => ⟨S16x1x4x32x32, .f32⟩
  | 24 => ⟨S_, .i32⟩
  | 25 => ⟨S16x1x4x32x32, .i32⟩
  | 26 => ⟨S16x1x4x32x32, .i1⟩
  | 27 => ⟨S16x1x4x32x32, .f32⟩
  | 28 => ⟨S16x1x4x32x32, .f32⟩
  | 29 => ⟨S16x1x4x32x32, .f32⟩
  | 30 => ⟨S_, .i32⟩
  | 31 => ⟨S16x1x4x32x32, .i32⟩
  | 32 => ⟨S16x1x4x32x32, .i1⟩
  | 33 => ⟨S16x1x4x32x32, .f32⟩
  | 34 => ⟨S16x1x4x32x32, .f32⟩
  | 35 => ⟨S16x1x4x32x32, .f32⟩
  | 36 => ⟨S_, .i32⟩
  | 37 => ⟨S16x1x4x32x32, .i32⟩
  | 38 => ⟨S16x1x4x32x32, .i1⟩
  | 39 => ⟨S16x1x4x32x32, .f32⟩
  | 40 => ⟨S16x1x4x32x32, .f32⟩
  | 41 => ⟨S16x1x4x32x32, .f32⟩
  | 42 => ⟨S_, .i32⟩
  | 43 => ⟨S16x1x4x32x32, .i32⟩
  | 44 => ⟨S16x1x4x32x32, .i1⟩
  | 45 => ⟨S16x1x4x32x32, .f32⟩
  | 46 => ⟨S16x1x4x32x32, .f32⟩
  | 47 => ⟨S16x1x4x32x32, .f32⟩
  | 48 => ⟨S_, .i32⟩
  | 49 => ⟨S16x1x4x32x32, .i32⟩
  | 50 => ⟨S16x1x4x32x32, .i1⟩
  | 51 => ⟨S16x1x4x32x32, .f32⟩
  | 52 => ⟨S16x1x4x32x32, .f32⟩
  | 53 => ⟨S16x1x4x32x32, .f32⟩
  | 54 => ⟨S_, .i32⟩
  | 55 => ⟨S16x1x4x32x32, .i32⟩
  | 56 => ⟨S16x1x4x32x32, .i1⟩
  | 57 => ⟨S16x1x4x32x32, .f32⟩
  | 58 => ⟨S16x1x4x32x32, .f32⟩
  | 59 => ⟨S16x1x4x32x32, .f32⟩
  | 60 => ⟨S16x1x4x32x1, .f32⟩
  | 61 => ⟨S16x1x4x32x128, .f32⟩
  | 62 => ⟨S16x1x4x32x128, .f32⟩
  | 63 => ⟨S16x4x32x32, .f32⟩
  | 64 => ⟨S16x4x32x128, .f32⟩
  | 65 => ⟨S16x4x32x128, .f32⟩
  | 66 => ⟨S16x1x4x32x128, .f32⟩
  | 67 => ⟨S16x1x4x32, .f32⟩
  | 68 => ⟨S16x1x4x32x1, .f32⟩
  | 69 => ⟨S16x1x4x32x128, .f32⟩
  | 70 => ⟨S16x1x4x32x128, .f32⟩
  | 71 => ⟨S16x4x32x32, .f32⟩
  | 72 => ⟨S16x4x32x128, .f32⟩
  | 73 => ⟨S16x4x32x128, .f32⟩
  | 74 => ⟨S16x1x4x32x128, .f32⟩
  | 75 => ⟨S16x1x4x32x32, .f32⟩
  | 76 => ⟨S16x1x4x32x32, .f32⟩
  | 77 => ⟨S16x1x4x32, .f32⟩
  | 78 => ⟨S16x1x4x32x1, .f32⟩
  | 79 => ⟨S16x1x4x32x128, .f32⟩
  | 80 => ⟨S16x1x4x32x128, .f32⟩
  | 81 => ⟨S16x1x4x1, .f32⟩
  | 82 => ⟨S16x1x4x32, .f32⟩
  | 83 => ⟨S16x1x4x32, .f32⟩
  | 84 => ⟨S16x1x4x32, .f32⟩
  | 85 => ⟨S16x1x4x32x1, .f32⟩
  | 86 => ⟨S16x1x4x32x128, .f32⟩
  | 87 => ⟨S16x1x4x32x128, .f32⟩
  | 88 => ⟨S16x1x4x1, .f32⟩
  | 89 => ⟨S16x1x4, .f32⟩
  | 90 => ⟨S16x1x4, .f32⟩
  | 91 => ⟨S1x16x4x32x128, .f32⟩
  | 92 => ⟨S1x16x4x32x128, .f32⟩
  | 93 => ⟨S1x16x4x32x32, .f32⟩
  | 94 => ⟨S1x16x4x32x128, .f32⟩
  | 95 => ⟨S1x16x4x32x128, .f32⟩
  | 96 => ⟨S1x16x4, .f32⟩
  | 97 => ⟨S16x4x128x128, .f32⟩
  | 98 => ⟨S16x4x32x128, .f32⟩
  | 99 => ⟨S16x4x32x128, .f32⟩
  | 100 => ⟨S16x4x32x32, .f32⟩
  | 101 => ⟨S16x4x32x128, .f32⟩
  | 102 => ⟨S16x4x32x128, .f32⟩
  | 103 => ⟨S16x4, .f32⟩
  | 104 => ⟨S16x4x32x128, .f32⟩
  | 105 => ⟨S16x4x32x128, .f32⟩
  | 106 => ⟨S16x4x32x128, .f32⟩
  | 107 => ⟨S16x4x32x128, .f32⟩
  | 108 => ⟨S16x4x32x128, .f32⟩
  | 109 => ⟨S16x4x1x1, .f32⟩
  | 110 => ⟨S16x4x128x128, .f32⟩
  | 111 => ⟨S16x4x128x128, .f32⟩
  | 112 => ⟨S16x4x128x128, .f32⟩
  | 113 => ⟨S16x4x128x128, .f32⟩
  | 114 => ⟨S1x16x4x32x128, .f32⟩
  | 115 => ⟨S16x1x4x32x128, .f32⟩
  | 116 => ⟨S16x1x32x4x128, .f32⟩
  | 117 => ⟨S16x32x4x128, .f32⟩
  | 118 => ⟨S128, .f32⟩
  | 119 => ⟨S16x32x4x128, .f32⟩
  | 120 => ⟨S_, .f32⟩
  | 121 => ⟨S16x32x4, .f32⟩
  | 122 => ⟨S16x32x4x1, .f32⟩
  | 123 => ⟨S_, .f32⟩
  | 124 => ⟨S16x32x4x1, .f32⟩
  | 125 => ⟨S16x32x4x1, .f32⟩
  | 126 => ⟨S_, .f32⟩
  | 127 => ⟨S16x32x4x1, .f32⟩
  | _ => ⟨S16x32x1536, .f32⟩

abbrev hbmTy0_3 (i : Nat) : BufTy := match i % 128 with
  | 0 => ⟨S16x32x4x1, .f32⟩
  | 1 => ⟨S16x32x4x1, .f32⟩
  | 2 => ⟨S16x32x4x128, .f32⟩
  | 3 => ⟨S16x32x4x128, .f32⟩
  | 4 => ⟨S1x1x1x128, .f32⟩
  | 5 => ⟨S16x32x4x128, .f32⟩
  | 6 => ⟨S16x32x4x128, .f32⟩
  | 7 => ⟨S16x32x4x128, .f32⟩
  | 8 => ⟨S16x32x4x128, .f32⟩
  | 9 => ⟨S16x32x4x128, .f32⟩
  | 10 => ⟨S_, .f32⟩
  | 11 => ⟨S16x32x4x128, .f32⟩
  | 12 => ⟨S16x32x4x128, .f32⟩
  | 13 => ⟨S_, .f32⟩
  | 14 => ⟨S16x32x4x128, .f32⟩
  | 15 => ⟨S16x32x4x128, .f32⟩
  | 16 => ⟨S16x32x4x128, .f32⟩
  | 17 => ⟨S16x32x4x128, .f32⟩
  | 18 => ⟨S16x32x512, .f32⟩
  | 19 => ⟨S16x32x512, .bf16⟩
  | _ => ⟨S16x32x1536, .f32⟩

abbrev hbmTy (i : Nat) : BufTy := match i / 128 with
  | 0 => hbmTy0_0 i
  | 1 => hbmTy0_1 i
  | 2 => hbmTy0_2 i
  | 3 => hbmTy0_3 i
  | _ => ⟨S16x32x1536, .f32⟩

abbrev bufTy : (tb : Table) → Fin (tcTables nBuf tb) → BufTy
  | .hbm, ⟨i, _⟩ => hbmTy i
  | _, _ => ⟨S16x32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_call0_cst : Ref sig .tc := ⟨.hbm, 85, rfl⟩
abbrev main_call1_call0_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_4 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_5 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_6 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_7 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_8 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_9 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_c_10 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_11 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_12 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_c_13 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_14 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_c_15 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_16 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_17 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_c_18 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_19 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_c_20 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_c_21 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_22 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_c_23 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_c_24 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_c_25 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_c_26 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_c_27 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_c_28 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_c_29 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_c_30 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_c_31 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_c_32 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_c_33 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_c_34 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_c_35 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_c_36 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_cst_37 : Ref sig .tc := ⟨.hbm, 376, rfl⟩
abbrev main_v313 : Ref sig .tc := ⟨.hbm, 377, rfl⟩
abbrev main_v314 : Ref sig .tc := ⟨.hbm, 378, rfl⟩
abbrev main_cst_38 : Ref sig .tc := ⟨.hbm, 379, rfl⟩
abbrev main_v315 : Ref sig .tc := ⟨.hbm, 380, rfl⟩
abbrev main_v316 : Ref sig .tc := ⟨.hbm, 381, rfl⟩
abbrev main_cst_39 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_call35_v0 : Ref sig .tc := ⟨.hbm, 392, rfl⟩
abbrev main_call35_v1 : Ref sig .tc := ⟨.hbm, 393, rfl⟩
abbrev main_call35_cst : Ref sig .tc := ⟨.hbm, 394, rfl⟩
abbrev main_call35_v2 : Ref sig .tc := ⟨.hbm, 395, rfl⟩
abbrev main_call35_v3 : Ref sig .tc := ⟨.hbm, 396, rfl⟩
abbrev main_call35_cst_0 : Ref sig .tc := ⟨.hbm, 397, rfl⟩
abbrev main_call35_v4 : Ref sig .tc := ⟨.hbm, 398, rfl⟩
abbrev main_call35_v5 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩

abbrev nD : Nat := 1
abbrev τ : Topo := Topo.v7x

variable {F : FTy → Type} [FloatOps F]
-- ==== Post.lean ====
abbrev S8x8192x1024 : Shape := ⟨3, ![8, 8192, 1024]⟩
abbrev S8x8192x512 : Shape := ⟨3, ![8, 8192, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩
abbrev S8x256x512 : Shape := ⟨3, ![8, 256, 512]⟩
abbrev S1x256x512 : Shape := ⟨3, ![1, 256, 512]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩

abbrev nBuf : Space → Nat
  | .hbm => 20
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x256x4x128, .f32⟩
  | .hbm, ⟨4, _⟩ => ⟨S8x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x512x1024, .f32⟩
  | .hbm, ⟨9, _⟩ => ⟨S1024x1024, .f32⟩
  | .hbm, ⟨10, _⟩ => ⟨S1024x1024, .bf16⟩
  | .hbm, ⟨11, _⟩ => ⟨S1024x512, .f32⟩
  | .hbm, ⟨12, _⟩ => ⟨S1024x512, .bf16⟩
  | .hbm, ⟨13, _⟩ => ⟨S512x1024, .f32⟩
  | .hbm, ⟨14, _⟩ => ⟨S512x1024, .bf16⟩
  | .hbm, ⟨15, _⟩ => ⟨S8x256x512, .f32⟩
  | .hbm, ⟨16, _⟩ => ⟨S8x256x512, .bf16⟩
  | .hbm, ⟨17, _⟩ => ⟨S8x256x512, .f32⟩
  | .hbm, ⟨18, _⟩ => ⟨S8x256x512, .bf16⟩
  | .hbm, ⟨19, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1024x1024, .bf16⟩
  | .local _ .vmem, ⟨11, _⟩ => ⟨S1x1024, .f32⟩
  | .local _ .vmem, ⟨12, _⟩ => ⟨S1024x512, .bf16⟩
  | .local _ .vmem, ⟨13, _⟩ => ⟨S512x1024, .bf16⟩
  | .local _ .vmem, ⟨14, _⟩ => ⟨S1x1024x1024, .f32⟩
  | .local _ .vmem, ⟨15, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PostRefIdeal.lean ====
abbrev S8x8192x1024 : Shape := ⟨3, ![8, 8192, 1024]⟩
abbrev S8x8192x512 : Shape := ⟨3, ![8, 8192, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x512 : Shape := ⟨2, ![1024, 512]⟩
abbrev S512x1024 : Shape := ⟨2, ![512, 1024]⟩
abbrev S8x8192x4x128 : Shape := ⟨4, ![8, 8192, 4, 128]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x256x4x128, .f32⟩
  | .hbm, ⟨4, _⟩ => ⟨S8x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x512x1024, .f32⟩
  | .hbm, ⟨9, _⟩ => ⟨S8x8192x512, .f32⟩
  | .hbm, ⟨10, _⟩ => ⟨S8x8192x512, .f32⟩
  | .hbm, ⟨11, _⟩ => ⟨S8x8192x1024, .f32⟩
  | .hbm, ⟨12, _⟩ => ⟨S1024x1024, .f32⟩
  | .hbm, ⟨13, _⟩ => ⟨S8x8192x1024, .f32⟩
  | .hbm, ⟨14, _⟩ => ⟨S8x8192x1024, .f32⟩
  | .hbm, ⟨15, _⟩ => ⟨S1024, .f32⟩
  | .hbm, ⟨16, _⟩ => ⟨S8x8192x1024, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S8x8192x1, .f32⟩
  | .hbm, ⟨27, _⟩ => ⟨S8x8192x1024, .f32⟩
  | .hbm, ⟨28, _⟩ => ⟨S8x8192x1024, .f32⟩
  | .hbm, ⟨29, _⟩ => ⟨S1x1x1024, .f32⟩
  | .hbm, ⟨30, _⟩ => ⟨S8x8192x1024, .f32⟩
  | .hbm, ⟨31, _⟩ => ⟨S8x8192x1024, .f32⟩
  | .hbm, ⟨32, _⟩ => ⟨S1024x512, .f32⟩
  | .hbm, ⟨33, _⟩ => ⟨S512x1024, .f32⟩
  | .hbm, ⟨34, _⟩ => ⟨S8x8192x512, .f32⟩
  | .hbm, ⟨35, _⟩ => ⟨S8x8192x4x128, .f32⟩
  | .hbm, ⟨36, _⟩ => ⟨S8x4x8192x256, .f32⟩
  | .hbm, ⟨37, _⟩ => ⟨S_, .f32⟩
  | .hbm, ⟨38, _⟩ => ⟨S8x4x8192x256, .f32⟩
  | .hbm, ⟨39, _⟩ => ⟨S8x4x8192x256, .f32⟩
  | .hbm, ⟨40, _⟩ => ⟨S_, .f32⟩
  | .hbm, ⟨41, _⟩ => ⟨S8x4x8192, .f32⟩
  | .hbm, ⟨42, _⟩ => ⟨S_, .f32⟩
  | .hbm, ⟨43, _⟩ => ⟨S8x4x8192, .f32⟩
  | .hbm, ⟨44, _⟩ => ⟨S8x4x8192, .f32⟩
  | .hbm, ⟨45, _⟩ => ⟨S8x4x8192x1, .f32⟩
  | .hbm, ⟨46, _⟩ => ⟨S8x4x8192x256, .f32⟩
  | .hbm, ⟨47, _⟩ => ⟨S8x4x8192x256, .f32⟩
  | .hbm, ⟨48, _⟩ => ⟨S8x4x8192x256, .f32⟩
  | .hbm, ⟨49, _⟩ => ⟨S_, .f32⟩
  | .hbm, ⟨50, _⟩ => ⟨S8x4x8192, .f32⟩
  | .hbm, ⟨51, _⟩ => ⟨S8x4x8192x1, .f32⟩
  | .hbm, ⟨52, _⟩ => ⟨S8x4x8192x256, .f32⟩
  | .hbm, ⟨53, _⟩ => ⟨S8x4x8192x256, .f32⟩
  | .hbm, ⟨54, _⟩ => ⟨S8x4x128x8192, .f32⟩
  | .hbm, ⟨55, _⟩ => ⟨S8x8192x4x128, .f32⟩
  | .hbm, ⟨56, _⟩ => ⟨S8x8192x512, .f32⟩
  | .hbm, ⟨57, _⟩ => ⟨S8x8192x1024, .f32⟩
  | .hbm, ⟨58, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.MlpValue.lean ====
module

public import proofs.«01_k».proof.Proof.Gen.MlpIdeal.Frame
public import proofs.«01_k».proof.Proof.Gen.MlpRefIdeal.Read
public import Idealize.ShloMosaic.Lib.Pipeline.ValueKit
public import Idealize.ShloMosaic.Lib.Pointwise

@[expose] public section

set_option maxRecDepth 16384
set_option maxHeartbeats 2000000

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (m : (ℓ : Loc nD τ sig) → Buf (Elt Ideal) ℓ)

/-- The block index of every window at grid point `t`: the rows move with the point, the weights stay. -/
theorem idx : ∀ t : Fin cfg0.N, win0_0.index t = ![(grid0.coords t 0).val, 0] ∧ win0_1.index t = ![0, 0]
    ∧ win0_2.index t = ![0, 0] ∧ win0_3.index t = ![0, 0] ∧ win0_4.index t = ![0, 0] ∧ win0_5.index t = ![(grid0.coords t 0).val, 0]
    ∧ (grid0.coords t 0).val = t.val :=
  (by decide +kernel : ∀ t : Fin grid0.N, _)

/-- Row `r` of the input block at point `t` is row `t * 1024 + r` of the flattened input. -/
theorem blk0 (c : Dev nD) (t : Fin cfg0.N) (r : Fin 1024) (k : Fin 1024) (h1 : (t.val * 1024 + r.val) / 8192 < 8) (h2 : (t.val * 1024 + r.val) % 8192 < 8192) :
    (iblk m c 0 t : FVec Ideal S1024x1024 .f32) (ix2 r k) = (m ((c : Thread nD τ).loc main_arg0) : FVec Ideal S8x8192x1024 .f32) (ix3 ⟨(t.val * 1024 + r.val) / 8192, h1⟩ ⟨(t.val * 1024 + r.val) % 8192, h2⟩ k) := by
  blk_simp [iblk, idx t]
  entry_read
  pointwise
  blk_ext [idx t]

/-- The staged gain of the first norm is the argument. -/
theorem blk1 (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  blk_ext [iblk, V, idx t]

/-- The staged up-projection is the argument's only slab. -/
theorem blk2 (c : Dev nD) (t : Fin cfg0.N) (r : Fin 1024) (k : Fin 4096) :
    (iblk m c 2 t : FVec Ideal S1024x4096 .bf16) (ix2 r k) = (m ((c : Thread nD τ).loc main_arg2) : FVec Ideal S1x1024x4096 .f32) (ix3 0 r k) := by
  blk_simp [iblk, idx t]
  entry_read
  pointwise
  blk_ext [idx t]

/-- The staged down-projection is the argument's only slab. -/
theorem blk3 (c : Dev nD) (t : Fin cfg0.N) (r : Fin 4096) (k : Fin 1024) :
    (iblk m c 3 t : FVec Ideal S4096x1024 .bf16) (ix2 r k) = (m ((c : Thread nD τ).loc main_arg3) : FVec Ideal S1x4096x1024 .f32) (ix3 0 r k) := by
  blk_simp [iblk, idx t]
  entry_read
  pointwise
  blk_ext [idx t]

/-- The staged gain of the last norm is the argument. -/
theorem blk4 (c : Dev nD) (t : Fin cfg0.N) (k : Fin 1024) :
    (iblk m c 4 t : FVec Ideal S1x1024 .f32) (ix2 0 k) = (m ((c : Thread nD τ).loc main_arg4) : FVec Ideal S1024 .f32) (ix1 k) := by
  blk_simp [iblk, idx t]
  entry_read
  pointwise
  blk_ext [idx t]

/-- Entry `(a, b)` of the output block at point `t` is entry `(t * 1024 + a, b)` of the result. -/
theorem emb5 (t : Fin cfg0.N) (a : Fin 1024) (b : Fin 1024) (hb : t.val * 1024 + a.val < 65536) :
    (((cfg0.win 5).blk t).view.emb (ix2 a b) : S65536x1024.Idx) = ix2 ⟨t.val * 1024 + a.val, hb⟩ b := by
  blk_ext [idx t]

/-- A sum over 4096 hidden columns, panel by panel. -/
theorem panels (f : Fin 4096 → EReal) :
    ∑ k : Fin 4096, f k = (∑ k : Fin 1024, f ⟨k.val, by omega⟩) + ((∑ k : Fin 1024, f ⟨1024 + k.val, by omega⟩)
      + ((∑ k : Fin 1024, f ⟨2048 + k.val, by omega⟩) + ∑ k : Fin 1024, f ⟨3072 + k.val, by omega⟩)) := by
  rw [Fin.sum_univ_tiles 4 1024 rfl, Fin.sum_univ_four, add_assoc, add_assoc]
  simp

/-- One entry of the stored block is the layer's value at that row and column. -/
theorem point5 (c : Dev nD) (t : Fin cfg0.N) (y : S1024x1024.Idx) :
    k0_pay4 (F := Ideal) (k0_pay2 (iblk m c 0 t) (iblk m c 1 t))
      (k0_pay3 (iblk m c 0 t) (iblk m c 1 t) (View.ld (iblk m c 2 t) r0_2) (View.ld (iblk m c 3 t) r0_3) (View.ld (iblk m c 2 t) r0_4) (View.ld (iblk m c 3 t) r0_5))
      (View.ld (iblk m c 2 t) r0_6) (View.ld (iblk m c 3 t) r0_7) (View.ld (iblk m c 2 t) r0_8) (View.ld (iblk m c 3 t) r0_9) (iblk m c 4 t) y
    = Cert.MlpRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  idx_vars y
  have ht : t.val < 64 := t.isLt
  have hb : t.val * 1024 + y0.val < 65536 := by omega
  rw [emb5 t y0 y1 hb]
  have e0 := fun k => blk0 m c t y0 k (by omega) (by omega)
  have e1 := blk1 m c t
  have e2 := blk2 m c t
  have e3 := blk3 m c t
  have e4 := blk4 m c t
  generalize (iblk m c 0 t : FVec Ideal S1024x1024 .f32) = X at e0 ⊢
  generalize (iblk m c 1 t : FVec Ideal S1x1024 .f32) = G at e1 ⊢
  generalize (iblk m c 2 t : FVec Ideal S1024x4096 .bf16) = U at e2 ⊢
  generalize (iblk m c 3 t : FVec Ideal S4096x1024 .bf16) = D at e3 ⊢
  generalize (iblk m c 4 t : FVec Ideal S1x1024 .f32) = H at e4 ⊢
  generalize (m ((c : Thread nD τ).loc main_arg0) : FVec Ideal S8x8192x1024 .f32) = A0 at e0 ⊢
  generalize (m ((c : Thread nD τ).loc main_arg1) : FVec Ideal S1x1024 .f32) = A1 at e1 ⊢
  generalize (m ((c : Thread nD τ).loc main_arg2) : FVec Ideal S1x1024x4096 .f32) = A2 at e2 ⊢
  generalize (m ((c : Thread nD τ).loc main_arg3) : FVec Ideal S1x4096x1024 .f32) = A3 at e3 ⊢
  generalize (m ((c : Thread nD τ).loc main_arg4) : FVec Ideal S1024 .f32) = A4 at e4 ⊢
  pointwise [k0_pay4, k0_pay3, k0_pay2, k0_pay1, Cert.MlpRefIdeal.Read.val_main_v0, Cert.MlpRefIdeal.Read.val_main_v1, Cert.MlpRefIdeal.Read.val_main_cst, Cert.MlpRefIdeal.Read.val_main_v2, Cert.MlpRefIdeal.Read.val_main_v3, Cert.MlpRefIdeal.Read.val_main_cst_0, Cert.MlpRefIdeal.Read.val_main_v4, Cert.MlpRefIdeal.Read.val_main_v5, Cert.MlpRefIdeal.Read.val_main_cst_1, Cert.MlpRefIdeal.Read.val_main_v6, Cert.MlpRefIdeal.Read.val_main_v7, Cert.MlpRefIdeal.Read.val_main_v8, Cert.MlpRefIdeal.Read.val_main_v9, Cert.MlpRefIdeal.Read.val_main_v10, Cert.MlpRefIdeal.Read.val_main_v11, Cert.MlpRefIdeal.Read.val_main_v12, Cert.MlpRefIdeal.Read.val_main_v13, Cert.MlpRefIdeal.Read.val_main_v14, Cert.MlpRefIdeal.Read.val_main_v15, Cert.MlpRefIdeal.Read.val_main_call0_cst, Cert.MlpRefIdeal.Read.val_main_call0_v0, Cert.MlpRefIdeal.Read.val_main_v16, Cert.MlpRefIdeal.Read.val_main_v17, Cert.MlpRefIdeal.Read.val_main_v18, Cert.MlpRefIdeal.Read.val_main_v19, Cert.MlpRefIdeal.Read.val_main_v20, Cert.MlpRefIdeal.Read.val_main_v21, Cert.MlpRefIdeal.Read.val_main_cst_2, Cert.MlpRefIdeal.Read.val_main_v22, Cert.MlpRefIdeal.Read.val_main_v23, Cert.MlpRefIdeal.Read.val_main_cst_3, Cert.MlpRefIdeal.Read.val_main_v24, Cert.MlpRefIdeal.Read.val_main_v25, Cert.MlpRefIdeal.Read.val_main_cst_4, Cert.MlpRefIdeal.Read.val_main_v26, Cert.MlpRefIdeal.Read.val_main_v27, Cert.MlpRefIdeal.Read.val_main_v28, Cert.MlpRefIdeal.Read.val_main_v29, Cert.MlpRefIdeal.Read.val_main_v30, Cert.MlpRefIdeal.Read.val_main_v31, Cert.MlpRefIdeal.Read.val_main_v32, Cert.MlpRefIdeal.Read.val_main_v33, Cert.MlpRefIdeal.Read.val_main_v34]
  simp only [panels, e0, e1, e2, e3, e4, add_assoc]

/-- The result array of the call is the layer's value at every entry. -/
theorem final5 (c : Dev nD) : (dats m 0 c).arrAt 5 (cfgs 0).N = Cert.MlpRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point5 m c t y

end Cert.MlpIdeal.Value
-- ==== Proof.MemKvValue.lean ====
module

public import proofs.«01_k».proof.Proof.Gen.MemKvIdeal.Frame
public import proofs.«01_k».proof.Proof.Gen.MemKvRefIdeal.Read
public import Idealize.ShloMosaic.Lib.Pipeline.ValueKit
public import Idealize.ShloMosaic.Lib.Pointwise

@[expose] public section

set_option maxRecDepth 16384
set_option maxHeartbeats 400000

noncomputable section

open Idealize.ShloMosaic Idealize.ShloMosaic.TcCoe Idealize.SL.Sem
open Idealize.ShloMosaic.Pipeline (Dat)

namespace Cert.MemKvIdeal.Value

open Cert.MemKvIdeal Cert.MemKvIdeal.Gen

variable (m : (ℓ : Loc nD τ sig) → Buf (Elt Ideal) ℓ)

/-- The block index of every window at grid point `t`: the rows move with the point, the gain and the weights stay. -/
theorem idx : ∀ t : Fin cfg0.N, win0_0.index t = ![(grid0.coords t 0).val, 0] ∧ win0_1.index t = ![0, 0]
    ∧ win0_2.index t = ![0, 0] ∧ win0_3.index t = ![(grid0.coords t 0).val, 0, 0] ∧ win0_4.index t = ![(grid0.coords t 0).val, 0, 0]
    ∧ (grid0.coords t 0).val = t.val :=
  (by decide +kernel : ∀ t : Fin grid0.N, _)

/-- Row `r` of the input block at point `t` is row `t * 512 + r` of the flattened memory. -/
theorem blk0 (c : Dev nD) (t : Fin cfg0.N) (r : Fin 512) (k : Fin 1024) (h1 : (t.val * 512 + r.val) / 256 < 8) (h2 : (t.val * 512 + r.val) % 256 < 256) :
    (iblk m c 0 t : FVec Ideal S512x1024 .f32) (ix2 r k) = (m ((c : Thread nD τ).loc main_arg0) : FVec Ideal S8x256x1024 .f32) (ix3 ⟨(t.val * 512 + r.val) / 256, h1⟩ ⟨(t.val * 512 + r.val) % 256, h2⟩ k) := by
  blk_simp [iblk, idx t]
  entry_read
  pointwise
  blk_ext [idx t]

/-- The staged weight is the argument's only slab. -/
theorem blk2 (c : Dev nD) (t : Fin cfg0.N) (r : Fin 1024) (k : Fin 1024) :
    (iblk m c 2 t : FVec Ideal S1024x1024 .bf16) (ix2 r k) = (m ((c : Thread nD τ).loc main_arg2) : FVec Ideal S1x1024x1024 .f32) (ix3 0 r k) := by
  blk_simp [iblk, idx t]
  entry_read
  pointwise
  blk_ext [idx t]

/-- The staged gain is the argument. -/
theorem blk1 (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  blk_ext [iblk, V, idx t]

/-- Entry `(a, h, d)` of the key block at point `t` is entry `(t * 512 + a, h, d)` of the keys. -/
theorem emb3 (t : Fin cfg0.N) (a : Fin 512) (h : Fin 4) (d : Fin 128) (hb : t.val * 512 + a.val < 2048) :
    (((cfg0.win 3).blk t).view.emb (ix3 a h d) : S2048x4x128.Idx) = ix3 ⟨t.val * 512 + a.val, hb⟩ h d := by
  blk_ext [idx t]

/-- One entry of the stored key block is the reference key there. -/
theorem point3 (c : Dev nD) (t : Fin cfg0.N) (y : S512x4x128.Idx) :
    k0_pay4 (F := Ideal) (iblk m c 0 t) (iblk m c 1 t) (iblk m c 2 t) y
    = Cert.MemKvRefIdeal.Read.val_main_v18 (F := Ideal) (m ((c : Thread nD τ).loc main_arg0)) (m ((c : Thread nD τ).loc main_arg1)) (m ((c : Thread nD τ).loc main_arg2)) (((cfg0.win 3).blk t).view.emb y) := by
  idx_vars y
  have ht : t.val < 4 := t.isLt
  have hb : t.val * 512 + y0.val < 2048 := by omega
  rw [emb3 t y0 y1 y2 hb]
  have e0 := fun k => blk0 m c t y0 k (by omega) (by omega)
  have e1 := blk1 m c t
  have e2 := blk2 m c t
  generalize (iblk m c 0 t : FVec Ideal S512x1024 .f32) = X at e0 ⊢
  generalize (iblk m c 1 t : FVec Ideal S1x1024 .f32) = G at e1 ⊢
  generalize (iblk m c 2 t : FVec Ideal S1024x1024 .bf16) = W at e2 ⊢
  generalize (m ((c : Thread nD τ).loc main_arg0) : FVec Ideal S8x256x1024 .f32) = A0 at e0 ⊢
  generalize (m ((c : Thread nD τ).loc main_arg1) : FVec Ideal S1x1024 .f32) = A1 at e1 ⊢
  generalize (m ((c : Thread nD τ).loc main_arg2) : FVec Ideal S1x1024x1024 .f32) = A2 at e2 ⊢
  pointwise [k0_pay4, k0_pay1, Cert.MemKvRefIdeal.Read.val_main_v0, Cert.MemKvRefIdeal.Read.val_main_v1, Cert.MemKvRefIdeal.Read.val_main_cst, Cert.MemKvRefIdeal.Read.val_main_v2, Cert.MemKvRefIdeal.Read.val_main_v3, Cert.MemKvRefIdeal.Read.val_main_cst_0, Cert.MemKvRefIdeal.Read.val_main_v4, Cert.MemKvRefIdeal.Read.val_main_v5, Cert.MemKvRefIdeal.Read.val_main_cst_1, Cert.MemKvRefIdeal.Read.val_main_v6, Cert.MemKvRefIdeal.Read.val_main_v7, Cert.MemKvRefIdeal.Read.val_main_v8, Cert.MemKvRefIdeal.Read.val_main_v9, Cert.MemKvRefIdeal.Read.val_main_v10, Cert.MemKvRefIdeal.Read.val_main_v11, Cert.MemKvRefIdeal.Read.val_main_v12, Cert.MemKvRefIdeal.Read.val_main_v13, Cert.MemKvRefIdeal.Read.val_main_v14, Cert.MemKvRefIdeal.Read.val_main_v15, Cert.MemKvRefIdeal.Read.val_main_v16, Cert.MemKvRefIdeal.Read.val_main_v17, Cert.MemKvRefIdeal.Read.val_main_v18, Cert.MemKvRefIdeal.Read.val_main_v19]
  simp only [e0, e1, e2]

/-- The key array is the reference keys. -/
theorem final3 (c : Dev nD) : (dats m 0 c).arrAt 3 (cfgs 0).N
    = Cert.MemKvRefIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

/-- Entry `(a, h, d)` of the value block at point `t` is entry `(t * 512 + a, h, d)` of the values. -/
theorem emb4 (t : Fin cfg0.N) (a : Fin 512) (h : Fin 4) (d : Fin 128) (hb : t.val * 512 + a.val < 2048) :
    (((cfg0.win 4).blk t).view.emb (ix3 a h d) : S2048x4x128.Idx) = ix3 ⟨t.val * 512 + a.val, hb⟩ h d := by
  blk_ext [idx t]

/-- One entry of the stored value block is the reference value there. -/
theorem point4 (c : Dev nD) (t : Fin cfg0.N) (y : S512x4x128.Idx) :
    k0_pay5 (F := Ideal) (iblk m c 0 t) (iblk m c 1 t) (iblk m c 2 t) y
    = Cert.MemKvRefIdeal.Read.val_main_v19 (F := Ideal) (m ((c : Thread nD τ).loc main_arg0)) (m ((c : Thread nD τ).loc main_arg1)) (m ((c : Thread nD τ).loc main_arg2)) (((cfg0.win 4).blk t).view.emb y) := by
  idx_vars y
  have ht : t.val < 4 := t.isLt
  have hb : t.val * 512 + y0.val < 2048 := by omega
  rw [emb4 t y0 y1 y2 hb]
  have e0 := fun k => blk0 m c t y0 k (by omega) (by omega)
  have e1 := blk1 m c t
  have e2 := blk2 m c t
  generalize (iblk m c 0 t : FVec Ideal S512x1024 .f32) = X at e0 ⊢
  generalize (iblk m c 1 t : FVec Ideal S1x1024 .f32) = G at e1 ⊢
  generalize (iblk m c 2 t : FVec Ideal S1024x1024 .bf16) = W at e2 ⊢
  generalize (m ((c : Thread nD τ).loc main_arg0) : FVec Ideal S8x256x1024 .f32) = A0 at e0 ⊢
  generalize (m ((c : Thread nD τ).loc main_arg1) : FVec Ideal S1x1024 .f32) = A1 at e1 ⊢
  generalize (m ((c : Thread nD τ).loc main_arg2) : FVec Ideal S1x1024x1024 .f32) = A2 at e2 ⊢
  pointwise [k0_pay5, k0_pay1, Cert.MemKvRefIdeal.Read.val_main_v0, Cert.MemKvRefIdeal.Read.val_main_v1, Cert.MemKvRefIdeal.Read.val_main_cst, Cert.MemKvRefIdeal.Read.val_main_v2, Cert.MemKvRefIdeal.Read.val_main_v3, Cert.MemKvRefIdeal.Read.val_main_cst_0, Cert.MemKvRefIdeal.Read.val_main_v4, Cert.MemKvRefIdeal.Read.val_main_v5, Cert.MemKvRefIdeal.Read.val_main_cst_1, Cert.MemKvRefIdeal.Read.val_main_v6, Cert.MemKvRefIdeal.Read.val_main_v7, Cert.MemKvRefIdeal.Read.val_main_v8, Cert.MemKvRefIdeal.Read.val_main_v9, Cert.MemKvRefIdeal.Read.val_main_v10, Cert.MemKvRefIdeal.Read.val_main_v11, Cert.MemKvRefIdeal.Read.val_main_v12, Cert.MemKvRefIdeal.Read.val_main_v13, Cert.MemKvRefIdeal.Read.val_main_v14, Cert.MemKvRefIdeal.Read.val_main_v15, Cert.MemKvRefIdeal.Read.val_main_v16, Cert.MemKvRefIdeal.Read.val_main_v17, Cert.MemKvRefIdeal.Read.val_main_v18, Cert.MemKvRefIdeal.Read.val_main_v19]
  simp only [e0, e1, e2]

/-- The value array is the reference values. -/
theorem final4 (c : Dev nD) : (dats m 0 c).arrAt 4 (cfgs 0).N
    = Cert.MemKvRefIdeal.Read.val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

end Cert.MemKvIdeal.Value
-- ==== Proof.MlpSValue.lean ====
module

public import proofs.«01_k».proof.Proof.Gen.MlpSIdeal.Frame
public import proofs.«01_k».proof.Proof.Gen.MlpSRefIdeal.Read
public import Idealize.ShloMosaic.Lib.Pipeline.ValueKit
public import Idealize.ShloMosaic.Lib.Pointwise

@[expose] public section

set_option maxRecDepth 16384
set_option maxHeartbeats 2000000

noncomputable section

open Idealize.ShloMosaic Idealize.ShloMosaic.TcCoe Idealize.SL.Sem
open Idealize.ShloMosaic.Pipeline (Dat)

namespace Cert.MlpSIdeal.Value

open Cert.MlpSIdeal Cert.MlpSIdeal.Gen

variable (m : (ℓ : Loc nD τ sig) → Buf (Elt Ideal) ℓ)

/-- The block index of every window at grid point `t`: the rows move with the point, the weights stay. -/
theorem idx : ∀ t : Fin cfg0.N, win0_0.index t = ![(grid0.coords t 0).val, 0] ∧ win0_1.index t = ![0, 0]
    ∧ win0_2.index t = ![0, 0] ∧ win0_3.index t = ![0, 0] ∧ win0_4.index t = ![0, 0] ∧ win0_5.index t = ![(grid0.coords t 0).val, 0]
    ∧ (grid0.coords t 0).val = t.val :=
  (by decide +kernel : ∀ t : Fin grid0.N, _)

/-- Row `r` of the input block at point `t` is row `t * 512 + r` of the flattened input. -/
theorem blk0 (c : Dev nD) (t : Fin cfg0.N) (r : Fin 512) (k : Fin 1024) (h1 : (t.val * 512 + r.val) / 32 < 16) (h2 : (t.val * 512 + r.val) % 32 < 32) :
    (iblk m c 0 t : FVec Ideal S512x1024 .f32) (ix2 r k) = (m ((c : Thread nD τ).loc main_arg0) : FVec Ideal S16x32x1024 .f32) (ix3 ⟨(t.val * 512 + r.val) / 32, h1⟩ ⟨(t.val * 512 + r.val) % 32, h2⟩ k) := by
  blk_simp [iblk, idx t]
  entry_read
  pointwise
  blk_ext [idx t]

/-- The staged gain of the first norm is the argument. -/
theorem blk1 (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  blk_ext [iblk, V, idx t]

/-- The staged up-projection is the argument's only slab. -/
theorem blk2 (c : Dev nD) (t : Fin cfg0.N) (r : Fin 1024) (k : Fin 4096) :
    (iblk m c 2 t : FVec Ideal S1024x4096 .bf16) (ix2 r k) = (m ((c : Thread nD τ).loc main_arg2) : FVec Ideal S1x1024x4096 .f32) (ix3 0 r k) := by
  blk_simp [iblk, idx t]
  entry_read
  pointwise
  blk_ext [idx t]

/-- The staged down-projection is the argument's only slab. -/
theorem blk3 (c : Dev nD) (t : Fin cfg0.N) (r : Fin 4096) (k : Fin 1024) :
    (iblk m c 3 t : FVec Ideal S4096x1024 .bf16) (ix2 r k) = (m ((c : Thread nD τ).loc main_arg3) : FVec Ideal S1x4096x1024 .f32) (ix3 0 r k) := by
  blk_simp [iblk, idx t]
  entry_read
  pointwise
  blk_ext [idx t]

/-- The staged gain of the last norm is the argument. -/
theorem blk4 (c : Dev nD) (t : Fin cfg0.N) (k : Fin 1024) :
    (iblk m c 4 t : FVec Ideal S1x1024 .f32) (ix2 0 k) = (m ((c : Thread nD τ).loc main_arg4) : FVec Ideal S1024 .f32) (ix1 k) := by
  blk_simp [iblk, idx t]
  entry_read
  pointwise
  blk_ext [idx t]

/-- Entry `(a, b)` of the output block at point `t` is entry `(t * 1024 + a, b)` of the result. -/
theorem emb5 (t : Fin cfg0.N) (a : Fin 512) (b : Fin 1024) (hb : t.val * 512 + a.val < 512) :
    (((cfg0.win 5).blk t).view.emb (ix2 a b) : S512x1024.Idx) = ix2 ⟨t.val * 512 + a.val, hb⟩ b := by
  blk_ext [idx t]

/-- A sum over 4096 hidden columns, panel by panel. -/
theorem panels (f : Fin 4096 → EReal) :
    ∑ k : Fin 4096, f k = (∑ k : Fin 1024, f ⟨k.val, by omega⟩) + ((∑ k : Fin 1024, f ⟨1024 + k.val, by omega⟩)
      + ((∑ k : Fin 1024, f ⟨2048 + k.val, by omega⟩) + ∑ k : Fin 1024, f ⟨3072 + k.val, by omega⟩)) := by
  rw [Fin.sum_univ_tiles 4 1024 rfl, Fin.sum_univ_four, add_assoc, add_assoc]
  simp

/-- One entry of the stored block is the layer's value at that row and column. -/
theorem point5 (c : Dev nD) (t : Fin cfg0.N) (y : S512x1024.Idx) :
    k0_pay4 (F := Ideal) (k0_pay2 (iblk m c 0 t) (iblk m c 1 t))
      (k0_pay3 (iblk m c 0 t) (iblk m c 1 t) (View.ld (iblk m c 2 t) r0_2) (View.ld (iblk m c 3 t) r0_3) (View.ld (iblk m c 2 t) r0_4) (View.ld (iblk m c 3 t) r0_5))
      (View.ld (iblk m c 2 t) r0_6) (View.ld (iblk m c 3 t) r0_7) (View.ld (iblk m c 2 t) r0_8) (View.ld (iblk m c 3 t) r0_9) (iblk m c 4 t) y
    = Cert.MlpSRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  idx_vars y
  have ht : t.val < 1 := t.isLt
  have hb : t.val * 512 + y0.val < 512 := by omega
  rw [emb5 t y0 y1 hb]
  have e0 := fun k => blk0 m c t y0 k (by omega) (by omega)
  have ht0 : t.val = 0 := by omega
  simp only [ht0, Nat.zero_mul, Nat.zero_add] at e0
  have e1 := blk1 m c t
  have e2 := blk2 m c t
  have e3 := blk3 m c t
  have e4 := blk4 m c t
  generalize (iblk m c 0 t : FVec Ideal S512x1024 .f32) = X at e0 ⊢
  generalize (iblk m c 1 t : FVec Ideal S1x1024 .f32) = G at e1 ⊢
  generalize (iblk m c 2 t : FVec Ideal S1024x4096 .bf16) = U at e2 ⊢
  generalize (iblk m c 3 t : FVec Ideal S4096x1024 .bf16) = D at e3 ⊢
  generalize (iblk m c 4 t : FVec Ideal S1x1024 .f32) = H at e4 ⊢
  generalize (m ((c : Thread nD τ).loc main_arg0) : FVec Ideal S16x32x1024 .f32) = A0 at e0 ⊢
  generalize (m ((c : Thread nD τ).loc main_arg1) : FVec Ideal S1x1024 .f32) = A1 at e1 ⊢
  generalize (m ((c : Thread nD τ).loc main_arg2) : FVec Ideal S1x1024x4096 .f32) = A2 at e2 ⊢
  generalize (m ((c : Thread nD τ).loc main_arg3) : FVec Ideal S1x4096x1024 .f32) = A3 at e3 ⊢
  generalize (m ((c : Thread nD τ).loc main_arg4) : FVec Ideal S1024 .f32) = A4 at e4 ⊢
  pointwise [k0_pay4, k0_pay3, k0_pay2, k0_pay1, Cert.MlpSRefIdeal.Read.val_main_v0, Cert.MlpSRefIdeal.Read.val_main_v1, Cert.MlpSRefIdeal.Read.val_main_cst, Cert.MlpSRefIdeal.Read.val_main_v2, Cert.MlpSRefIdeal.Read.val_main_v3, Cert.MlpSRefIdeal.Read.val_main_cst_0, Cert.MlpSRefIdeal.Read.val_main_v4, Cert.MlpSRefIdeal.Read.val_main_v5, Cert.MlpSRefIdeal.Read.val_main_cst_1, Cert.MlpSRefIdeal.Read.val_main_v6, Cert.MlpSRefIdeal.Read.val_main_v7, Cert.MlpSRefIdeal.Read.val_main_v8, Cert.MlpSRefIdeal.Read.val_main_v9, Cert.MlpSRefIdeal.Read.val_main_v10, Cert.MlpSRefIdeal.Read.val_main_v11, Cert.MlpSRefIdeal.Read.val_main_v12, Cert.MlpSRefIdeal.Read.val_main_v13, Cert.MlpSRefIdeal.Read.val_main_v14, Cert.MlpSRefIdeal.Read.val_main_v15, Cert.MlpSRefIdeal.Read.val_main_call0_cst, Cert.MlpSRefIdeal.Read.val_main_call0_v0, Cert.MlpSRefIdeal.Read.val_main_v16, Cert.MlpSRefIdeal.Read.val_main_v17, Cert.MlpSRefIdeal.Read.val_main_v18, Cert.MlpSRefIdeal.Read.val_main_v19, Cert.MlpSRefIdeal.Read.val_main_v20, Cert.MlpSRefIdeal.Read.val_main_v21, Cert.MlpSRefIdeal.Read.val_main_cst_2, Cert.MlpSRefIdeal.Read.val_main_v22, Cert.MlpSRefIdeal.Read.val_main_v23, Cert.MlpSRefIdeal.Read.val_main_cst_3, Cert.MlpSRefIdeal.Read.val_main_v24, Cert.MlpSRefIdeal.Read.val_main_v25, Cert.MlpSRefIdeal.Read.val_main_cst_4, Cert.MlpSRefIdeal.Read.val_main_v26, Cert.MlpSRefIdeal.Read.val_main_v27, Cert.MlpSRefIdeal.Read.val_main_v28, Cert.MlpSRefIdeal.Read.val_main_v29, Cert.MlpSRefIdeal.Read.val_main_v30, Cert.MlpSRefIdeal.Read.val_main_v31, Cert.MlpSRefIdeal.Read.val_main_v32, Cert.MlpSRefIdeal.Read.val_main_v33, Cert.MlpSRefIdeal.Read.val_main_v34]
  simp only [panels, e0, e1, e2, e3, e4, add_assoc]

/-- The result array of the call is the layer's value at every entry. -/
theorem final5 (c : Dev nD) : (dats m 0 c).arrAt 5 (cfgs 0).N = Cert.MlpSRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point5 m c t y

end Cert.MlpSIdeal.Value
-- ==== Proof.ProjSBlocks.lean ====
module

public import proofs.«01_k».proof.Proof.Gen.ProjSIdeal.Frame
public import proofs.«01_k».proof.Proof.Gen.ProjSRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- The block index of every window read here at the only grid point. -/
theorem idx : ∀ t : Fin cfg0.N, win0_0.index t = ![0, 0] ∧ win0_1.index t = ![0, 0] ∧ win0_2.index t = ![0, 0]
    ∧ win0_6.index t = ![0, 0] ∧ win0_7.index t = ![0, 0] ∧ win0_8.index t = ![0, 0]
    ∧ win0_9.index t = ![0, 0] ∧ win0_10.index t = ![0, 0] ∧ win0_13.index t = ![0, 0, 0] ∧ win0_15.index t = ![0, 0, 0] :=
  (by decide +kernel : ∀ t : Fin grid0.N, _)

/-- Row `r` of the input block is row `r` of the flattened input. -/
theorem blk0 (c : Dev nD) (t : Fin cfg0.N) (r : Fin 512) (k : Fin 1024) (h1 : r.val / 32 < 16) (h2 : r.val % 32 < 32) :
    (iblk m c 0 t : FVec Ideal S512x1024 .f32) (ix2 r k) = (m ((c : Thread nD τ).loc main_arg0) : FVec Ideal S16x32x1024 .f32) (ix3 ⟨r.val / 32, h1⟩ ⟨r.val % 32, h2⟩ k) := by
  blk_simp [iblk, idx t]
  entry_read
  pointwise
  blk_ext [idx t]

/-- The staged gain is the argument. -/
theorem blk1 (c : Dev nD) (t : Fin cfg0.N) (k : Fin 1024) :
    (iblk m c 1 t : FVec Ideal S1x1024 .f32) (ix2 0 k) = (m ((c : Thread nD τ).loc main_arg3) : FVec Ideal S1x1024 .f32) (ix2 0 k) := by
  blk_ext [iblk, V, idx t]

/-- The staged weight is one array. -/
theorem at2 (c : Dev nD) (t : Fin cfg0.N) (r : Fin 1024) (k : Fin 3584) :
    (iblk m c 2 t : FVec Ideal S1024x3584 .bf16) (ix2 r k) = (V m c main_v24 : FVec Ideal S1024x3584 .bf16) (ix2 r k) := by
  blk_ext [iblk, idx t]

/-- The first 2048 columns of the staged weight are the argument's. -/
theorem blk2a (c : Dev nD) (t : Fin cfg0.N) (r : Fin 1024) (k : Fin 2048) :
    (iblk m c 2 t : FVec Ideal S1024x3584 .bf16) (ix2 r ⟨k.val, by omega⟩) = (m ((c : Thread nD τ).loc main_arg4) : FVec Ideal S1x1024x3592 .f32) (ix3 0 r ⟨k.val, by omega⟩) := by
  rw [at2]
  entry_read
  pointwise

/-- The columns after the first 2048 of the staged weight are the argument's, past the eight gate columns. -/
theorem blk2b (c : Dev nD) (t : Fin cfg0.N) (r : Fin 1024) (k : Fin 1536) :
    (iblk m c 2 t : FVec Ideal S1024x3584 .bf16) (ix2 r ⟨2048 + k.val, by omega⟩) = (m ((c : Thread nD τ).loc main_arg4) : FVec Ideal S1x1024x3592 .f32) (ix3 0 r ⟨2056 + k.val, by omega⟩) := by
  rw [at2]
  entry_read
  pointwise

/-- Entry `(a, b)` of the first output block is entry `(a, b)` of the result. -/
theorem emb9 (t : Fin cfg0.N) (a : Fin 512) (b : Fin 1536) (hb : a.val < 512) :
    (((cfg0.win 9).blk t).view.emb (ix2 a b) : S512x1536.Idx) = ix2 ⟨a.val, hb⟩ b := by
  blk_ext [idx t]

/-- Entry `(a, h, b)` of the key block is entry `(a, h, b)` of the keys. -/
theorem emb13 (t : Fin cfg0.N) (a : Fin 512) (h : Fin 4) (b : Fin 128) (hb : a.val < 512) :
    (((cfg0.win 13).blk t).view.emb (ix3 a h b) : S512x4x128.Idx) = ix3 ⟨a.val, hb⟩ h b := by
  blk_ext [idx t]

/-- The part of a head's table no angle rotates holds zeros. -/
theorem tab1 (c : Dev nD) (p : Fin 32) (j : Fin 48) : (V m c main_v1 : FVec Ideal S32x48 .f32) (ix2 p j) = (0 : EReal) := by
  unfold V
  after_results
  pointwise

/-- The other half of a head's rotated part holds zeros. -/
theorem tab0 (c : Dev nD) (p : Fin 32) (j : Fin 8) : (V m c main_v0 : FVec Ideal S32x8 .f32) (ix2 p j) = (0 : EReal) := by
  unfold V
  after_results
  pointwise

/-- The cosines of the part no angle rotates are ones. -/
theorem tab3 (c : Dev nD) (p : Fin 32) (j : Fin 48) : (V m c main_v3 : FVec Ideal S32x48 .f32) (ix2 p j) = (1 : EReal) := by
  unfold V
  after_results
  pointwise

/-- The negated sines. -/
theorem tab5 (c : Dev nD) (p : Fin 32) (j : Fin 8) : (V m c main_v5 : FVec Ideal S32x8 .f32) (ix2 p j) = Neg.neg (α := EReal) ((m ((c : Thread nD τ).loc main_arg2) : FVec Ideal S32x8 .f32) (ix2 p j)) := by
  unfold V
  after_results
  pointwise

/-- One head of the cosine table is the cosines twice, then ones. -/
theorem tab4 (c : Dev nD) : (V m c main_v4 : FVec Ideal S32x64 .f32) = concatenate S32x64 1
      [⟨S32x8, (m ((c : Thread nD τ).loc main_arg1) : FVec Ideal S32x8 .f32)⟩, ⟨S32x8, (m ((c : Thread nD τ).loc main_arg1) : FVec Ideal S32x8 .f32)⟩, ⟨S32x48, (V m c main_v3 : FVec Ideal S32x48 .f32)⟩]
      concatenates_S32x8_S32x8_S32x48_S32x64_d1 := by
  unfold V
  after_results
  rfl

/-- One head of the first sine table is the negated sines, then zeros. -/
theorem tab6 (c : Dev nD) : (V m c main_v6 : FVec Ideal S32x64 .f32) = concatenate S32x64 1
      [⟨S32x8, (V m c main_v5 : FVec Ideal S32x8 .f32)⟩, ⟨S32x8, (V m c main_v0 : FVec Ideal S32x8 .f32)⟩, ⟨S32x48, (V m c main_v1 : FVec Ideal S32x48 .f32)⟩]
      concatenates_S32x8_S32x8_S32x48_S32x64_d1 := by
  unfold V
  after_results
  rfl

/-- One head of the second sine table is zeros, the sines, and zeros. -/
theorem tab7 (c : Dev nD) : (V m c main_v7 : FVec Ideal S32x64 .f32) = concatenate S32x64 1
      [⟨S32x8, (V m c main_v0 : FVec Ideal S32x8 .f32)⟩, ⟨S32x8, (m ((c : Thread nD τ).loc main_arg2) : FVec Ideal S32x8 .f32)⟩, ⟨S32x48, (V m c main_v1 : FVec Ideal S32x48 .f32)⟩]
      concatenates_S32x8_S32x8_S32x48_S32x64_d1 := by
  unfold V
  after_results
  rfl

/-- Each table is two heads side by side. -/
theorem tabs2 (c : Dev nD) :
    (V m c main_v8 : FVec Ideal S32x128 .f32) = concatenate S32x128 1 [⟨S32x64, (V m c main_v4 : FVec Ideal S32x64 .f32)⟩, ⟨S32x64, (V m c main_v4 : FVec Ideal S32x64 .f32)⟩] concatenates_S32x64_S32x64_S32x128_d1
    ∧ (V m c main_v9 : FVec Ideal S32x128 .f32) = concatenate S32x128 1 [⟨S32x64, (V m c main_v6 : FVec Ideal S32x64 .f32)⟩, ⟨S32x64, (V m c main_v6 : FVec Ideal S32x64 .f32)⟩] concatenates_S32x64_S32x64_S32x128_d1
    ∧ (V m c main_v10 : FVec Ideal S32x128 .f32) = concatenate S32x128 1 [⟨S32x64, (V m c main_v7 : FVec Ideal S32x64 .f32)⟩, ⟨S32x64, (V m c main_v7 : FVec Ideal S32x64 .f32)⟩] concatenates_S32x64_S32x64_S32x128_d1 := by
  refine ⟨?_, ?_, ?_⟩ <;> (unfold V; after_results)

/-- Two equal halves side by side are read at the column of a half. -/
theorem halves (f : FVec Ideal S32x64 .f32) (p : Fin 32) (j : Fin 128) (hj : j.val % 64 < 64) :
    (concatenate S32x128 1 [⟨S32x64, f⟩, ⟨S32x64, f⟩] concatenates_S32x64_S32x64_S32x128_d1 : FVec Ideal S32x128 .f32) (ix2 p j) = f (ix2 p ⟨j.val % 64, hj⟩) := by
  pointwise
  split_ifs with h
  · congr 2
    exact Fin.ext (by simp only; omega)
  · congr 2
    exact Fin.ext (by simp only; omega)
  · rename_i h'
    exact absurd rfl h'

/-- A head of 64 columns is read in its three parts. -/
theorem parts (f g : FVec Ideal S32x8 .f32) (u : FVec Ideal S32x48 .f32) (p : Fin 32) (j : Fin 64) :
    (concatenate S32x64 1 [⟨S32x8, f⟩, ⟨S32x8, g⟩, ⟨S32x48, u⟩] concatenates_S32x8_S32x8_S32x48_S32x64_d1 : FVec Ideal S32x64 .f32) (ix2 p j)
      = (if h : j.val < 8 then f (ix2 p ⟨j.val, h⟩) else if h2 : j.val < 16 then g (ix2 p ⟨j.val - 8, by omega⟩) else u (ix2 p ⟨j.val - 16, by omega⟩) : EReal) := by
  pointwise
  by_cases h : j.val < 8
  · simp only [h, dite_true]
  · by_cases h2 : j.val < 16
    · have h3 : j.val - 8 < 8 := by omega
      simp only [h, h2, h3, dite_true, dite_false]
    · have h3 : ¬ (j.val - 8 < 8) := by omega
      simp only [h, h2, h3, dite_false]
      congr 2

/-- Table 6 is staged once for every sequence: row `r` is the table's row `r % 32`. -/
theorem rep6 (c : Dev nD) (r : Fin 512) (j : Fin 128) (h : r.val % 32 < 32) :
    (V m c main_v12 : FVec Ideal S512x128 .f32) (ix2 r j) = (V m c main_v8 : FVec Ideal S32x128 .f32) (ix2 ⟨r.val % 32, h⟩ j) := by
  have e : (V m c main_v12 : FVec Ideal S512x128 .f32) = shapeCast S512x128 (broadcastInDim S16x32x128 ![1, 2] bcast_S32x128_S16x32x128_1_2 (V m c main_v8 : FVec Ideal S32x128 .f32)) shapeCasts_S16x32x128_S512x128 := by
    unfold V
    after_results
    try rfl
  rw [e]
  generalize (V m c main_v8 : FVec Ideal S32x128 .f32) = T
  pointwise

/-- Table 7 is staged once for every sequence: row `r` is the table's row `r % 32`. -/
theorem rep7 (c : Dev nD) (r : Fin 512) (j : Fin 128) (h : r.val % 32 < 32) :
    (V m c main_v14 : FVec Ideal S512x128 .f32) (ix2 r j) = (V m c main_v9 : FVec Ideal S32x128 .f32) (ix2 ⟨r.val % 32, h⟩ j) := by
  have e : (V m c main_v14 : FVec Ideal S512x128 .f32) = shapeCast S512x128 (broadcastInDim S16x32x128 ![1, 2] bcast_S32x128_S16x32x128_1_2 (V m c main_v9 : FVec Ideal S32x128 .f32)) shapeCasts_S16x32x128_S512x128 := by
    unfold V
    after_results
    try rfl
  rw [e]
  generalize (V m c main_v9 : FVec Ideal S32x128 .f32) = T
  pointwise

/-- Table 8 is staged once for every sequence: row `r` is the table's row `r % 32`. -/
theorem rep8 (c : Dev nD) (r : Fin 512) (j : Fin 128) (h : r.val % 32 < 32) :
    (V m c main_v16 : FVec Ideal S512x128 .f32) (ix2 r j) = (V m c main_v10 : FVec Ideal S32x128 .f32) (ix2 ⟨r.val % 32, h⟩ j) := by
  have e : (V m c main_v16 : FVec Ideal S512x128 .f32) = shapeCast S512x128 (broadcastInDim S16x32x128 ![1, 2] bcast_S32x128_S16x32x128_1_2 (V m c main_v10 : FVec Ideal S32x128 .f32)) shapeCasts_S16x32x128_S512x128 := by
    unfold V
    after_results
    try rfl
  rw [e]
  generalize (V m c main_v10 : FVec Ideal S32x128 .f32) = T
  pointwise

/-- The staged tables are read at the row's place in its sequence. -/
theorem at678 (c : Dev nD) (t : Fin cfg0.N) (r : Fin 512) (j : Fin 128) (h : r.val % 32 < 32) :
    (iblk m c 6 t : FVec Ideal S512x128 .f32) (ix2 r j) = (V m c main_v8 : FVec Ideal S32x128 .f32) (ix2 ⟨r.val % 32, h⟩ j)
    ∧ (iblk m c 7 t : FVec Ideal S512x128 .f32) (ix2 r j) = (V m c main_v9 : FVec Ideal S32x128 .f32) (ix2 ⟨r.val % 32, h⟩ j)
    ∧ (iblk m c 8 t : FVec Ideal S512x128 .f32) (ix2 r j) = (V m c main_v10 : FVec Ideal S32x128 .f32) (ix2 ⟨r.val % 32, h⟩ j) := by
  rw [← rep6, ← rep7, ← rep8]
  refine ⟨?_, ?_, ?_⟩
  · blk_ext [iblk, idx t]
  · blk_ext [iblk, idx t]
  · blk_ext [iblk, idx t]

end Cert.ProjSIdeal.Value
-- ==== Proof.ProjSMain.lean ====
module

public import proofs.«01_k».proof.Proof.ProjSBlocks
public import proofs.«01_k».proof.Proof.Gen.ProjSRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- The attention half of the kernel's projection is the reference's projection past the gate columns. -/
theorem attVal (c : Dev nD) (t : Fin cfg0.N) (r : Fin 512) (j : Fin 1536) (h1 : r.val / 32 < 16) (h2 : r.val % 32 < 32) :
    (k0_pay45 (F := Ideal) (iblk m c 0 t) (iblk m c 1 t) (iblk m c 2 t) (iblk m c 3 t) (iblk m c 4 t) (iblk m c 5 t) (iblk m c 6 t) (iblk m c 7 t) (iblk m c 8 t) : FVec Ideal S512x1536 .f32) (ix2 r j)
    = (Cert.ProjSRefIdeal.Read.val_main_v15 (F := Ideal) (m ((c : Thread nD τ).loc main_arg0)) (m ((c : Thread nD τ).loc main_arg3)) (m ((c : Thread nD τ).loc main_arg4)) : FVec Ideal Cert.ProjSRefIdeal.S16x32x3592 .f32) (ix3 ⟨r.val / 32, h1⟩ ⟨r.val % 32, h2⟩ ⟨2056 + j.val, by omega⟩) := by
  have e0 := fun k => blk0 m c t r k h1 h2
  have e1 := blk1 m c t
  have e2 := blk2b m c t
  generalize (iblk m c 0 t : FVec Ideal S512x1024 .f32) = X at e0 ⊢
  generalize (iblk m c 1 t : FVec Ideal S1x1024 .f32) = G at e1 ⊢
  generalize (iblk m c 2 t : FVec Ideal S1024x3584 .bf16) = W at e2 ⊢
  generalize (m ((c : Thread nD τ).loc main_arg0) : FVec Ideal S16x32x1024 .f32) = A0 at e0 ⊢
  generalize (m ((c : Thread nD τ).loc main_arg3) : FVec Ideal S1x1024 .f32) = A1 at e1 ⊢
  generalize (m ((c : Thread nD τ).loc main_arg4) : FVec Ideal S1x1024x3592 .f32) = A2 at e2 ⊢
  pointwise [k0_pay45, k0_pay4, k0_pay3, Cert.ProjSRefIdeal.Read.val_main_v0, Cert.ProjSRefIdeal.Read.val_main_v1, Cert.ProjSRefIdeal.Read.val_main_v2, Cert.ProjSRefIdeal.Read.val_main_v3, Cert.ProjSRefIdeal.Read.val_main_v4, Cert.ProjSRefIdeal.Read.val_main_v5, Cert.ProjSRefIdeal.Read.val_main_v6, Cert.ProjSRefIdeal.Read.val_main_v7, Cert.ProjSRefIdeal.Read.val_main_v8, Cert.ProjSRefIdeal.Read.val_main_v9, Cert.ProjSRefIdeal.Read.val_main_v10, Cert.ProjSRefIdeal.Read.val_main_v11, Cert.ProjSRefIdeal.Read.val_main_v12, Cert.ProjSRefIdeal.Read.val_main_v13, Cert.ProjSRefIdeal.Read.val_main_v14, Cert.ProjSRefIdeal.Read.val_main_v15, Cert.ProjSRefIdeal.Read.val_main_cst, Cert.ProjSRefIdeal.Read.val_main_cst_0, Cert.ProjSRefIdeal.Read.val_main_cst_1]
  simp only [e0, e1, e2]

/-- The recurrence half of the kernel's projection is the first 2048 columns of the reference's. -/
theorem mainVal (c : Dev nD) (t : Fin cfg0.N) (r : Fin 512) (j : Fin 2048) (h1 : r.val / 32 < 16) (h2 : r.val % 32 < 32) :
    (k0_pay5 (F := Ideal) (iblk m c 0 t) (iblk m c 1 t) (View.ld (iblk m c 2 t) r0_3) : FVec Ideal S512x2048 .f32) (ix2 r j)
    = (Cert.ProjSRefIdeal.Read.val_main_v15 (F := Ideal) (m ((c : Thread nD τ).loc main_arg0)) (m ((c : Thread nD τ).loc main_arg3)) (m ((c : Thread nD τ).loc main_arg4)) : FVec Ideal Cert.ProjSRefIdeal.S16x32x3592 .f32) (ix3 ⟨r.val / 32, h1⟩ ⟨r.val % 32, h2⟩ ⟨j.val, by omega⟩) := by
  have e0 := fun k => blk0 m c t r k h1 h2
  have e1 := blk1 m c t
  have e2 := blk2a m c t
  generalize (iblk m c 0 t : FVec Ideal S512x1024 .f32) = X at e0 ⊢
  generalize (iblk m c 1 t : FVec Ideal S1x1024 .f32) = G at e1 ⊢
  generalize (iblk m c 2 t : FVec Ideal S1024x3584 .bf16) = W at e2 ⊢
  generalize (m ((c : Thread nD τ).loc main_arg0) : FVec Ideal S16x32x1024 .f32) = A0 at e0 ⊢
  generalize (m ((c : Thread nD τ).loc main_arg3) : FVec Ideal S1x1024 .f32) = A1 at e1 ⊢
  generalize (m ((c : Thread nD τ).loc main_arg4) : FVec Ideal S1x1024x3592 .f32) = A2 at e2 ⊢
  pointwise [k0_pay5, k0_pay3, Cert.ProjSRefIdeal.Read.val_main_v0, Cert.ProjSRefIdeal.Read.val_main_v1, Cert.ProjSRefIdeal.Read.val_main_v2, Cert.ProjSRefIdeal.Read.val_main_v3, Cert.ProjSRefIdeal.Read.val_main_v4, Cert.ProjSRefIdeal.Read.val_main_v5, Cert.ProjSRefIdeal.Read.val_main_v6, Cert.ProjSRefIdeal.Read.val_main_v7, Cert.ProjSRefIdeal.Read.val_main_v8, Cert.ProjSRefIdeal.Read.val_main_v9, Cert.ProjSRefIdeal.Read.val_main_v10, Cert.ProjSRefIdeal.Read.val_main_v11, Cert.ProjSRefIdeal.Read.val_main_v12, Cert.ProjSRefIdeal.Read.val_main_v13, Cert.ProjSRefIdeal.Read.val_main_v14, Cert.ProjSRefIdeal.Read.val_main_v15, Cert.ProjSRefIdeal.Read.val_main_cst, Cert.ProjSRefIdeal.Read.val_main_cst_0, Cert.ProjSRefIdeal.Read.val_main_cst_1]
  simp only [e0, e1, e2]

/-- The first result is the reference's projection. -/
theorem final9 (c : Dev nD) : (dats m 0 c).arrAt 9 (cfgs 0).N
    = Cert.ProjSRefIdeal.Read.val_main_v42 (F := Ideal) (m ((c : Thread nD τ).loc main_arg0)) (m ((c : Thread nD τ).loc main_arg3)) (m ((c : Thread nD τ).loc main_arg4)) := by
  refine (dats m 0 c).arrAt_eq_of_covers 9 _ (by decide +kernel) fun t _ y => ?_
  blk_simp
  rw [after0_9]; frame_out
  idx_vars y
  have ht : t.val < 1 := t.isLt
  have hb : y0.val < 512 := by omega
  rw [emb9 t y0 y1 hb]
  have e := mainVal m c t y0 ⟨y1.val, by omega⟩ (by omega) (by omega)
  pointwise [k0_pay7, Cert.ProjSRefIdeal.Read.val_main_v42, Cert.ProjSRefIdeal.Read.val_main_v16]
  generalize (k0_pay5 (F := Ideal) (iblk m c 0 t) (iblk m c 1 t) (View.ld (iblk m c 2 t) r0_3) : FVec Ideal S512x2048 .f32) = P at e ⊢
  generalize Cert.ProjSRefIdeal.Read.val_main_v15 (F := Ideal) (m ((c : Thread nD τ).loc main_arg0)) (m ((c : Thread nD τ).loc main_arg3)) (m ((c : Thread nD τ).loc main_arg4)) = R at e ⊢
  exact e

/-- Entry `(a, b)` of the gate block is entry `(a, b)` of the result. -/
theorem emb10 (t : Fin cfg0.N) (a : Fin 512) (b : Fin 512) (hb : a.val < 512) :
    (((cfg0.win 10).blk t).view.emb (ix2 a b) : S512x512.Idx) = ix2 ⟨a.val, hb⟩ b := by
  blk_ext [idx t]

/-- The second result is the reference's gate. -/
theorem final10 (c : Dev nD) : (dats m 0 c).arrAt 10 (cfgs 0).N
    = Cert.ProjSRefIdeal.Read.val_main_v43 (F := Ideal) (m ((c : Thread nD τ).loc main_arg0)) (m ((c : Thread nD τ).loc main_arg3)) (m ((c : Thread nD τ).loc main_arg4)) := by
  refine (dats m 0 c).arrAt_eq_of_covers 10 _ (by decide +kernel) fun t _ y => ?_
  blk_simp
  rw [after0_10]; frame_out
  idx_vars y
  have ht : t.val < 1 := t.isLt
  have hb : y0.val < 512 := by omega
  rw [emb10 t y0 y1 hb]
  have e := mainVal m c t y0 ⟨1536 + y1.val, by omega⟩ (by omega) (by omega)
  pointwise [k0_pay8, Cert.ProjSRefIdeal.Read.val_main_v43, Cert.ProjSRefIdeal.Read.val_main_v17]
  generalize (k0_pay5 (F := Ideal) (iblk m c 0 t) (iblk m c 1 t) (View.ld (iblk m c 2 t) r0_3) : FVec Ideal S512x2048 .f32) = P at e ⊢
  generalize Cert.ProjSRefIdeal.Read.val_main_v15 (F := Ideal) (m ((c : Thread nD τ).loc main_arg0)) (m ((c : Thread nD τ).loc main_arg3)) (m ((c : Thread nD τ).loc main_arg4)) = R at e ⊢
  exact e

end Cert.ProjSIdeal.Value
-- ==== Proof.ProjSVal.lean ====
module

public import proofs.«01_k».proof.Proof.ProjSMain
public import proofs.«01_k».proof.Proof.Gen.ProjSRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- Entry `(a, h, b)` of the value block is entry `(a, h, b)` of the values. -/
theorem emb15 (t : Fin cfg0.N) (a : Fin 512) (h : Fin 4) (b : Fin 128) (hb : a.val < 512) :
    (((cfg0.win 15).blk t).view.emb (ix3 a h b) : S512x4x128.Idx) = ix3 ⟨a.val, hb⟩ h b := by
  blk_ext [idx t]

/-- The values. -/
theorem final15 (c : Dev nD) : (dats m 0 c).arrAt 15 (cfgs 0).N
    = Cert.ProjSRefIdeal.Read.val_main_v45 (F := Ideal) (m ((c : Thread nD τ).loc main_arg0)) (m ((c : Thread nD τ).loc main_arg3)) (m ((c : Thread nD τ).loc main_arg4)) := by
  refine (dats m 0 c).arrAt_eq_of_covers 15 _ (by decide +kernel) fun t _ y => ?_
  blk_simp
  rw [after0_15]; frame_out
  idx_vars y
  have ht : t.val < 1 := t.isLt
  have hb : y0.val < 512 := by omega
  rw [emb15 t y0 y1 y2 hb]
  have e := fun j => attVal m c t y0 j (by omega) (by omega)
  unfold k0_pay50 k0_pay51 k0_pay53
  generalize (k0_pay45 (F := Ideal) (iblk m c 0 t) (iblk m c 1 t) (iblk m c 2 t) (iblk m c 3 t) (iblk m c 4 t) (iblk m c 5 t) (iblk m c 6 t) (iblk m c 7 t) (iblk m c 8 t) : FVec Ideal S512x1536 .f32) = P at e ⊢
  pointwise [k0_pay2, k0_pay17, k0_pay25, k0_pay33, k0_pay39, Cert.ProjSRefIdeal.Read.val_main_v45, Cert.ProjSRefIdeal.Read.val_main_v22]
  generalize Cert.ProjSRefIdeal.Read.val_main_v15 (F := Ideal) (m ((c : Thread nD τ).loc main_arg0)) (m ((c : Thread nD τ).loc main_arg3)) (m ((c : Thread nD τ).loc main_arg4)) = R at e ⊢
  simp only [e]
  split_ifs
  all_goals (refine congrArg R (congrArg (fun q => ix3 _ _ q) (Fin.ext ?_)); dsimp only; omega)

end Cert.ProjSIdeal.Value
-- ==== Proof.ProjSRope.lean ====
module

public import proofs.«01_k».proof.Proof.ProjSMain
public import proofs.«01_k».proof.Proof.Gen.ProjSRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- Head 0 of the rotated keys: each column times its table's entry, and the columns eight after and eight before it times theirs. -/
theorem head0 (P : FVec Ideal S512x1536 .f32) (C A B : FVec Ideal S512x128 .f32) (r : Fin 512) (d : Fin 128) :
    (k0_pay20 (F := Ideal) C A B (k0_pay16 P) : FVec Ideal S512x128 .f32) (ix2 r d)
      = (P (ix2 r ⟨512 + d.val, by omega⟩) * C (ix2 r d) + P (ix2 r ⟨512 + (d.val + 128 - 120) % 128, by omega⟩) * A (ix2 r d)
        + P (ix2 r ⟨512 + (d.val + 128 - 8) % 128, by omega⟩) * B (ix2 r d) : EReal) := by
  pointwise [k0_pay20, k0_pay16]

/-- Head 1 of the rotated keys: each column times its table's entry, and the columns eight after and eight before it times theirs. -/
theorem head1 (P : FVec Ideal S512x1536 .f32) (C A B : FVec Ideal S512x128 .f32) (r : Fin 512) (d : Fin 128) :
    (k0_pay27 (F := Ideal) P C A B : FVec Ideal S512x128 .f32) (ix2 r d)
      = (P (ix2 r ⟨640 + d.val, by omega⟩) * C (ix2 r d) + P (ix2 r ⟨640 + (d.val + 128 - 120) % 128, by omega⟩) * A (ix2 r d)
        + P (ix2 r ⟨640 + (d.val + 128 - 8) % 128, by omega⟩) * B (ix2 r d) : EReal) := by
  pointwise [k0_pay27]

/-- Head 2 of the rotated keys: each column times its table's entry, and the columns eight after and eight before it times theirs. -/
theorem head2 (P : FVec Ideal S512x1536 .f32) (C A B : FVec Ideal S512x128 .f32) (r : Fin 512) (d : Fin 128) :
    (k0_pay34 (F := Ideal) P C A B : FVec Ideal S512x128 .f32) (ix2 r d)
      = (P (ix2 r ⟨768 + d.val, by omega⟩) * C (ix2 r d) + P (ix2 r ⟨768 + (d.val + 128 - 120) % 128, by omega⟩) * A (ix2 r d)
        + P (ix2 r ⟨768 + (d.val + 128 - 8) % 128, by omega⟩) * B (ix2 r d) : EReal) := by
  pointwise [k0_pay34]

/-- Head 3 of the rotated keys: each column times its table's entry, and the columns eight after and eight before it times theirs. -/
theorem head3 (P : FVec Ideal S512x1536 .f32) (C A B : FVec Ideal S512x128 .f32) (r : Fin 512) (d : Fin 128) :
    (k0_pay40 (F := Ideal) P C A B : FVec Ideal S512x128 .f32) (ix2 r d)
      = (P (ix2 r ⟨896 + d.val, by omega⟩) * C (ix2 r d) + P (ix2 r ⟨896 + (d.val + 128 - 120) % 128, by omega⟩) * A (ix2 r d)
        + P (ix2 r ⟨896 + (d.val + 128 - 8) % 128, by omega⟩) * B (ix2 r d) : EReal) := by
  pointwise [k0_pay40]

/-- The stored keys are the four rotated heads. -/
theorem heads (H0 H1 H2 H3 : FVec Ideal S512x128 .f32) (r : Fin 512) (h : Fin 4) (d : Fin 128) :
    (k0_pay1 (F := Ideal) H0 H1 H2 H3 : FVec Ideal S512x4x128 .f32) (ix3 r h d) = (![H0, H1, H2, H3] h) (ix2 r d) := by
  have h4 : h = 0 ∨ h = 1 ∨ h = 2 ∨ h = 3 := by revert h; decide
  rcases h4 with h4 | h4 | h4 | h4 <;> subst h4
  · pointwise [k0_pay1]
  · pointwise [k0_pay1]
  · pointwise [k0_pay1]
    rw [dif_neg (by omega), dif_neg (by omega), dif_pos (by omega)]
    exact congrArg (fun q => H2 (ix2 r q)) (Fin.ext (by dsimp only; omega))
  · pointwise [k0_pay1]
    rw [dif_neg (by omega), dif_neg (by omega), dif_neg (by omega)]
    exact congrArg (fun q => H3 (ix2 r q)) (Fin.ext (by dsimp only; omega))

/-- A reference key is read in its head, its half and its column. -/
theorem ref44 (x0 : FVec Ideal S16x32x1024 .f32) (x1 x2 : FVec Ideal S32x8 .f32) (x3 : FVec Ideal S1x1024 .f32) (x4 : FVec Ideal S1x1024x3592 .f32) (g : Fin 512) (h : Fin 4) (d : Fin 128) :
    (Cert.ProjSRefIdeal.Read.val_main_v44 (F := Ideal) x0 x1 x2 x3 x4 : FVec Ideal S512x4x128 .f32) (ix3 g h d)
      = (Cert.ProjSRefIdeal.Read.val_main_v41 (F := Ideal) x0 x1 x2 x3 x4 : FVec Ideal Cert.ProjSRefIdeal.S16x32x4x2x64 .f32) (ix5 ⟨g.val / 32, by omega⟩ ⟨g.val % 32, by omega⟩ h ⟨d.val / 64, by omega⟩ ⟨d.val % 64, by omega⟩) := by
  pointwise [Cert.ProjSRefIdeal.Read.val_main_v44]

/-- The unrotated reference key. -/
theorem ref23 (x0 : FVec Ideal S16x32x1024 .f32) (x3 : FVec Ideal S1x1024 .f32) (x4 : FVec Ideal S1x1024x3592 .f32) (b : Fin 16) (p : Fin 32) (h : Fin 4) (a : Fin 2) (j : Fin 64) :
    (Cert.ProjSRefIdeal.Read.val_main_v23 (F := Ideal) x0 x3 x4 : FVec Ideal Cert.ProjSRefIdeal.S16x32x4x2x64 .f32) (ix5 b p h a j)
      = (Cert.ProjSRefIdeal.Read.val_main_v15 (F := Ideal) x0 x3 x4 : FVec Ideal Cert.ProjSRefIdeal.S16x32x3592 .f32) (ix3 b p ⟨2568 + (h.val * 128 + a.val * 64 + j.val), by omega⟩) := by
  pointwise [Cert.ProjSRefIdeal.Read.val_main_v23, Cert.ProjSRefIdeal.Read.val_main_v21]

/-- The rotated reference key: the first eight columns of a half and its next eight turned by the angle, the rest as they are. -/
theorem ref41 (x0 : FVec Ideal S16x32x1024 .f32) (x1 x2 : FVec Ideal S32x8 .f32) (x3 : FVec Ideal S1x1024 .f32) (x4 : FVec Ideal S1x1024x3592 .f32) (b : Fin 16) (p : Fin 32) (h : Fin 4) (a : Fin 2) (j : Fin 64) :
    (Cert.ProjSRefIdeal.Read.val_main_v41 (F := Ideal) x0 x1 x2 x3 x4 : FVec Ideal Cert.ProjSRefIdeal.S16x32x4x2x64 .f32) (ix5 b p h a j)
      = (if h1 : j.val < 16 then
          if h2 : j.val < 8 then HSub.hSub (α := EReal) (β := EReal) (γ := EReal) ((Cert.ProjSRefIdeal.Read.val_main_v23 (F := Ideal) x0 x3 x4 : FVec Ideal Cert.ProjSRefIdeal.S16x32x4x2x64 .f32) (ix5 b p h a j) * x1 (ix2 p ⟨j.val, h2⟩)) ((Cert.ProjSRefIdeal.Read.val_main_v23 (F := Ideal) x0 x3 x4 : FVec Ideal Cert.ProjSRefIdeal.S16x32x4x2x64 .f32) (ix5 b p h a ⟨8 + j.val, by omega⟩) * x2 (ix2 p ⟨j.val, h2⟩))
          else (Cert.ProjSRefIdeal.Read.val_main_v23 (F := Ideal) x0 x3 x4 : FVec Ideal Cert.ProjSRefIdeal.S16x32x4x2x64 .f32) (ix5 b p h a ⟨8 + (j.val - 8), by omega⟩) * x1 (ix2 p ⟨j.val - 8, by omega⟩) + (Cert.ProjSRefIdeal.Read.val_main_v23 (F := Ideal) x0 x3 x4 : FVec Ideal Cert.ProjSRefIdeal.S16x32x4x2x64 .f32) (ix5 b p h a ⟨j.val - 8, by omega⟩) * x2 (ix2 p ⟨j.val - 8, by omega⟩)
        else (Cert.ProjSRefIdeal.Read.val_main_v23 (F := Ideal) x0 x3 x4 : FVec Ideal Cert.ProjSRefIdeal.S16x32x4x2x64 .f32) (ix5 b p h a ⟨16 + (j.val - 16), by omega⟩) : EReal) := by
  pointwise [Cert.ProjSRefIdeal.Read.val_main_v24, Cert.ProjSRefIdeal.Read.val_main_v25, Cert.ProjSRefIdeal.Read.val_main_v26, Cert.ProjSRefIdeal.Read.val_main_v27, Cert.ProjSRefIdeal.Read.val_main_v28, Cert.ProjSRefIdeal.Read.val_main_v29, Cert.ProjSRefIdeal.Read.val_main_v30, Cert.ProjSRefIdeal.Read.val_main_v31, Cert.ProjSRefIdeal.Read.val_main_v32, Cert.ProjSRefIdeal.Read.val_main_v33, Cert.ProjSRefIdeal.Read.val_main_v34, Cert.ProjSRefIdeal.Read.val_main_v35, Cert.ProjSRefIdeal.Read.val_main_v36, Cert.ProjSRefIdeal.Read.val_main_v37, Cert.ProjSRefIdeal.Read.val_main_v38, Cert.ProjSRefIdeal.Read.val_main_v39, Cert.ProjSRefIdeal.Read.val_main_v40, Cert.ProjSRefIdeal.Read.val_main_v41]

/-- The table's form of the rotation is the reference's: the zeros of the tables drop the neighbours that do not take part. -/
theorem ropeEq (S : Fin 3592 → EReal) (C A B : EReal) (co si : Fin 8 → EReal) (h : Fin 4) (d : Fin 128)
    (hC : C = if h1 : d.val % 64 < 8 then co ⟨d.val % 64, h1⟩ else if h2 : d.val % 64 < 16 then co ⟨d.val % 64 - 8, by omega⟩ else 1)
    (hA : A = if h1 : d.val % 64 < 8 then -(si ⟨d.val % 64, h1⟩) else if h2 : d.val % 64 < 16 then 0 else 0)
    (hB : B = if h1 : d.val % 64 < 8 then 0 else if h2 : d.val % 64 < 16 then si ⟨d.val % 64 - 8, by omega⟩ else 0) :
    S ⟨2056 + (512 + 128 * h.val + d.val), by omega⟩ * C + S ⟨2056 + (512 + 128 * h.val + (d.val + 128 - 120) % 128), by omega⟩ * A + S ⟨2056 + (512 + 128 * h.val + (d.val + 128 - 8) % 128), by omega⟩ * B
      = if h1 : d.val % 64 < 16 then
          if h2 : d.val % 64 < 8 then S ⟨2568 + (h.val * 128 + d.val / 64 * 64 + d.val % 64), by omega⟩ * co ⟨d.val % 64, h2⟩ - S ⟨2568 + (h.val * 128 + d.val / 64 * 64 + (8 + d.val % 64)), by omega⟩ * si ⟨d.val % 64, h2⟩
          else S ⟨2568 + (h.val * 128 + d.val / 64 * 64 + (8 + (d.val % 64 - 8))), by omega⟩ * co ⟨d.val % 64 - 8, by omega⟩ + S ⟨2568 + (h.val * 128 + d.val / 64 * 64 + (d.val % 64 - 8)), by omega⟩ * si ⟨d.val % 64 - 8, by omega⟩
        else S ⟨2568 + (h.val * 128 + d.val / 64 * 64 + (16 + (d.val % 64 - 16))), by omega⟩ := by
  have q : ∀ (i j : Nat) (hi : i < 3592) (hj : j < 3592), i = j → S ⟨i, hi⟩ = S ⟨j, hj⟩ := by
    intro i j hi hj e; subst e; rfl
  by_cases h1 : d.val % 64 < 8
  · have h2 : d.val % 64 < 16 := by omega
    simp only [h1, h2, dite_true] at hC hA hB ⊢
    subst hC hA hB
    rw [mul_zero, add_zero, mul_neg, sub_eq_add_neg, q _ (2568 + (h.val * 128 + d.val / 64 * 64 + d.val % 64)) _ (by omega) (by omega), q (2056 + (512 + 128 * h.val + (d.val + 128 - 120) % 128)) (2568 + (h.val * 128 + d.val / 64 * 64 + (8 + d.val % 64))) _ (by omega) (by omega)]
  · by_cases h2 : d.val % 64 < 16
    · simp only [h1, h2, dite_true, dite_false] at hC hA hB ⊢
      subst hC hA hB
      rw [mul_zero, add_zero, q _ (2568 + (h.val * 128 + d.val / 64 * 64 + (8 + (d.val % 64 - 8)))) _ (by omega) (by omega), q (2056 + (512 + 128 * h.val + (d.val + 128 - 8) % 128)) (2568 + (h.val * 128 + d.val / 64 * 64 + (d.val % 64 - 8))) _ (by omega) (by omega)]
    · simp only [h1, h2, dite_false] at hC hA hB ⊢
      subst hC hA hB
      rw [mul_zero, mul_zero, add_zero, add_zero, mul_one, q _ (2568 + (h.val * 128 + d.val / 64 * 64 + (16 + (d.val % 64 - 16)))) _ (by omega) (by omega)]

/-- The staged cosines: the head's first eight columns and its next eight hold the cosines, the rest ones. -/
theorem tabC (c : Dev nD) (t : Fin cfg0.N) (r : Fin 512) (d : Fin 128) (p : Fin 32) (hp : p.val = r.val % 32) :
    (iblk m c 6 t : FVec Ideal S512x128 .f32) (ix2 r d) = (if h1 : d.val % 64 < 8 then (m ((c : Thread nD τ).loc main_arg1) : FVec Ideal S32x8 .f32) (ix2 p ⟨d.val % 64, h1⟩)
      else if h2 : d.val % 64 < 16 then (m ((c : Thread nD τ).loc main_arg1) : FVec Ideal S32x8 .f32) (ix2 p ⟨d.val % 64 - 8, by omega⟩) else (1 : EReal)) := by
  have h : r.val % 32 < 32 := by omega
  have e : (⟨r.val % 32, h⟩ : Fin 32) = p := Fin.ext (by dsimp only; omega)
  rw [(at678 m c t r d h).1, (tabs2 m c).1, e, halves _ _ _ (by omega), tab4, parts]
  split_ifs
  · rfl
  · rfl
  · exact tab3 m c _ _

/-- The first staged sines: the negated sines in the head's first eight columns, zeros after. -/
theorem tabA (c : Dev nD) (t : Fin cfg0.N) (r : Fin 512) (d : Fin 128) (p : Fin 32) (hp : p.val = r.val % 32) :
    (iblk m c 7 t : FVec Ideal S512x128 .f32) (ix2 r d) = (if h1 : d.val % 64 < 8 then Neg.neg (α := EReal) ((m ((c : Thread nD τ).loc main_arg2) : FVec Ideal S32x8 .f32) (ix2 p ⟨d.val % 64, h1⟩))
      else if h2 : d.val % 64 < 16 then (0 : EReal) else (0 : EReal)) := by
  have h : r.val % 32 < 32 := by omega
  have e : (⟨r.val % 32, h⟩ : Fin 32) = p := Fin.ext (by dsimp only; omega)
  rw [(at678 m c t r d h).2.1, (tabs2 m c).2.1, e, halves _ _ _ (by omega), tab6, parts]
  split_ifs
  · exact tab5 m c _ _
  · exact tab0 m c _ _
  · exact tab1 m c _ _

/-- The second staged sines: the sines in the head's second eight columns, zeros elsewhere. -/
theorem tabB (c : Dev nD) (t : Fin cfg0.N) (r : Fin 512) (d : Fin 128) (p : Fin 32) (hp : p.val = r.val % 32) :
    (iblk m c 8 t : FVec Ideal S512x128 .f32) (ix2 r d) = (if h1 : d.val % 64 < 8 then (0 : EReal)
      else if h2 : d.val % 64 < 16 then (m ((c : Thread nD τ).loc main_arg2) : FVec Ideal S32x8 .f32) (ix2 p ⟨d.val % 64 - 8, by omega⟩) else (0 : EReal)) := by
  have h : r.val % 32 < 32 := by omega
  have e : (⟨r.val % 32, h⟩ : Fin 32) = p := Fin.ext (by dsimp only; omega)
  rw [(at678 m c t r d h).2.2, (tabs2 m c).2.2, e, halves _ _ _ (by omega), tab7, parts]
  split_ifs
  · exact tab0 m c _ _
  · rfl
  · exact tab1 m c _ _

/-- The loaded tables are the staged blocks. -/
theorem loads (x0 : FVec Ideal S512x1024 .f32) (x1 : FVec Ideal S1x1024 .f32) (x2 : FVec Ideal S1024x3584 .bf16) (x3 : FVec Ideal S1024x128 .bf16) (x4 : FVec Ideal S1x128 .f32) (x5 : FVec Ideal S1x128 .f32) (x6 : FVec Ideal S512x128 .f32) (x7 : FVec Ideal S512x128 .f32) (x8 : FVec Ideal S512x128 .f32) :
    (k0_pay46 (F := Ideal) x0 x1 x2 x3 x4 x5 x6 x7 x8 : FVec Ideal S512x128 .f32) = x6 ∧ (k0_pay47 (F := Ideal) x0 x1 x2 x3 x4 x5 x6 x7 x8 : FVec Ideal S512x128 .f32) = x7 ∧ (k0_pay48 (F := Ideal) x0 x1 x2 x3 x4 x5 x6 x7 x8 : FVec Ideal S512x128 .f32) = x8 := by
  refine ⟨funext fun y => ?_, funext fun y => ?_, funext fun y => ?_⟩ <;> idx_vars y
  · pointwise [k0_pay46, k0_pay12]
  · pointwise [k0_pay47, k0_pay13]
  · pointwise [k0_pay48, k0_pay14]

/-- The stored keys, every head at once. -/
theorem keys (P : FVec Ideal S512x1536 .f32) (C A B : FVec Ideal S512x128 .f32) (r : Fin 512) (h : Fin 4) (d : Fin 128) :
    (k0_pay1 (F := Ideal) (k0_pay20 C A B (k0_pay16 P)) (k0_pay27 P C A B) (k0_pay34 P C A B) (k0_pay40 P C A B) : FVec Ideal S512x4x128 .f32) (ix3 r h d)
      = (P (ix2 r ⟨512 + 128 * h.val + d.val, by omega⟩) * C (ix2 r d) + P (ix2 r ⟨512 + 128 * h.val + (d.val + 128 - 120) % 128, by omega⟩) * A (ix2 r d)
        + P (ix2 r ⟨512 + 128 * h.val + (d.val + 128 - 8) % 128, by omega⟩) * B (ix2 r d) : EReal) := by
  rw [heads]
  have h4 : h = 0 ∨ h = 1 ∨ h = 2 ∨ h = 3 := by revert h; decide
  rcases h4 with h4 | h4 | h4 | h4 <;> subst h4
  · exact head0 P C A B r d
  · exact head1 P C A B r d
  · exact head2 P C A B r d
  · exact head3 P C A B r d

/-- The keys are the reference's rotated keys. -/
theorem final13 (c : Dev nD) : (dats m 0 c).arrAt 13 (cfgs 0).N
    = Cert.ProjSRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t _ y => ?_
  blk_simp
  rw [after0_13]; frame_out
  idx_vars y
  have ht : t.val < 1 := t.isLt
  have hb : y0.val < 512 := by omega
  rw [emb13 t y0 y1 y2 hb]
  have e := fun j => attVal m c t y0 j (by omega) (by omega)
  unfold k0_pay52 k0_pay49
  rw [(loads (iblk m c 0 t) (iblk m c 1 t) (iblk m c 2 t) (iblk m c 3 t) (iblk m c 4 t) (iblk m c 5 t) (iblk m c 6 t) (iblk m c 7 t) (iblk m c 8 t)).1, (loads (iblk m c 0 t) (iblk m c 1 t) (iblk m c 2 t) (iblk m c 3 t) (iblk m c 4 t) (iblk m c 5 t) (iblk m c 6 t) (iblk m c 7 t) (iblk m c 8 t)).2.1, (loads (iblk m c 0 t) (iblk m c 1 t) (iblk m c 2 t) (iblk m c 3 t) (iblk m c 4 t) (iblk m c 5 t) (iblk m c 6 t) (iblk m c 7 t) (iblk m c 8 t)).2.2]
  generalize (k0_pay45 (F := Ideal) (iblk m c 0 t) (iblk m c 1 t) (iblk m c 2 t) (iblk m c 3 t) (iblk m c 4 t) (iblk m c 5 t) (iblk m c 6 t) (iblk m c 7 t) (iblk m c 8 t) : FVec Ideal S512x1536 .f32) = P at e ⊢
  refine (keys P _ _ _ y0 y1 y2).trans ?_
  refine Eq.trans ?_ (ref44 _ _ _ _ _ _ y1 y2).symm
  rw [ref41]
  simp only [ref23, e]
  exact ropeEq (fun q => (Cert.ProjSRefIdeal.Read.val_main_v15 (F := Ideal) (m ((c : Thread nD τ).loc main_arg0)) (m ((c : Thread nD τ).loc main_arg3)) (m ((c : Thread nD τ).loc main_arg4)) : FVec Ideal Cert.ProjSRefIdeal.S16x32x3592 .f32) (ix3 ⟨y0.val / 32, by omega⟩ ⟨y0.val % 32, by omega⟩ q)) _ _ _
    (fun q => (m ((c : Thread nD τ).loc main_arg1) : FVec Ideal S32x8 .f32) (ix2 ⟨y0.val % 32, by omega⟩ q)) (fun q => (m ((c : Thread nD τ).loc main_arg2) : FVec Ideal S32x8 .f32) (ix2 ⟨y0.val % 32, by omega⟩ q)) y1 y2
    (tabC m c t y0 y2 _ rfl) (tabA m c t y0 y2 _ rfl) (tabB m c t y0 y2 _ rfl)

end Cert.ProjSIdeal.Value
-- ==== Proof.ProjBlocks.lean ====
module

public import proofs.«01_k».proof.Proof.Gen.ProjIdeal.Frame
public import proofs.«01_k».proof.Proof.Gen.ProjRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The block index of every window read here at grid point `t`: the rows move with the point, the tables repeat every 16 points, the weights stay. -/
theorem idx : ∀ t : Fin cfg0.N, win0_0.index t = ![t.val, 0] ∧ win0_1.index t = ![0, 0] ∧ win0_2.index t = ![0, 0]
    ∧ win0_6.index t = ![t.val % 16, 0] ∧ win0_7.index t = ![t.val % 16, 0] ∧ win0_8.index t = ![t.val % 16, 0]
    ∧ win0_9.index t = ![t.val, 0] ∧ win0_10.index t = ![t.val, 0] ∧ win0_13.index t = ![t.val, 0, 0] ∧ win0_15.index t = ![t.val, 0, 0] :=
  (by decide +kernel : ∀ t : Fin grid0.N, _)

/-- Row `r` of the input block at point `t` is row `t * 512 + r` of the flattened input. -/
theorem blk0 (c : Dev nD) (t : Fin cfg0.N) (r : Fin 512) (k : Fin 1024) (h1 : (t.val * 512 + r.val) / 8192 < 8) (h2 : (t.val * 512 + r.val) % 8192 < 8192) :
    (iblk m c 0 t : FVec Ideal S512x1024 .f32) (ix2 r k) = (m ((c : Thread nD τ).loc main_arg0) : FVec Ideal S8x8192x1024 .f32) (ix3 ⟨(t.val * 512 + r.val) / 8192, h1⟩ ⟨(t.val * 512 + r.val) % 8192, h2⟩ k) := by
  blk_simp [iblk, idx t]
  entry_read
  pointwise
  blk_ext [idx t]

/-- The staged gain is the argument. -/
theorem blk1 (c : Dev nD) (t : Fin cfg0.N) (k : Fin 1024) :
    (iblk m c 1 t : FVec Ideal S1x1024 .f32) (ix2 0 k) = (m ((c : Thread nD τ).loc main_arg3) : FVec Ideal S1x1024 .f32) (ix2 0 k) := by
  blk_ext [iblk, V, idx t]

/-- The staged weight is one array at every point. -/
theorem at2 (c : Dev nD) (t : Fin cfg0.N) (r : Fin 1024) (k : Fin 3584) :
    (iblk m c 2 t : FVec Ideal S1024x3584 .bf16) (ix2 r k) = (V m c main_v18 : FVec Ideal S1024x3584 .bf16) (ix2 r k) := by
  blk_ext [iblk, idx t]

/-- The first 2048 columns of the staged weight are the argument's. -/
theorem blk2a (c : Dev nD) (t : Fin cfg0.N) (r : Fin 1024) (k : Fin 2048) :
    (iblk m c 2 t : FVec Ideal S1024x3584 .bf16) (ix2 r ⟨k.val, by omega⟩) = (m ((c : Thread nD τ).loc main_arg4) : FVec Ideal S1x1024x3592 .f32) (ix3 0 r ⟨k.val, by omega⟩) := by
  rw [at2]
  entry_read
  pointwise

/-- The columns after the first 2048 of the staged weight are the argument's, past the eight gate columns. -/
theorem blk2b (c : Dev nD) (t : Fin cfg0.N) (r : Fin 1024) (k : Fin 1536) :
    (iblk m c 2 t : FVec Ideal S1024x3584 .bf16) (ix2 r ⟨2048 + k.val, by omega⟩) = (m ((c : Thread nD τ).loc main_arg4) : FVec Ideal S1x1024x3592 .f32) (ix3 0 r ⟨2056 + k.val, by omega⟩) := by
  rw [at2]
  entry_read
  pointwise

/-- Entry `(a, b)` of the first output block at point `t` is entry `(t * 512 + a, b)` of the result. -/
theorem emb9 (t : Fin cfg0.N) (a : Fin 512) (b : Fin 1536) (hb : t.val * 512 + a.val < 65536) :
    (((cfg0.win 9).blk t).view.emb (ix2 a b) : S65536x1536.Idx) = ix2 ⟨t.val * 512 + a.val, hb⟩ b := by
  blk_ext [idx t]

/-- Entry `(a, h, b)` of the key block at point `t` is entry `(t * 512 + a, h, b)` of the keys. -/
theorem emb13 (t : Fin cfg0.N) (a : Fin 512) (h : Fin 4) (b : Fin 128) (hb : t.val * 512 + a.val < 65536) :
    (((cfg0.win 13).blk t).view.emb (ix3 a h b) : S65536x4x128.Idx) = ix3 ⟨t.val * 512 + a.val, hb⟩ h b := by
  blk_ext [idx t]

/-- The part of a head's table no angle rotates holds zeros. -/
theorem tab1 (c : Dev nD) (p : Fin 8192) (j : Fin 48) : (V m c main_v1 : FVec Ideal S8192x48 .f32) (ix2 p j) = (0 : EReal) := by
  unfold V
  after_results
  pointwise

/-- The other half of a head's rotated part holds zeros. -/
theorem tab0 (c : Dev nD) (p : Fin 8192) (j : Fin 8) : (V m c main_v0 : FVec Ideal S8192x8 .f32) (ix2 p j) = (0 : EReal) := by
  unfold V
  after_results
  pointwise

/-- The cosines of the part no angle rotates are ones. -/
theorem tab3 (c : Dev nD) (p : Fin 8192) (j : Fin 48) : (V m c main_v3 : FVec Ideal S8192x48 .f32) (ix2 p j) = (1 : EReal) := by
  unfold V
  after_results
  pointwise

/-- The negated sines. -/
theorem tab5 (c : Dev nD) (p : Fin 8192) (j : Fin 8) : (V m c main_v5 : FVec Ideal S8192x8 .f32) (ix2 p j) = Neg.neg (α := EReal) ((m ((c : Thread nD τ).loc main_arg2) : FVec Ideal S8192x8 .f32) (ix2 p j)) := by
  unfold V
  after_results
  pointwise

/-- One head of the cosine table is the cosines twice, then ones. -/
theorem tab4 (c : Dev nD) : (V m c main_v4 : FVec Ideal S8192x64 .f32) = concatenate S8192x64 1
      [⟨S8192x8, (m ((c : Thread nD τ).loc main_arg1) : FVec Ideal S8192x8 .f32)⟩, ⟨S8192x8, (m ((c : Thread nD τ).loc main_arg1) : FVec Ideal S8192x8 .f32)⟩, ⟨S8192x48, (V m c main_v3 : FVec Ideal S8192x48 .f32)⟩]
      concatenates_S8192x8_S8192x8_S8192x48_S8192x64_d1 := by
  unfold V
  after_results
  rfl

/-- One head of the first sine table is the negated sines, then zeros. -/
theorem tab6 (c : Dev nD) : (V m c main_v6 : FVec Ideal S8192x64 .f32) = concatenate S8192x64 1
      [⟨S8192x8, (V m c main_v5 : FVec Ideal S8192x8 .f32)⟩, ⟨S8192x8, (V m c main_v0 : FVec Ideal S8192x8 .f32)⟩, ⟨S8192x48, (V m c main_v1 : FVec Ideal S8192x48 .f32)⟩]
      concatenates_S8192x8_S8192x8_S8192x48_S8192x64_d1 := by
  unfold V
  after_results
  rfl

/-- One head of the second sine table is zeros, the sines, and zeros. -/
theorem tab7 (c : Dev nD) : (V m c main_v7 : FVec Ideal S8192x64 .f32) = concatenate S8192x64 1
      [⟨S8192x8, (V m c main_v0 : FVec Ideal S8192x8 .f32)⟩, ⟨S8192x8, (m ((c : Thread nD τ).loc main_arg2) : FVec Ideal S8192x8 .f32)⟩, ⟨S8192x48, (V m c main_v1 : FVec Ideal S8192x48 .f32)⟩]
      concatenates_S8192x8_S8192x8_S8192x48_S8192x64_d1 := by
  unfold V
  after_results
  rfl

/-- Each staged table is two heads side by side. -/
theorem tabs2 (c : Dev nD) :
    (V m c main_v8 : FVec Ideal S8192x128 .f32) = concatenate S8192x128 1 [⟨S8192x64, (V m c main_v4 : FVec Ideal S8192x64 .f32)⟩, ⟨S8192x64, (V m c main_v4 : FVec Ideal S8192x64 .f32)⟩] concatenates_S8192x64_S8192x64_S8192x128_d1
    ∧ (V m c main_v9 : FVec Ideal S8192x128 .f32) = concatenate S8192x128 1 [⟨S8192x64, (V m c main_v6 : FVec Ideal S8192x64 .f32)⟩, ⟨S8192x64, (V m c main_v6 : FVec Ideal S8192x64 .f32)⟩] concatenates_S8192x64_S8192x64_S8192x128_d1
    ∧ (V m c main_v10 : FVec Ideal S8192x128 .f32) = concatenate S8192x128 1 [⟨S8192x64, (V m c main_v7 : FVec Ideal S8192x64 .f32)⟩, ⟨S8192x64, (V m c main_v7 : FVec Ideal S8192x64 .f32)⟩] concatenates_S8192x64_S8192x64_S8192x128_d1 := by
  refine ⟨?_, ?_, ?_⟩ <;> (unfold V; after_results)

/-- Two equal halves side by side are read at the column of a half. -/
theorem halves (f : FVec Ideal S8192x64 .f32) (p : Fin 8192) (j : Fin 128) (hj : j.val % 64 < 64) :
    (concatenate S8192x128 1 [⟨S8192x64, f⟩, ⟨S8192x64, f⟩] concatenates_S8192x64_S8192x64_S8192x128_d1 : FVec Ideal S8192x128 .f32) (ix2 p j) = f (ix2 p ⟨j.val % 64, hj⟩) := by
  pointwise
  split_ifs with h
  · congr 2
    exact Fin.ext (by simp only; omega)
  · congr 2
    exact Fin.ext (by simp only; omega)
  · rename_i h'
    exact absurd rfl h'

/-- A head of 64 columns is read in its three parts. -/
theorem parts (f g : FVec Ideal S8192x8 .f32) (u : FVec Ideal S8192x48 .f32) (p : Fin 8192) (j : Fin 64) :
    (concatenate S8192x64 1 [⟨S8192x8, f⟩, ⟨S8192x8, g⟩, ⟨S8192x48, u⟩] concatenates_S8192x8_S8192x8_S8192x48_S8192x64_d1 : FVec Ideal S8192x64 .f32) (ix2 p j)
      = (if h : j.val < 8 then f (ix2 p ⟨j.val, h⟩) else if h2 : j.val < 16 then g (ix2 p ⟨j.val - 8, by omega⟩) else u (ix2 p ⟨j.val - 16, by omega⟩) : EReal) := by
  pointwise
  by_cases h : j.val < 8
  · simp only [h, dite_true]
  · by_cases h2 : j.val < 16
    · have h3 : j.val - 8 < 8 := by omega
      simp only [h, h2, h3, dite_true, dite_false]
    · have h3 : ¬ (j.val - 8 < 8) := by omega
      simp only [h, h2, h3, dite_false]
      congr 2

/-- The staged tables are blocks of 512 rows, repeating every 16 points. -/
theorem at678 (c : Dev nD) (t : Fin cfg0.N) (r : Fin 512) (j : Fin 128) (h : t.val % 16 * 512 + r.val < 8192) :
    (iblk m c 6 t : FVec Ideal S512x128 .f32) (ix2 r j) = (V m c main_v8 : FVec Ideal S8192x128 .f32) (ix2 ⟨t.val % 16 * 512 + r.val, h⟩ j)
    ∧ (iblk m c 7 t : FVec Ideal S512x128 .f32) (ix2 r j) = (V m c main_v9 : FVec Ideal S8192x128 .f32) (ix2 ⟨t.val % 16 * 512 + r.val, h⟩ j)
    ∧ (iblk m c 8 t : FVec Ideal S512x128 .f32) (ix2 r j) = (V m c main_v10 : FVec Ideal S8192x128 .f32) (ix2 ⟨t.val % 16 * 512 + r.val, h⟩ j) := by
  refine ⟨?_, ?_, ?_⟩
  · blk_ext [iblk, idx t]
  · blk_ext [iblk, idx t]
  · blk_ext [iblk, idx t]

end Cert.ProjIdeal.Value
-- ==== Proof.ProjMain.lean ====
module

public import proofs.«01_k».proof.Proof.ProjBlocks
public import proofs.«01_k».proof.Proof.Gen.ProjRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The attention half of the kernel's projection is the reference's projection past the gate columns. -/
theorem attVal (c : Dev nD) (t : Fin cfg0.N) (r : Fin 512) (j : Fin 1536) (h1 : (t.val * 512 + r.val) / 8192 < 8) (h2 : (t.val * 512 + r.val) % 8192 < 8192) :
    (k0_pay45 (F := Ideal) (iblk m c 0 t) (iblk m c 1 t) (iblk m c 2 t) (iblk m c 3 t) (iblk m c 4 t) (iblk m c 5 t) (iblk m c 6 t) (iblk m c 7 t) (iblk m c 8 t) : FVec Ideal S512x1536 .f32) (ix2 r j)
    = (Cert.ProjRefIdeal.Read.val_main_v15 (F := Ideal) (m ((c : Thread nD τ).loc main_arg0)) (m ((c : Thread nD τ).loc main_arg3)) (m ((c : Thread nD τ).loc main_arg4)) : FVec Ideal Cert.ProjRefIdeal.S8x8192x3592 .f32) (ix3 ⟨(t.val * 512 + r.val) / 8192, h1⟩ ⟨(t.val * 512 + r.val) % 8192, h2⟩ ⟨2056 + j.val, by omega⟩) := by
  have e0 := fun k => blk0 m c t r k h1 h2
  have e1 := blk1 m c t
  have e2 := blk2b m c t
  generalize (iblk m c 0 t : FVec Ideal S512x1024 .f32) = X at e0 ⊢
  generalize (iblk m c 1 t : FVec Ideal S1x1024 .f32) = G at e1 ⊢
  generalize (iblk m c 2 t : FVec Ideal S1024x3584 .bf16) = W at e2 ⊢
  generalize (m ((c : Thread nD τ).loc main_arg0) : FVec Ideal S8x8192x1024 .f32) = A0 at e0 ⊢
  generalize (m ((c : Thread nD τ).loc main_arg3) : FVec Ideal S1x1024 .f32) = A1 at e1 ⊢
  generalize (m ((c : Thread nD τ).loc main_arg4) : FVec Ideal S1x1024x3592 .f32) = A2 at e2 ⊢
  pointwise [k0_pay45, k0_pay4, k0_pay3, Cert.ProjRefIdeal.Read.val_main_v0, Cert.ProjRefIdeal.Read.val_main_v1, Cert.ProjRefIdeal.Read.val_main_v2, Cert.ProjRefIdeal.Read.val_main_v3, Cert.ProjRefIdeal.Read.val_main_v4, Cert.ProjRefIdeal.Read.val_main_v5, Cert.ProjRefIdeal.Read.val_main_v6, Cert.ProjRefIdeal.Read.val_main_v7, Cert.ProjRefIdeal.Read.val_main_v8, Cert.ProjRefIdeal.Read.val_main_v9, Cert.ProjRefIdeal.Read.val_main_v10, Cert.ProjRefIdeal.Read.val_main_v11, Cert.ProjRefIdeal.Read.val_main_v12, Cert.ProjRefIdeal.Read.val_main_v13, Cert.ProjRefIdeal.Read.val_main_v14, Cert.ProjRefIdeal.Read.val_main_v15, Cert.ProjRefIdeal.Read.val_main_cst, Cert.ProjRefIdeal.Read.val_main_cst_0, Cert.ProjRefIdeal.Read.val_main_cst_1]
  simp only [e0, e1, e2]

/-- The recurrence half of the kernel's projection is the first 2048 columns of the reference's. -/
theorem mainVal (c : Dev nD) (t : Fin cfg0.N) (r : Fin 512) (j : Fin 2048) (h1 : (t.val * 512 + r.val) / 8192 < 8) (h2 : (t.val * 512 + r.val) % 8192 < 8192) :
    (k0_pay5 (F := Ideal) (iblk m c 0 t) (iblk m c 1 t) (View.ld (iblk m c 2 t) r0_3) : FVec Ideal S512x2048 .f32) (ix2 r j)
    = (Cert.ProjRefIdeal.Read.val_main_v15 (F := Ideal) (m ((c : Thread nD τ).loc main_arg0)) (m ((c : Thread nD τ).loc main_arg3)) (m ((c : Thread nD τ).loc main_arg4)) : FVec Ideal Cert.ProjRefIdeal.S8x8192x3592 .f32) (ix3 ⟨(t.val * 512 + r.val) / 8192, h1⟩ ⟨(t.val * 512 + r.val) % 8192, h2⟩ ⟨j.val, by omega⟩) := by
  have e0 := fun k => blk0 m c t r k h1 h2
  have e1 := blk1 m c t
  have e2 := blk2a m c t
  generalize (iblk m c 0 t : FVec Ideal S512x1024 .f32) = X at e0 ⊢
  generalize (iblk m c 1 t : FVec Ideal S1x1024 .f32) = G at e1 ⊢
  generalize (iblk m c 2 t : FVec Ideal S1024x3584 .bf16) = W at e2 ⊢
  generalize (m ((c : Thread nD τ).loc main_arg0) : FVec Ideal S8x8192x1024 .f32) = A0 at e0 ⊢
  generalize (m ((c : Thread nD τ).loc main_arg3) : FVec Ideal S1x1024 .f32) = A1 at e1 ⊢
  generalize (m ((c : Thread nD τ).loc main_arg4) : FVec Ideal S1x1024x3592 .f32) = A2 at e2 ⊢
  pointwise [k0_pay5, k0_pay3, Cert.ProjRefIdeal.Read.val_main_v0, Cert.ProjRefIdeal.Read.val_main_v1, Cert.ProjRefIdeal.Read.val_main_v2, Cert.ProjRefIdeal.Read.val_main_v3, Cert.ProjRefIdeal.Read.val_main_v4, Cert.ProjRefIdeal.Read.val_main_v5, Cert.ProjRefIdeal.Read.val_main_v6, Cert.ProjRefIdeal.Read.val_main_v7, Cert.ProjRefIdeal.Read.val_main_v8, Cert.ProjRefIdeal.Read.val_main_v9, Cert.ProjRefIdeal.Read.val_main_v10, Cert.ProjRefIdeal.Read.val_main_v11, Cert.ProjRefIdeal.Read.val_main_v12, Cert.ProjRefIdeal.Read.val_main_v13, Cert.ProjRefIdeal.Read.val_main_v14, Cert.ProjRefIdeal.Read.val_main_v15, Cert.ProjRefIdeal.Read.val_main_cst, Cert.ProjRefIdeal.Read.val_main_cst_0, Cert.ProjRefIdeal.Read.val_main_cst_1]
  simp only [e0, e1, e2]

/-- The first result is the reference's projection. -/
theorem final9 (c : Dev nD) : (dats m 0 c).arrAt 9 (cfgs 0).N
    = Cert.ProjRefIdeal.Read.val_main_v42 (F := Ideal) (m ((c : Thread nD τ).loc main_arg0)) (m ((c : Thread nD τ).loc main_arg3)) (m ((c : Thread nD τ).loc main_arg4)) := by
  refine (dats m 0 c).arrAt_eq_of_covers 9 _ (by decide +kernel) fun t _ y => ?_
  blk_simp
  rw [after0_9]; frame_out
  idx_vars y
  have ht : t.val < 128 := t.isLt
  have hb : t.val * 512 + y0.val < 65536 := by omega
  rw [emb9 t y0 y1 hb]
  have e := mainVal m c t y0 ⟨y1.val, by omega⟩ (by omega) (by omega)
  pointwise [k0_pay7, Cert.ProjRefIdeal.Read.val_main_v42, Cert.ProjRefIdeal.Read.val_main_v16]
  generalize (k0_pay5 (F := Ideal) (iblk m c 0 t) (iblk m c 1 t) (View.ld (iblk m c 2 t) r0_3) : FVec Ideal S512x2048 .f32) = P at e ⊢
  generalize Cert.ProjRefIdeal.Read.val_main_v15 (F := Ideal) (m ((c : Thread nD τ).loc main_arg0)) (m ((c : Thread nD τ).loc main_arg3)) (m ((c : Thread nD τ).loc main_arg4)) = R at e ⊢
  exact e

/-- Entry `(a, b)` of the gate block at point `t` is entry `(t * 512 + a, b)` of the result. -/
theorem emb10 (t : Fin cfg0.N) (a : Fin 512) (b : Fin 512) (hb : t.val * 512 + a.val < 65536) :
    (((cfg0.win 10).blk t).view.emb (ix2 a b) : S65536x512.Idx) = ix2 ⟨t.val * 512 + a.val, hb⟩ b := by
  blk_ext [idx t]

/-- The second result is the reference's gate. -/
theorem final10 (c : Dev nD) : (dats m 0 c).arrAt 10 (cfgs 0).N
    = Cert.ProjRefIdeal.Read.val_main_v43 (F := Ideal) (m ((c : Thread nD τ).loc main_arg0)) (m ((c : Thread nD τ).loc main_arg3)) (m ((c : Thread nD τ).loc main_arg4)) := by
  refine (dats m 0 c).arrAt_eq_of_covers 10 _ (by decide +kernel) fun t _ y => ?_
  blk_simp
  rw [after0_10]; frame_out
  idx_vars y
  have ht : t.val < 128 := t.isLt
  have hb : t.val * 512 + y0.val < 65536 := by omega
  rw [emb10 t y0 y1 hb]
  have e := mainVal m c t y0 ⟨1536 + y1.val, by omega⟩ (by omega) (by omega)
  pointwise [k0_pay8, Cert.ProjRefIdeal.Read.val_main_v43, Cert.ProjRefIdeal.Read.val_main_v17]
  generalize (k0_pay5 (F := Ideal) (iblk m c 0 t) (iblk m c 1 t) (View.ld (iblk m c 2 t) r0_3) : FVec Ideal S512x2048 .f32) = P at e ⊢
  generalize Cert.ProjRefIdeal.Read.val_main_v15 (F := Ideal) (m ((c : Thread nD τ).loc main_arg0)) (m ((c : Thread nD τ).loc main_arg3)) (m ((c : Thread nD τ).loc main_arg4)) = R at e ⊢
  exact e

end Cert.ProjIdeal.Value
-- ==== Proof.ProjVal.lean ====
module

public import proofs.«01_k».proof.Proof.ProjMain
public import proofs.«01_k».proof.Proof.Gen.ProjRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Entry `(a, h, b)` of the value block at point `t` is entry `(t * 512 + a, h, b)` of the values. -/
theorem emb15 (t : Fin cfg0.N) (a : Fin 512) (h : Fin 4) (b : Fin 128) (hb : t.val * 512 + a.val < 65536) :
    (((cfg0.win 15).blk t).view.emb (ix3 a h b) : S65536x4x128.Idx) = ix3 ⟨t.val * 512 + a.val, hb⟩ h b := by
  blk_ext [idx t]

/-- The values. -/
theorem final15 (c : Dev nD) : (dats m 0 c).arrAt 15 (cfgs 0).N
    = Cert.ProjRefIdeal.Read.val_main_v45 (F := Ideal) (m ((c : Thread nD τ).loc main_arg0)) (m ((c : Thread nD τ).loc main_arg3)) (m ((c : Thread nD τ).loc main_arg4)) := by
  refine (dats m 0 c).arrAt_eq_of_covers 15 _ (by decide +kernel) fun t _ y => ?_
  blk_simp
  rw [after0_15]; frame_out
  idx_vars y
  have ht : t.val < 128 := t.isLt
  have hb : t.val * 512 + y0.val < 65536 := by omega
  rw [emb15 t y0 y1 y2 hb]
  have e := fun j => attVal m c t y0 j (by omega) (by omega)
  unfold k0_pay50 k0_pay51 k0_pay53
  generalize (k0_pay45 (F := Ideal) (iblk m c 0 t) (iblk m c 1 t) (iblk m c 2 t) (iblk m c 3 t) (iblk m c 4 t) (iblk m c 5 t) (iblk m c 6 t) (iblk m c 7 t) (iblk m c 8 t) : FVec Ideal S512x1536 .f32) = P at e ⊢
  pointwise [k0_pay2, k0_pay17, k0_pay25, k0_pay33, k0_pay39, Cert.ProjRefIdeal.Read.val_main_v45, Cert.ProjRefIdeal.Read.val_main_v22]
  generalize Cert.ProjRefIdeal.Read.val_main_v15 (F := Ideal) (m ((c : Thread nD τ).loc main_arg0)) (m ((c : Thread nD τ).loc main_arg3)) (m ((c : Thread nD τ).loc main_arg4)) = R at e ⊢
  simp only [e]
  split_ifs
  all_goals (refine congrArg R (congrArg (fun q => ix3 _ _ q) (Fin.ext ?_)); dsimp only; omega)

end Cert.ProjIdeal.Value
-- ==== Proof.ProjRope.lean ====
module

public import proofs.«01_k».proof.Proof.ProjMain
public import proofs.«01_k».proof.Proof.Gen.ProjRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Head 0 of the rotated keys: each column times its table's entry, and the columns eight after and eight before it times theirs. -/
theorem head0 (P : FVec Ideal S512x1536 .f32) (C A B : FVec Ideal S512x128 .f32) (r : Fin 512) (d : Fin 128) :
    (k0_pay20 (F := Ideal) C A B (k0_pay16 P) : FVec Ideal S512x128 .f32) (ix2 r d)
      = (P (ix2 r ⟨512 + d.val, by omega⟩) * C (ix2 r d) + P (ix2 r ⟨512 + (d.val + 128 - 120) % 128, by omega⟩) * A (ix2 r d)
        + P (ix2 r ⟨512 + (d.val + 128 - 8) % 128, by omega⟩) * B (ix2 r d) : EReal) := by
  pointwise [k0_pay20, k0_pay16]

/-- Head 1 of the rotated keys: each column times its table's entry, and the columns eight after and eight before it times theirs. -/
theorem head1 (P : FVec Ideal S512x1536 .f32) (C A B : FVec Ideal S512x128 .f32) (r : Fin 512) (d : Fin 128) :
    (k0_pay27 (F := Ideal) P C A B : FVec Ideal S512x128 .f32) (ix2 r d)
      = (P (ix2 r ⟨640 + d.val, by omega⟩) * C (ix2 r d) + P (ix2 r ⟨640 + (d.val + 128 - 120) % 128, by omega⟩) * A (ix2 r d)
        + P (ix2 r ⟨640 + (d.val + 128 - 8) % 128, by omega⟩) * B (ix2 r d) : EReal) := by
  pointwise [k0_pay27]

/-- Head 2 of the rotated keys: each column times its table's entry, and the columns eight after and eight before it times theirs. -/
theorem head2 (P : FVec Ideal S512x1536 .f32) (C A B : FVec Ideal S512x128 .f32) (r : Fin 512) (d : Fin 128) :
    (k0_pay34 (F := Ideal) P C A B : FVec Ideal S512x128 .f32) (ix2 r d)
      = (P (ix2 r ⟨768 + d.val, by omega⟩) * C (ix2 r d) + P (ix2 r ⟨768 + (d.val + 128 - 120) % 128, by omega⟩) * A (ix2 r d)
        + P (ix2 r ⟨768 + (d.val + 128 - 8) % 128, by omega⟩) * B (ix2 r d) : EReal) := by
  pointwise [k0_pay34]

/-- Head 3 of the rotated keys: each column times its table's entry, and the columns eight after and eight before it times theirs. -/
theorem head3 (P : FVec Ideal S512x1536 .f32) (C A B : FVec Ideal S512x128 .f32) (r : Fin 512) (d : Fin 128) :
    (k0_pay40 (F := Ideal) P C A B : FVec Ideal S512x128 .f32) (ix2 r d)
      = (P (ix2 r ⟨896 + d.val, by omega⟩) * C (ix2 r d) + P (ix2 r ⟨896 + (d.val + 128 - 120) % 128, by omega⟩) * A (ix2 r d)
        + P (ix2 r ⟨896 + (d.val + 128 - 8) % 128, by omega⟩) * B (ix2 r d) : EReal) := by
  pointwise [k0_pay40]

/-- The stored keys are the four rotated heads. -/
theorem heads (H0 H1 H2 H3 : FVec Ideal S512x128 .f32) (r : Fin 512) (h : Fin 4) (d : Fin 128) :
    (k0_pay1 (F := Ideal) H0 H1 H2 H3 : FVec Ideal S512x4x128 .f32) (ix3 r h d) = (![H0, H1, H2, H3] h) (ix2 r d) := by
  have h4 : h = 0 ∨ h = 1 ∨ h = 2 ∨ h = 3 := by revert h; decide
  rcases h4 with h4 | h4 | h4 | h4 <;> subst h4
  · pointwise [k0_pay1]
  · pointwise [k0_pay1]
  · pointwise [k0_pay1]
    rw [dif_neg (by omega), dif_neg (by omega), dif_pos (by omega)]
    exact congrArg (fun q => H2 (ix2 r q)) (Fin.ext (by dsimp only; omega))
  · pointwise [k0_pay1]
    rw [dif_neg (by omega), dif_neg (by omega), dif_neg (by omega)]
    exact congrArg (fun q => H3 (ix2 r q)) (Fin.ext (by dsimp only; omega))

/-- A reference key is read in its head, its half and its column. -/
theorem ref44 (x0 : FVec Ideal S8x8192x1024 .f32) (x1 x2 : FVec Ideal S8192x8 .f32) (x3 : FVec Ideal S1x1024 .f32) (x4 : FVec Ideal S1x1024x3592 .f32) (g : Fin 65536) (h : Fin 4) (d : Fin 128) :
    (Cert.ProjRefIdeal.Read.val_main_v44 (F := Ideal) x0 x1 x2 x3 x4 : FVec Ideal S65536x4x128 .f32) (ix3 g h d)
      = (Cert.ProjRefIdeal.Read.val_main_v41 (F := Ideal) x0 x1 x2 x3 x4 : FVec Ideal Cert.ProjRefIdeal.S8x8192x4x2x64 .f32) (ix5 ⟨g.val / 8192, by omega⟩ ⟨g.val % 8192, by omega⟩ h ⟨d.val / 64, by omega⟩ ⟨d.val % 64, by omega⟩) := by
  pointwise [Cert.ProjRefIdeal.Read.val_main_v44]

/-- The unrotated reference key. -/
theorem ref23 (x0 : FVec Ideal S8x8192x1024 .f32) (x3 : FVec Ideal S1x1024 .f32) (x4 : FVec Ideal S1x1024x3592 .f32) (b : Fin 8) (p : Fin 8192) (h : Fin 4) (a : Fin 2) (j : Fin 64) :
    (Cert.ProjRefIdeal.Read.val_main_v23 (F := Ideal) x0 x3 x4 : FVec Ideal Cert.ProjRefIdeal.S8x8192x4x2x64 .f32) (ix5 b p h a j)
      = (Cert.ProjRefIdeal.Read.val_main_v15 (F := Ideal) x0 x3 x4 : FVec Ideal Cert.ProjRefIdeal.S8x8192x3592 .f32) (ix3 b p ⟨2568 + (h.val * 128 + a.val * 64 + j.val), by omega⟩) := by
  pointwise [Cert.ProjRefIdeal.Read.val_main_v23, Cert.ProjRefIdeal.Read.val_main_v21]

/-- The rotated reference key: the first eight columns of a half and its next eight turned by the angle, the rest as they are. -/
theorem ref41 (x0 : FVec Ideal S8x8192x1024 .f32) (x1 x2 : FVec Ideal S8192x8 .f32) (x3 : FVec Ideal S1x1024 .f32) (x4 : FVec Ideal S1x1024x3592 .f32) (b : Fin 8) (p : Fin 8192) (h : Fin 4) (a : Fin 2) (j : Fin 64) :
    (Cert.ProjRefIdeal.Read.val_main_v41 (F := Ideal) x0 x1 x2 x3 x4 : FVec Ideal Cert.ProjRefIdeal.S8x8192x4x2x64 .f32) (ix5 b p h a j)
      = (if h1 : j.val < 16 then
          if h2 : j.val < 8 then HSub.hSub (α := EReal) (β := EReal) (γ := EReal) ((Cert.ProjRefIdeal.Read.val_main_v23 (F := Ideal) x0 x3 x4 : FVec Ideal Cert.ProjRefIdeal.S8x8192x4x2x64 .f32) (ix5 b p h a j) * x1 (ix2 p ⟨j.val, h2⟩)) ((Cert.ProjRefIdeal.Read.val_main_v23 (F := Ideal) x0 x3 x4 : FVec Ideal Cert.ProjRefIdeal.S8x8192x4x2x64 .f32) (ix5 b p h a ⟨8 + j.val, by omega⟩) * x2 (ix2 p ⟨j.val, h2⟩))
          else (Cert.ProjRefIdeal.Read.val_main_v23 (F := Ideal) x0 x3 x4 : FVec Ideal Cert.ProjRefIdeal.S8x8192x4x2x64 .f32) (ix5 b p h a ⟨8 + (j.val - 8), by omega⟩) * x1 (ix2 p ⟨j.val - 8, by omega⟩) + (Cert.ProjRefIdeal.Read.val_main_v23 (F := Ideal) x0 x3 x4 : FVec Ideal Cert.ProjRefIdeal.S8x8192x4x2x64 .f32) (ix5 b p h a ⟨j.val - 8, by omega⟩) * x2 (ix2 p ⟨j.val - 8, by omega⟩)
        else (Cert.ProjRefIdeal.Read.val_main_v23 (F := Ideal) x0 x3 x4 : FVec Ideal Cert.ProjRefIdeal.S8x8192x4x2x64 .f32) (ix5 b p h a ⟨16 + (j.val - 16), by omega⟩) : EReal) := by
  pointwise [Cert.ProjRefIdeal.Read.val_main_v24, Cert.ProjRefIdeal.Read.val_main_v25, Cert.ProjRefIdeal.Read.val_main_v26, Cert.ProjRefIdeal.Read.val_main_v27, Cert.ProjRefIdeal.Read.val_main_v28, Cert.ProjRefIdeal.Read.val_main_v29, Cert.ProjRefIdeal.Read.val_main_v30, Cert.ProjRefIdeal.Read.val_main_v31, Cert.ProjRefIdeal.Read.val_main_v32, Cert.ProjRefIdeal.Read.val_main_v33, Cert.ProjRefIdeal.Read.val_main_v34, Cert.ProjRefIdeal.Read.val_main_v35, Cert.ProjRefIdeal.Read.val_main_v36, Cert.ProjRefIdeal.Read.val_main_v37, Cert.ProjRefIdeal.Read.val_main_v38, Cert.ProjRefIdeal.Read.val_main_v39, Cert.ProjRefIdeal.Read.val_main_v40, Cert.ProjRefIdeal.Read.val_main_v41]

/-- The table's form of the rotation is the reference's: the zeros of the tables drop the neighbours that do not take part. -/
theorem ropeEq (S : Fin 3592 → EReal) (C A B : EReal) (co si : Fin 8 → EReal) (h : Fin 4) (d : Fin 128)
    (hC : C = if h1 : d.val % 64 < 8 then co ⟨d.val % 64, h1⟩ else if h2 : d.val % 64 < 16 then co ⟨d.val % 64 - 8, by omega⟩ else 1)
    (hA : A = if h1 : d.val % 64 < 8 then -(si ⟨d.val % 64, h1⟩) else if h2 : d.val % 64 < 16 then 0 else 0)
    (hB : B = if h1 : d.val % 64 < 8 then 0 else if h2 : d.val % 64 < 16 then si ⟨d.val % 64 - 8, by omega⟩ else 0) :
    S ⟨2056 + (512 + 128 * h.val + d.val), by omega⟩ * C + S ⟨2056 + (512 + 128 * h.val + (d.val + 128 - 120) % 128), by omega⟩ * A + S ⟨2056 + (512 + 128 * h.val + (d.val + 128 - 8) % 128), by omega⟩ * B
      = if h1 : d.val % 64 < 16 then
          if h2 : d.val % 64 < 8 then S ⟨2568 + (h.val * 128 + d.val / 64 * 64 + d.val % 64), by omega⟩ * co ⟨d.val % 64, h2⟩ - S ⟨2568 + (h.val * 128 + d.val / 64 * 64 + (8 + d.val % 64)), by omega⟩ * si ⟨d.val % 64, h2⟩
          else S ⟨2568 + (h.val * 128 + d.val / 64 * 64 + (8 + (d.val % 64 - 8))), by omega⟩ * co ⟨d.val % 64 - 8, by omega⟩ + S ⟨2568 + (h.val * 128 + d.val / 64 * 64 + (d.val % 64 - 8)), by omega⟩ * si ⟨d.val % 64 - 8, by omega⟩
        else S ⟨2568 + (h.val * 128 + d.val / 64 * 64 + (16 + (d.val % 64 - 16))), by omega⟩ := by
  have q : ∀ (i j : Nat) (hi : i < 3592) (hj : j < 3592), i = j → S ⟨i, hi⟩ = S ⟨j, hj⟩ := by
    intro i j hi hj e; subst e; rfl
  by_cases h1 : d.val % 64 < 8
  · have h2 : d.val % 64 < 16 := by omega
    simp only [h1, h2, dite_true] at hC hA hB ⊢
    subst hC hA hB
    rw [mul_zero, add_zero, mul_neg, sub_eq_add_neg, q _ (2568 + (h.val * 128 + d.val / 64 * 64 + d.val % 64)) _ (by omega) (by omega), q (2056 + (512 + 128 * h.val + (d.val + 128 - 120) % 128)) (2568 + (h.val * 128 + d.val / 64 * 64 + (8 + d.val % 64))) _ (by omega) (by omega)]
  · by_cases h2 : d.val % 64 < 16
    · simp only [h1, h2, dite_true, dite_false] at hC hA hB ⊢
      subst hC hA hB
      rw [mul_zero, add_zero, q _ (2568 + (h.val * 128 + d.val / 64 * 64 + (8 + (d.val % 64 - 8)))) _ (by omega) (by omega), q (2056 + (512 + 128 * h.val + (d.val + 128 - 8) % 128)) (2568 + (h.val * 128 + d.val / 64 * 64 + (d.val % 64 - 8))) _ (by omega) (by omega)]
    · simp only [h1, h2, dite_false] at hC hA hB ⊢
      subst hC hA hB
      rw [mul_zero, mul_zero, add_zero, add_zero, mul_one, q _ (2568 + (h.val * 128 + d.val / 64 * 64 + (16 + (d.val % 64 - 16)))) _ (by omega) (by omega)]

/-- The staged cosines: the head's first eight columns and its next eight hold the cosines, the rest ones. -/
theorem tabC (c : Dev nD) (t : Fin cfg0.N) (r : Fin 512) (d : Fin 128) (p : Fin 8192) (hp : p.val = (t.val * 512 + r.val) % 8192) :
    (iblk m c 6 t : FVec Ideal S512x128 .f32) (ix2 r d) = (if h1 : d.val % 64 < 8 then (m ((c : Thread nD τ).loc main_arg1) : FVec Ideal S8192x8 .f32) (ix2 p ⟨d.val % 64, h1⟩)
      else if h2 : d.val % 64 < 16 then (m ((c : Thread nD τ).loc main_arg1) : FVec Ideal S8192x8 .f32) (ix2 p ⟨d.val % 64 - 8, by omega⟩) else (1 : EReal)) := by
  have h : t.val % 16 * 512 + r.val < 8192 := by omega
  have e : (⟨t.val % 16 * 512 + r.val, h⟩ : Fin 8192) = p := Fin.ext (by dsimp only; omega)
  rw [(at678 m c t r d h).1, (tabs2 m c).1, e, halves _ _ _ (by omega), tab4, parts]
  split_ifs
  · rfl
  · rfl
  · exact tab3 m c _ _

/-- The first staged sines: the negated sines in the head's first eight columns, zeros after. -/
theorem tabA (c : Dev nD) (t : Fin cfg0.N) (r : Fin 512) (d : Fin 128) (p : Fin 8192) (hp : p.val = (t.val * 512 + r.val) % 8192) :
    (iblk m c 7 t : FVec Ideal S512x128 .f32) (ix2 r d) = (if h1 : d.val % 64 < 8 then Neg.neg (α := EReal) ((m ((c : Thread nD τ).loc main_arg2) : FVec Ideal S8192x8 .f32) (ix2 p ⟨d.val % 64, h1⟩))
      else if h2 : d.val % 64 < 16 then (0 : EReal) else (0 : EReal)) := by
  have h : t.val % 16 * 512 + r.val < 8192 := by omega
  have e : (⟨t.val % 16 * 512 + r.val, h⟩ : Fin 8192) = p := Fin.ext (by dsimp only; omega)
  rw [(at678 m c t r d h).2.1, (tabs2 m c).2.1, e, halves _ _ _ (by omega), tab6, parts]
  split_ifs
  · exact tab5 m c _ _
  · exact tab0 m c _ _
  · exact tab1 m c _ _

/-- The second staged sines: the sines in the head's second eight columns, zeros elsewhere. -/
theorem tabB (c : Dev nD) (t : Fin cfg0.N) (r : Fin 512) (d : Fin 128) (p : Fin 8192) (hp : p.val = (t.val * 512 + r.val) % 8192) :
    (iblk m c 8 t : FVec Ideal S512x128 .f32) (ix2 r d) = (if h1 : d.val % 64 < 8 then (0 : EReal)
      else if h2 : d.val % 64 < 16 then (m ((c : Thread nD τ).loc main_arg2) : FVec Ideal S8192x8 .f32) (ix2 p ⟨d.val % 64 - 8, by omega⟩) else (0 : EReal)) := by
  have h : t.val % 16 * 512 + r.val < 8192 := by omega
  have e : (⟨t.val % 16 * 512 + r.val, h⟩ : Fin 8192) = p := Fin.ext (by dsimp only; omega)
  rw [(at678 m c t r d h).2.2, (tabs2 m c).2.2, e, halves _ _ _ (by omega), tab7, parts]
  split_ifs
  · exact tab0 m c _ _
  · rfl
  · exact tab1 m c _ _

/-- The loaded tables are the staged blocks. -/
theorem loads (x0 : FVec Ideal S512x1024 .f32) (x1 : FVec Ideal S1x1024 .f32) (x2 : FVec Ideal S1024x3584 .bf16) (x3 : FVec Ideal S1024x128 .bf16) (x4 : FVec Ideal S1x128 .f32) (x5 : FVec Ideal S1x128 .f32) (x6 : FVec Ideal S512x128 .f32) (x7 : FVec Ideal S512x128 .f32) (x8 : FVec Ideal S512x128 .f32) :
    (k0_pay46 (F := Ideal) x0 x1 x2 x3 x4 x5 x6 x7 x8 : FVec Ideal S512x128 .f32) = x6 ∧ (k0_pay47 (F := Ideal) x0 x1 x2 x3 x4 x5 x6 x7 x8 : FVec Ideal S512x128 .f32) = x7 ∧ (k0_pay48 (F := Ideal) x0 x1 x2 x3 x4 x5 x6 x7 x8 : FVec Ideal S512x128 .f32) = x8 := by
  refine ⟨funext fun y => ?_, funext fun y => ?_, funext fun y => ?_⟩ <;> idx_vars y
  · pointwise [k0_pay46, k0_pay12]
  · pointwise [k0_pay47, k0_pay13]
  · pointwise [k0_pay48, k0_pay14]

/-- The stored keys, every head at once. -/
theorem keys (P : FVec Ideal S512x1536 .f32) (C A B : FVec Ideal S512x128 .f32) (r : Fin 512) (h : Fin 4) (d : Fin 128) :
    (k0_pay1 (F := Ideal) (k0_pay20 C A B (k0_pay16 P)) (k0_pay27 P C A B) (k0_pay34 P C A B) (k0_pay40 P C A B) : FVec Ideal S512x4x128 .f32) (ix3 r h d)
      = (P (ix2 r ⟨512 + 128 * h.val + d.val, by omega⟩) * C (ix2 r d) + P (ix2 r ⟨512 + 128 * h.val + (d.val + 128 - 120) % 128, by omega⟩) * A (ix2 r d)
        + P (ix2 r ⟨512 + 128 * h.val + (d.val + 128 - 8) % 128, by omega⟩) * B (ix2 r d) : EReal) := by
  rw [heads]
  have h4 : h = 0 ∨ h = 1 ∨ h = 2 ∨ h = 3 := by revert h; decide
  rcases h4 with h4 | h4 | h4 | h4 <;> subst h4
  · exact head0 P C A B r d
  · exact head1 P C A B r d
  · exact head2 P C A B r d
  · exact head3 P C A B r d

/-- The keys are the reference's rotated keys. -/
theorem final13 (c : Dev nD) : (dats m 0 c).arrAt 13 (cfgs 0).N
    = Cert.ProjRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t _ y => ?_
  blk_simp
  rw [after0_13]; frame_out
  idx_vars y
  have ht : t.val < 128 := t.isLt
  have hb : t.val * 512 + y0.val < 65536 := by omega
  rw [emb13 t y0 y1 y2 hb]
  have e := fun j => attVal m c t y0 j (by omega) (by omega)
  unfold k0_pay52 k0_pay49
  rw [(loads (iblk m c 0 t) (iblk m c 1 t) (iblk m c 2 t) (iblk m c 3 t) (iblk m c 4 t) (iblk m c 5 t) (iblk m c 6 t) (iblk m c 7 t) (iblk m c 8 t)).1, (loads (iblk m c 0 t) (iblk m c 1 t) (iblk m c 2 t) (iblk m c 3 t) (iblk m c 4 t) (iblk m c 5 t) (iblk m c 6 t) (iblk m c 7 t) (iblk m c 8 t)).2.1, (loads (iblk m c 0 t) (iblk m c 1 t) (iblk m c 2 t) (iblk m c 3 t) (iblk m c 4 t) (iblk m c 5 t) (iblk m c 6 t) (iblk m c 7 t) (iblk m c 8 t)).2.2]
  generalize (k0_pay45 (F := Ideal) (iblk m c 0 t) (iblk m c 1 t) (iblk m c 2 t) (iblk m c 3 t) (iblk m c 4 t) (iblk m c 5 t) (iblk m c 6 t) (iblk m c 7 t) (iblk m c 8 t) : FVec Ideal S512x1536 .f32) = P at e ⊢
  refine (keys P _ _ _ y0 y1 y2).trans ?_
  refine Eq.trans ?_ (ref44 _ _ _ _ _ _ y1 y2).symm
  rw [ref41]
  simp only [ref23, e]
  exact ropeEq (fun q => (Cert.ProjRefIdeal.Read.val_main_v15 (F := Ideal) (m ((c : Thread nD τ).loc main_arg0)) (m ((c : Thread nD τ).loc main_arg3)) (m ((c : Thread nD τ).loc main_arg4)) : FVec Ideal Cert.ProjRefIdeal.S8x8192x3592 .f32) (ix3 ⟨(t.val * 512 + y0.val) / 8192, by omega⟩ ⟨(t.val * 512 + y0.val) % 8192, by omega⟩ q)) _ _ _
    (fun q => (m ((c : Thread nD τ).loc main_arg1) : FVec Ideal S8192x8 .f32) (ix2 ⟨(t.val * 512 + y0.val) % 8192, by omega⟩ q)) (fun q => (m ((c : Thread nD τ).loc main_arg2) : FVec Ideal S8192x8 .f32) (ix2 ⟨(t.val * 512 + y0.val) % 8192, by omega⟩ q)) y1 y2
    (tabC m c t y0 y2 _ rfl) (tabA m c t y0 y2 _ rfl) (tabB m c t y0 y2 _ rfl)

end Cert.ProjIdeal.Value
-- ==== Proof.GdnMath.lean ====
module

public import Mathlib.Data.EReal.Operations
public import Mathlib.Data.Matrix.Mul
public import Mathlib.LinearAlgebra.Matrix.NonsingularInverse
public import Mathlib.Tactic.NoncommRing
public import Idealize.ShloMosaic.PureOps.Ideal
public import Idealize.ShloMosaic.Lib.Pointwise.Sums

@[expose] public section

/-! The inverse of a unit lower triangular matrix two ways: row by row (forward substitution) and as the product
    of the first powers of the Neumann series; and what carries it from the reals to the extended reals. -/

namespace Cert.GdnInverse

/-- Forward substitution after `n` rows, `e` the right-hand side and `m` the strict lower part. -/
def fsub {R : Type} [AddCommMonoid R] [Sub R] [Mul R] (e m : Fin 32 → Fin 32 → R) : ℕ → Fin 32 → Fin 32 → R
  | 0 => e
  | n + 1 => fun i j => if i.val = n + 1 then e i j - ∑ k, m i k * fsub e m n k j else fsub e m n i j

/-- Rows up to the `n`-th satisfy the triangular system. -/
theorem fsub_row (e m : Fin 32 → Fin 32 → ℝ) (hm : ∀ i j : Fin 32, i.val ≤ j.val → m i j = 0) :
    ∀ (n : ℕ) (i j : Fin 32), i.val ≤ n → fsub e m n i j = e i j - ∑ k, m i k * fsub e m n k j := by
  intro n
  induction n with
  | zero =>
    intro i j hi
    have : ∑ k, m i k * fsub e m 0 k j = 0 := Finset.sum_eq_zero fun k _ => by rw [hm i k (by omega), zero_mul]
    rw [this, sub_zero]; rfl
  | succ n ih =>
    intro i j hi
    have hs : ∑ k, m i k * fsub e m (n + 1) k j = ∑ k, m i k * fsub e m n k j := by
      refine Finset.sum_congr rfl fun k _ => ?_
      by_cases hk : i.val ≤ k.val
      · rw [hm i k hk, zero_mul, zero_mul]
      · have : k.val ≠ n + 1 := by omega
        simp only [fsub, if_neg this]
    rw [hs]
    by_cases h : i.val = n + 1
    · simp only [fsub, if_pos h]
    · simp only [fsub, if_neg h]
      exact ih i j (by omega)

/-- Powers of a strictly lower triangular matrix move down the diagonals. -/
theorem pow_lower (X : Matrix (Fin 32) (Fin 32) ℝ) (hX : ∀ i j : Fin 32, i.val ≤ j.val → X i j = 0) :
    ∀ (n : ℕ) (i j : Fin 32), i.val < j.val + n → (X ^ n) i j = 0 := by
  intro n
  induction n with
  | zero =>
    intro i j h
    rw [pow_zero, Matrix.one_apply_ne (by intro e; subst e; omega)]
  | succ n ih =>
    intro i j h
    rw [pow_succ, Matrix.mul_apply]
    refine Finset.sum_eq_zero fun k _ => ?_
    by_cases hk : i.val < k.val + n
    · rw [ih i k hk, zero_mul]
    · rw [hX k j (by omega), mul_zero]

/-- The doubling product of the Neumann series. -/
def neumann (X : Matrix (Fin 32) (Fin 32) ℝ) : Matrix (Fin 32) (Fin 32) ℝ :=
  let X2 := X * X
  let P2 := (1 + X) + (1 + X) * X2
  let X4 := X2 * X2
  let P4 := P2 + P2 * X4
  let X8 := X4 * X4
  let P8 := P4 + P4 * X8
  let X16 := X8 * X8
  P8 + P8 * X16

/-- The product is a right inverse of one minus the matrix. -/
theorem neumann_spec (X : Matrix (Fin 32) (Fin 32) ℝ) (hX : ∀ i j : Fin 32, i.val ≤ j.val → X i j = 0) :
    (1 - X) * neumann X = 1 := by
  have step : ∀ (P Y Z : Matrix (Fin 32) (Fin 32) ℝ), (1 - X) * P = 1 - Y → Z = Y →
      (1 - X) * (P + P * Z) = 1 - Y * Y := by
    intro P Y Z h hz
    subst hz
    rw [mul_add, ← mul_assoc, h]
    noncomm_ring
  have h1 : (1 - X) * (1 + X) = 1 - X * X := by noncomm_ring
  have h2 := step _ _ _ h1 rfl
  have h4 := step _ _ _ h2 rfl
  have h8 := step _ _ _ h4 rfl
  have h16 := step _ _ _ h8 rfl
  have hz : X * X * (X * X) * (X * X * (X * X)) * (X * X * (X * X) * (X * X * (X * X))) *
      (X * X * (X * X) * (X * X * (X * X)) * (X * X * (X * X) * (X * X * (X * X)))) = X ^ 32 := by
    simp only [← pow_two, ← pow_mul]; rfl
  have h32 : X ^ 32 = 0 := by
    ext i j
    exact pow_lower X hX 32 i j (by omega)
  rw [hz, h32, sub_zero] at h16
  exact h16

/-- Forward substitution and the Neumann product agree. -/
theorem neumann_eq_fsub (m : Fin 32 → Fin 32 → ℝ) (hm : ∀ i j : Fin 32, i.val ≤ j.val → m i j = 0) (i j : Fin 32) :
    neumann (Matrix.of fun i j => - m i j) i j = fsub (fun i j => if i = j then 1 else 0) m 31 i j := by
  set X : Matrix (Fin 32) (Fin 32) ℝ := Matrix.of fun i j => - m i j with hXd
  have hX : ∀ i j : Fin 32, i.val ≤ j.val → X i j = 0 := fun i j h => by
    show - m i j = 0
    rw [hm i j h, neg_zero]
  have hP := neumann_spec X hX
  set T : Matrix (Fin 32) (Fin 32) ℝ := Matrix.of (fsub (fun i j => if i = j then 1 else 0) m 31) with hTd
  have hT : (1 - X) * T = 1 := by
    ext a b
    have h := fsub_row (fun i j => if i = j then 1 else 0) m hm 31 a b (by omega)
    have hx : (X * T) a b = - ∑ k, m a k * fsub (fun i j => if i = j then 1 else 0) m 31 k b := by
      rw [Matrix.mul_apply, ← Finset.sum_neg_distrib]
      exact Finset.sum_congr rfl fun k _ => neg_mul _ _
    rw [sub_mul, one_mul, Matrix.sub_apply, hx, Matrix.one_apply]
    show fsub _ m 31 a b - _ = _
    rw [h]; ring
  have hP' := mul_eq_one_comm.mp hP
  have : neumann X = T := by
    calc neumann X = neumann X * ((1 - X) * T) := by rw [hT, mul_one]
      _ = T := by rw [← mul_assoc, hP', one_mul]
  exact congrFun (congrFun this i) j

/-- A finite sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Forward substitution on real entries, read in the extended reals. -/
theorem fsub_coe (e m : Fin 32 → Fin 32 → ℝ) : ∀ (n : ℕ) (i j : Fin 32),
    fsub (fun i j => (e i j : EReal)) (fun i j => (m i j : EReal)) n i j = ((fsub e m n i j : ℝ) : EReal) := by
  intro n
  induction n with
  | zero => intro i j; rfl
  | succ n ih =>
    intro i j
    by_cases h : i.val = n + 1
    · simp only [fsub, if_pos h, ih, EReal.coe_sub, coe_sum, EReal.coe_mul]
    · simp only [fsub, if_neg h, ih]

/-- A running sum written as a left fold. -/
theorem foldl_add {n : ℕ} (f : Fin n → EReal) (v : EReal) :
    (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- A lane of a head: lane `32 h + i` of 128. -/
def lane (h : Fin 4) (i : Fin 32) : Fin 128 := ⟨32 * h.val + i.val, by omega⟩

/-- A sum over the 128 lanes, head by head. -/
theorem sum_lanes (f : Fin 128 → EReal) : ∑ a, f a = ∑ h : Fin 4, ∑ i : Fin 32, f (lane h i) := by
  rw [Idealize.ShloMosaic.Fin.sum_univ_tiles 4 32 rfl f]
  refine Finset.sum_congr rfl fun h _ => Finset.sum_congr rfl fun i _ => ?_
  refine congrArg f (Fin.ext ?_)
  simp only [lane]; omega

/-- An array over pairs of lanes that is real, block diagonal over the heads, with the given blocks. -/
def Blocks (A : Fin 128 → Fin 128 → EReal) (B : Fin 4 → Matrix (Fin 32) (Fin 32) ℝ) : Prop :=
  ∀ (h : Fin 4) (i : Fin 32) (h' : Fin 4) (j : Fin 32), A (lane h i) (lane h' j) = if h = h' then ((B h i j : ℝ) : EReal) else 0

/-- A sum over lanes against a row of a block diagonal array is the sum over that head's rows. -/
theorem Blocks.sum_mul {A : Fin 128 → Fin 128 → EReal} {B : Fin 4 → Matrix (Fin 32) (Fin 32) ℝ} (hA : Blocks A B)
    (h : Fin 4) (i : Fin 32) (g : Fin 128 → EReal) :
    ∑ a, A (lane h i) a * g a = ∑ j : Fin 32, ((B h i j : ℝ) : EReal) * g (lane h j) := by
  rw [sum_lanes, Finset.sum_eq_single h]
  · refine Finset.sum_congr rfl fun j _ => ?_
    rw [hA, if_pos rfl]
  · intro h' _ hne
    refine Finset.sum_eq_zero fun j _ => ?_
    rw [hA, if_neg (Ne.symm hne), zero_mul]
  · intro hn; exact absurd (Finset.mem_univ _) hn

/-- The product of two block diagonal arrays. -/
theorem Blocks.mul {A A' : Fin 128 → Fin 128 → EReal} {B B' : Fin 4 → Matrix (Fin 32) (Fin 32) ℝ} (hA : Blocks A B) (hA' : Blocks A' B') :
    Blocks (fun a b => ∑ k, A a k * A' k b) (fun h => B h * B' h) := by
  intro h i h' j
  show ∑ k, A (lane h i) k * A' k (lane h' j) = _
  rw [hA.sum_mul h i fun k => A' k (lane h' j)]
  by_cases e : h = h'
  · subst e
    rw [if_pos rfl]
    show _ = (((B h * B' h) i j : ℝ) : EReal)
    rw [Matrix.mul_apply, coe_sum]
    refine Finset.sum_congr rfl fun k _ => ?_
    rw [hA', if_pos rfl, EReal.coe_mul]
  · rw [if_neg e]
    refine Finset.sum_eq_zero fun k _ => ?_
    rw [hA', if_neg e, mul_zero]

/-- The sum of two block diagonal arrays. -/
theorem Blocks.add {A A' : Fin 128 → Fin 128 → EReal} {B B' : Fin 4 → Matrix (Fin 32) (Fin 32) ℝ} (hA : Blocks A B) (hA' : Blocks A' B') :
    Blocks (fun a b => A a b + A' a b) (fun h => B h + B' h) := by
  intro h i h' j
  show A _ _ + A' _ _ = _
  rw [hA, hA']
  by_cases e : h = h'
  · subst e
    rw [if_pos rfl, if_pos rfl, if_pos rfl]
    show _ = (((B h + B' h) i j : ℝ) : EReal)
    rw [Matrix.add_apply, EReal.coe_add]
  · rw [if_neg e, if_neg e, if_neg e, add_zero]

/-- A square is not negative. -/
theorem sq_nonneg' (x : EReal) : 0 ≤ x * x := by
  rcases le_total 0 x with h | h
  · exact mul_nonneg h h
  · have := EReal.mul_nonneg_iff.mpr (Or.inr ⟨h, h⟩)
    exact this

open Idealize.ShloMosaic in
/-- A vector over its own root mean square is real, whatever its entries. -/
theorem normalized_real {n : ℕ} (v : Fin n → EReal) (e : ℝ) (he : 0 < e) (d : Fin n) :
    ∃ r : ℝ, v d * Ideal.rsqrt ((∑ k, v k * v k) + (e : EReal)) = (r : EReal) := by
  have h0 : ∀ k, 0 ≤ v k * v k := fun k => sq_nonneg' _
  have hs : 0 ≤ ∑ k, v k * v k := Finset.sum_nonneg fun k _ => h0 k
  have hd : v d * v d ≤ ∑ k, v k * v k := Finset.single_le_sum (fun k _ => h0 k) (Finset.mem_univ d)
  generalize (∑ k, v k * v k) = S at hs hd
  induction S using EReal.rec with
  | bot => exact absurd hs (by simp)
  | top => exact ⟨0, by simp⟩
  | coe s =>
    have hs' : 0 ≤ s := by exact_mod_cast hs
    rw [← EReal.coe_add, Ideal.rsqrt_coe, if_neg (by linarith), if_neg (by linarith)]
    generalize v d = x at hd
    induction x using EReal.rec with
    | bot => exact absurd hd (by simp)
    | top => exact absurd hd (by simp)
    | coe r => exact ⟨r * (Real.sqrt (s + e))⁻¹, by rw [EReal.coe_mul]⟩

end Cert.GdnInverse
-- ==== Proof.GdnModel.lean ====
module

public import proofs.«01_k».proof.Proof.GdnMath
public import Idealize.ShloMosaic.Lib.Pipeline.ValueKit
public import Idealize.ShloMosaic.Lib.Pointwise

@[expose] public section

noncomputable section

open Idealize.ShloMosaic

namespace Cert.GdnInverse

/-- What one head of one block of 32 tokens of the gated delta rule reads: queries, keys, values, log decays, write
    strengths, and the state before the block. -/
structure Head where
  /-- queries -/
  q : Fin 32 → Fin 128 → EReal
  /-- keys -/
  k : Fin 32 → Fin 128 → EReal
  /-- values -/
  v : Fin 32 → Fin 128 → EReal
  /-- log decays -/
  g : Fin 32 → EReal
  /-- write strengths -/
  b : Fin 32 → EReal
  /-- the state before the block -/
  s : Fin 128 → Fin 128 → EReal

namespace Head

variable (H : Head)

/-- The log decay summed up to a token. -/
def gc (i : Fin 32) : EReal := ∑ j : Fin 32, if j ≤ i then H.g j else 0
/-- The decay between two tokens, zero forward in time. -/
def dec (i j : Fin 32) : EReal := Ideal.exp (if j ≤ i then H.gc i - H.gc j else ⊥)
/-- The strictly lower triangular system of the block. -/
def m (i j : Fin 32) : EReal := if j < i then (∑ d, H.k i d * H.b i * H.k j d) * H.dec i j else 0
/-- The inverse of the system, by forward substitution. -/
def T (i j : Fin 32) : EReal := fsub (fun i j => if i = j then 1 else 0) H.m 31 i j
/-- The values written, before the state's part. -/
def u (i : Fin 32) (d : Fin 128) : EReal := ∑ j, H.T i j * (H.v j d * H.b j)
/-- What the written values read of the state. -/
def w (i : Fin 32) (d : Fin 128) : EReal := ∑ j, H.T i j * (H.k j d * H.b j * Ideal.exp (H.gc j))
/-- The values written. -/
def vn (i : Fin 32) (d : Fin 128) : EReal := H.u i d - ∑ a, H.w i a * H.s a d
/-- The state after the block. -/
def new (a d : Fin 128) : EReal := H.s a d * Ideal.exp (H.gc 31) + ∑ i, (H.k i a * Ideal.exp (H.gc 31 - H.gc i)) * H.vn i d
/-- The scores of the block with their decay. -/
def a (i j : Fin 32) : EReal := (∑ d, H.q i d * H.k j d) * H.dec i j
/-- The head's output before its norm. -/
def o (i : Fin 32) (d : Fin 128) : EReal := (∑ a, H.q i a * Ideal.exp (H.gc i) * H.s a d) + ∑ j, H.a i j * H.vn j d

end Head

/-- A choice by a decided bit is the choice by the condition. -/
theorem select_ite {α : Type} (p : Prop) [Decidable p] (a b : α) : Scalar.select (if p then 1#1 else 0#1) a b = if p then a else b := by
  by_cases h : p <;> simp [h, Scalar.select]

/-- Comparing two token indices as words compares them. -/
theorem sge32 (i j : Fin 32) : IntOp.cmpi CmpIPredicate.sge (BitVec.ofNat 32 i.val) (BitVec.ofNat 32 j.val) = if j ≤ i then 1#1 else 0#1 := by
  revert i j; decide +kernel

/-- Comparing two token indices as words, strictly. -/
theorem sgt32 (i j : Fin 32) : IntOp.cmpi CmpIPredicate.sgt (BitVec.ofNat 32 i.val) (BitVec.ofNat 32 j.val) = if j < i then 1#1 else 0#1 := by
  revert i j; decide +kernel

/-- Comparing two token indices as words, the other way round. -/
theorem sle32 (i j : Fin 32) : IntOp.cmpi CmpIPredicate.sle (BitVec.ofNat 32 i.val) (BitVec.ofNat 32 j.val) = if i ≤ j then 1#1 else 0#1 := by
  revert i j; decide +kernel

/-- Comparing two token indices as words for equality. -/
theorem eq32 (i j : Fin 32) : IntOp.cmpi CmpIPredicate.eq (BitVec.ofNat 32 i.val) (BitVec.ofNat 32 j.val) = if i = j then 1#1 else 0#1 := by
  revert i j; decide +kernel

/-- The same with a zero offset on one side. -/
theorem eq32' (i j : Fin 32) : IntOp.cmpi CmpIPredicate.eq (IntOp.addi (BitVec.ofNat 32 i.val) 0#32) (BitVec.ofNat 32 j.val) = if i = j then 1#1 else 0#1 := by
  revert i j; decide +kernel

/-- The mask's word is minus infinity. -/
theorem neg_inf : Ideal.ofBits .f32 0xFF800000#32 = ⊥ := by simp [Ideal.ofBits, Ideal.ieee]

/-- The signed value of a decided bit widened to a word. -/
theorem sitofp_bit (p : Prop) [Decidable p] : (FloatOps.sitofp (F := Ideal) .f32 (BitVec.setWidth 32 (if p then 1#1 else 0#1)) : EReal) = if p then 1 else 0 := by
  by_cases h : p
  · rw [if_pos h, if_pos h]; show (((BitVec.toInt (BitVec.setWidth 32 1#1) : ℤ) : ℝ) : EReal) = 1; norm_num
  · rw [if_neg h, if_neg h]; show (((BitVec.toInt (BitVec.setWidth 32 0#1) : ℤ) : ℝ) : EReal) = 0; norm_num

/-- The value of a decided bit. -/
theorem uitofp_bit (p : Prop) [Decidable p] : (FloatOps.uitofp (F := Ideal) .f32 (if p then 1#1 else 0#1 : BitVec 1) : EReal) = if p then 1 else 0 := by
  by_cases h : p
  · rw [if_pos h, if_pos h]; show (((BitVec.toNat 1#1 : ℕ) : ℝ) : EReal) = 1; norm_num
  · rw [if_neg h, if_neg h]; show (((BitVec.toNat 0#1 : ℕ) : ℝ) : EReal) = 0; norm_num

end Cert.GdnInverse
-- ==== Proof.GdnMask.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnModel

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

open Cert.GdnInverse

/-- The row index of every element of a 128 by 128 array. -/
abbrev io0 : IVec S128x128 32 := iota Kind.tc S128x128 32 [0] iota_S128x128_d0_w32
/-- The column index of every element of a 128 by 128 array. -/
abbrev io1 : IVec S128x128 32 := iota Kind.tc S128x128 32 [1] iota_S128x128_d1_w32

/-- The head of a row. -/
theorem row_head (i j : Fin 128) : k0_pay13 (ix2 i j) = BitVec.ofNat 32 (i.val / 32) := by
  pointwise [k0_pay13]
  revert i
  decide +kernel

/-- Whether a row and a column belong to the same head. -/
theorem same_head (i j : Fin 128) : k0_pay16 io1 k0_pay13 (32#32) k0_pay14 k0_pay15 (ix2 i j)
    = Scalar.cmpi .eq (BitVec.ofNat 32 (i.val / 32)) (BitVec.ofNat 32 (j.val / 32)) := by
  rw [← row_head i j]
  generalize k0_pay13 = R
  pointwise [k0_pay16, k0_pay14, k0_pay15]
  congr 1
  revert j
  decide +kernel

/-- Two head numbers as words are equal when the heads are. -/
theorem eq_head (h h' : Fin 4) : Scalar.cmpi .eq (BitVec.ofNat 32 h.val) (BitVec.ofNat 32 h'.val) = if h = h' then 1#1 else 0#1 := by
  revert h h'; decide +kernel

/-- The head a lane belongs to. -/
theorem lane_div (h : Fin 4) (i : Fin 32) : (lane h i).val / 32 = h.val := by
  show (32 * h.val + i.val) / 32 = h.val
  omega

/-- Comparing a row index with a column index. -/
theorem sge_idx (i j : Fin 128) : IntOp.cmpi CmpIPredicate.sge (BitVec.ofNat 32 i.val) (BitVec.ofNat 32 j.val) = if j.val ≤ i.val then 1#1 else 0#1 := by
  revert i j
  decide +kernel

/-- Comparing a row index with a column index, strictly. -/
theorem sgt_idx (i j : Fin 128) : IntOp.cmpi CmpIPredicate.sgt (BitVec.ofNat 32 i.val) (BitVec.ofNat 32 j.val) = if j.val < i.val then 1#1 else 0#1 := by
  revert i j
  decide +kernel

/-- Comparing a row index with a column index for equality. -/
theorem eq_idx (i j : Fin 128) : IntOp.cmpi CmpIPredicate.eq (BitVec.ofNat 32 i.val) (BitVec.ofNat 32 j.val) = if i = j then 1#1 else 0#1 := by
  revert i j
  decide +kernel

/-- The mask of the block diagonal lower triangle. -/
theorem tril_bd (h : Fin 4) (i : Fin 32) (h' : Fin 4) (j : Fin 32) :
    k0_pay17 io0 io1 k0_pay13 (32#32) k0_pay14 k0_pay15 (ix2 (lane h i) (lane h' j)) = if h = h' ∧ j ≤ i then 1#1 else 0#1 := by
  have e := same_head (lane h i) (lane h' j)
  rw [lane_div, lane_div, eq_head] at e
  pointwise [k0_pay17]
  rw [e, sge_idx]
  by_cases hh : h = h'
  · subst hh
    by_cases hj : j ≤ i
    · rw [if_pos rfl, if_pos (show (lane h j).val ≤ (lane h i).val by simp [lane]; exact hj), if_pos ⟨rfl, hj⟩]
      rfl
    · rw [if_pos rfl, if_neg (show ¬ (lane h j).val ≤ (lane h i).val by simpa [lane] using hj), if_neg (fun x => hj x.2)]
      rfl
  · rw [if_neg hh, if_neg (show ¬ (h = h' ∧ j ≤ i) from fun x => hh x.1)]
    split <;> rfl

/-- The mask of the block diagonal strictly lower triangle. -/
theorem strict_bd (h : Fin 4) (i : Fin 32) (h' : Fin 4) (j : Fin 32) :
    k0_pay18 io0 io1 k0_pay13 (32#32) k0_pay14 k0_pay15 (ix2 (lane h i) (lane h' j)) = if h = h' ∧ j < i then 1#1 else 0#1 := by
  have e := same_head (lane h i) (lane h' j)
  rw [lane_div, lane_div, eq_head] at e
  pointwise [k0_pay18]
  rw [e, sgt_idx]
  by_cases hh : h = h'
  · subst hh
    by_cases hj : j < i
    · rw [if_pos rfl, if_pos (show (lane h j).val < (lane h i).val by simp [lane]; exact hj), if_pos ⟨rfl, hj⟩]
      rfl
    · rw [if_pos rfl, if_neg (show ¬ (lane h j).val < (lane h i).val by simpa [lane] using hj), if_neg (fun x => hj x.2)]
      rfl
  · rw [if_neg hh, if_neg (show ¬ (h = h' ∧ j < i) from fun x => hh x.1)]
    split <;> rfl

/-- The identity of all heads. -/
theorem eye_bd (i j : Fin 128) : k0_pay19 (F := Ideal) io0 io1 (ix2 i j) = if i = j then 1 else 0 := by
  pointwise [k0_pay19]
  rw [eq_idx, sitofp_bit]

/-- The lower triangle of ones. -/
theorem tril_col (i j : Fin 32) : k0_pay20 (F := Ideal) (ix2 i j) = if j ≤ i then 1 else 0 := by
  pointwise [k0_pay20]
  rw [sge32, sitofp_bit]

/-- The upper triangle of ones. -/
theorem triu_col (i j : Fin 32) : k0_pay21 (F := Ideal) (ix2 i j) = if i ≤ j then 1 else 0 := by
  pointwise [k0_pay21]
  rw [sle32, sitofp_bit]

end Cert.GdnIdeal.Value
-- ==== Proof.GdnHeads.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnMask

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

open Cert.GdnInverse

variable (GB : FVec Ideal S1x32x128 .f32) (q k v : Fin 4 → FVec Ideal S32x128 .f32) (S : Fin 4 → FVec Ideal S128x128 .f32)

/-- The normalized and scaled queries of the four heads. -/
def qn : Fin 4 → FVec Ideal S32x128 .f32 := ![k0_pay30 (F := Ideal) (q 0), k0_pay44 (F := Ideal) (q 1), k0_pay59 (F := Ideal) (q 2), k0_pay73 (F := Ideal) (q 3)]
/-- The normalized keys. -/
def kn : Fin 4 → FVec Ideal S32x128 .f32 := ![k0_pay31 (F := Ideal) (k 0), k0_pay45 (F := Ideal) (k 1), k0_pay60 (F := Ideal) (k 2), k0_pay74 (F := Ideal) (k 3)]
/-- The summed log decays along the rows. -/
def dcol : Fin 4 → FVec Ideal S32x128 .f32 := ![k0_pay42 (F := Ideal) (k0_pay32 (F := Ideal) (k0_pay20 (F := Ideal)) GB), k0_pay57 (F := Ideal) (k0_pay46 (F := Ideal) (k0_pay28 (F := Ideal) (k0_pay20 (F := Ideal)) GB)),
  k0_pay71 (F := Ideal) (k0_pay61 (F := Ideal) (k0_pay28 (F := Ideal) (k0_pay20 (F := Ideal)) GB)), k0_pay85 (F := Ideal) (k0_pay28 (F := Ideal) (k0_pay20 (F := Ideal)) GB)]
/-- The summed log decays along the columns. -/
def drow : Fin 4 → FVec Ideal S1x32 .f32 := ![k0_pay43 (F := Ideal) (k0_pay29 (F := Ideal) (k0_pay21 (F := Ideal)) (k0_pay22 (F := Ideal) GB)), k0_pay58 (F := Ideal) (k0_pay29 (F := Ideal) (k0_pay21 (F := Ideal)) (k0_pay22 (F := Ideal) GB)),
  k0_pay72 (F := Ideal) (k0_pay29 (F := Ideal) (k0_pay21 (F := Ideal)) (k0_pay22 (F := Ideal) GB)), k0_pay86 (F := Ideal) (k0_pay29 (F := Ideal) (k0_pay21 (F := Ideal)) (k0_pay22 (F := Ideal) GB))]
/-- The keys times their write strengths. -/
def kb : Fin 4 → FVec Ideal S32x128 .f32 := ![k0_pay36 (F := Ideal) GB (k 0), k0_pay50 (F := Ideal) (k0_pay27 (F := Ideal) GB) (k 1),
  k0_pay65 (F := Ideal) (k0_pay27 (F := Ideal) GB) (k 2), k0_pay79 (F := Ideal) (k0_pay27 (F := Ideal) GB) (k 3)]
/-- The values times their write strengths. -/
def vb : Fin 4 → FVec Ideal S32x128 .f32 := ![k0_pay37 (F := Ideal) GB (v 0), k0_pay51 (F := Ideal) (k0_pay27 (F := Ideal) GB) (v 1),
  k0_pay66 (F := Ideal) (k0_pay27 (F := Ideal) GB) (v 2), k0_pay80 (F := Ideal) (k0_pay27 (F := Ideal) GB) (v 3)]
/-- The keys times their write strengths and decays. -/
def ke : Fin 4 → FVec Ideal S32x128 .f32 := ![k0_pay38 (F := Ideal) (k0_pay20 (F := Ideal)) GB (k 0), k0_pay52 (F := Ideal) (k0_pay27 (F := Ideal) GB) (k0_pay28 (F := Ideal) (k0_pay20 (F := Ideal)) GB) (k 1),
  k0_pay67 (F := Ideal) (k0_pay27 (F := Ideal) GB) (k0_pay28 (F := Ideal) (k0_pay20 (F := Ideal)) GB) (k 2), k0_pay81 (F := Ideal) (k0_pay27 (F := Ideal) GB) (k0_pay28 (F := Ideal) (k0_pay20 (F := Ideal)) GB) (k 3)]
/-- The queries times their decays. -/
def qg : Fin 4 → FVec Ideal S32x128 .bf16 := ![k0_pay39 (F := Ideal) (k0_pay30 (F := Ideal) (q 0)) (k0_pay35 (F := Ideal) (k0_pay20 (F := Ideal)) GB), k0_pay53 (F := Ideal) (k0_pay28 (F := Ideal) (k0_pay20 (F := Ideal)) GB) (q 1),
  k0_pay68 (F := Ideal) (k0_pay28 (F := Ideal) (k0_pay20 (F := Ideal)) GB) (q 2), k0_pay82 (F := Ideal) (k0_pay28 (F := Ideal) (k0_pay20 (F := Ideal)) GB) (q 3)]
/-- The keys times their decay to the block's end. -/
def kd : Fin 4 → FVec Ideal S32x128 .bf16 := ![k0_pay40 (F := Ideal) (k0_pay31 (F := Ideal) (k 0)) (k0_pay32 (F := Ideal) (k0_pay20 (F := Ideal)) GB) (k0_pay34 (F := Ideal) (k0_pay20 (F := Ideal)) GB),
  k0_pay55 (F := Ideal) (k0_pay45 (F := Ideal) (k 1)) (k0_pay54 (F := Ideal) (k0_pay28 (F := Ideal) (k0_pay20 (F := Ideal)) GB)),
  k0_pay69 (F := Ideal) (k0_pay28 (F := Ideal) (k0_pay20 (F := Ideal)) GB) (k 2), k0_pay83 (F := Ideal) (k0_pay28 (F := Ideal) (k0_pay20 (F := Ideal)) GB) (k 3)]
/-- The decay of the whole block. -/
def eg : Fin 4 → FVec Ideal S1x1 .f32 := ![k0_pay41 (F := Ideal) (k0_pay34 (F := Ideal) (k0_pay20 (F := Ideal)) GB), k0_pay56 (F := Ideal) (k0_pay48 (F := Ideal) (k0_pay28 (F := Ideal) (k0_pay20 (F := Ideal)) GB)),
  k0_pay70 (F := Ideal) (k0_pay28 (F := Ideal) (k0_pay20 (F := Ideal)) GB), k0_pay84 (F := Ideal) (k0_pay28 (F := Ideal) (k0_pay20 (F := Ideal)) GB)]

/-- A head of the kernel's block: its normalized queries and keys, its values, its gates and its state. -/
def khead (h : Fin 4) : Head where
  q i d := qn q h (ix2 i d)
  k i d := kn k h (ix2 i d)
  v i d := v h (ix2 i d)
  g i := GB (ix3 0 i ⟨h.val, by omega⟩)
  b i := GB (ix3 0 i ⟨4 + h.val, by omega⟩)
  s a d := S h (ix2 a d)

/-- The normalized queries at one element. -/
theorem qn_apply (h : Fin 4) (i : Fin 32) (d : Fin 128) : qn q h (ix2 i d) = q h (ix2 i d) * Ideal.rsqrt ((∑ x, q h (ix2 i x) * q h (ix2 i x)) + Ideal.ofBits .f32 0x358637BD#32) * Ideal.ofBits .f32 0x3DB504F3#32 := by
  fin_cases h
  · pointwise [qn, k0_pay30]
  · pointwise [qn, k0_pay44]
  · pointwise [qn, k0_pay59]
  · pointwise [qn, k0_pay73]

/-- The normalized keys at one element. -/
theorem kn_apply (h : Fin 4) (i : Fin 32) (d : Fin 128) : kn k h (ix2 i d) = k h (ix2 i d) * Ideal.rsqrt ((∑ x, k h (ix2 i x) * k h (ix2 i x)) + Ideal.ofBits .f32 0x358637BD#32) := by
  fin_cases h
  · pointwise [kn, k0_pay31]
  · pointwise [kn, k0_pay45]
  · pointwise [kn, k0_pay60]
  · pointwise [kn, k0_pay74]

/-- A sum against the lower triangle of ones is the running sum. -/
theorem run_sum (f : Fin 32 → EReal) (i : Fin 32) : ∑ x, k0_pay20 (F := Ideal) (ix2 i x) * f x = ∑ x, if x ≤ i then f x else 0 := by
  refine Finset.sum_congr rfl fun x _ => ?_
  rw [tril_col]
  split
  · rw [one_mul]
  · rw [zero_mul]

/-- A sum against the upper triangle of ones is the running sum. -/
theorem run_sum' (f : Fin 32 → EReal) (i : Fin 32) : ∑ x, f x * k0_pay21 (F := Ideal) (ix2 x i) = ∑ x, if x ≤ i then f x else 0 := by
  refine Finset.sum_congr rfl fun x _ => ?_
  rw [triu_col]
  split
  · rw [mul_one]
  · rw [mul_zero]

/-- The column of summed log decays at one element. -/
theorem dcol_apply (h : Fin 4) (i : Fin 32) (d : Fin 128) : dcol GB h (ix2 i d) = (khead GB q k v S h).gc i := by
  refine Eq.trans ?_ (run_sum (khead GB q k v S h).g i)
  fin_cases h
  · pointwise [dcol, khead, k0_pay42, k0_pay32, k0_pay28, k0_pay27]
  · pointwise [dcol, khead, k0_pay57, k0_pay46, k0_pay28, k0_pay27]
  · pointwise [dcol, khead, k0_pay71, k0_pay61, k0_pay28, k0_pay27]
  · pointwise [dcol, khead, k0_pay85, k0_pay75, k0_pay28, k0_pay27]

/-- The row of summed log decays at one element. -/
theorem drow_apply (h : Fin 4) (j : Fin 32) : drow GB h (ix2 0 j) = (khead GB q k v S h).gc j := by
  refine Eq.trans ?_ (run_sum' (khead GB q k v S h).g j)
  fin_cases h
  · pointwise [khead, drow, k0_pay43, k0_pay29, k0_pay22]
  · pointwise [khead, drow, k0_pay58, k0_pay29, k0_pay22]
  · pointwise [khead, drow, k0_pay72, k0_pay29, k0_pay22]
  · pointwise [khead, drow, k0_pay86, k0_pay29, k0_pay22]

/-- The keys times their write strengths at one element. -/
theorem kb_apply (h : Fin 4) (i : Fin 32) (d : Fin 128) : kb GB k h (ix2 i d) = (khead GB q k v S h).k i d * (khead GB q k v S h).b i := by
  fin_cases h
  · pointwise [khead, kb, kn, k0_pay36, k0_pay33, k0_pay27, k0_pay31]
  · pointwise [khead, kb, kn, k0_pay50, k0_pay47, k0_pay27, k0_pay45]
  · pointwise [khead, kb, kn, k0_pay65, k0_pay62, k0_pay27, k0_pay60]
  · pointwise [khead, kb, kn, k0_pay79, k0_pay76, k0_pay27, k0_pay74]

/-- The values times their write strengths at one element. -/
theorem vb_apply (h : Fin 4) (i : Fin 32) (d : Fin 128) : vb GB v h (ix2 i d) = (khead GB q k v S h).v i d * (khead GB q k v S h).b i := by
  fin_cases h
  · pointwise [khead, vb, k0_pay37, k0_pay33, k0_pay27]
  · pointwise [khead, vb, k0_pay51, k0_pay47, k0_pay27]
  · pointwise [khead, vb, k0_pay66, k0_pay62, k0_pay27]
  · pointwise [khead, vb, k0_pay80, k0_pay76, k0_pay27]

/-- The keys times their write strengths and decays at one element. -/
theorem ke_apply (h : Fin 4) (i : Fin 32) (d : Fin 128) : ke GB k h (ix2 i d) = (khead GB q k v S h).k i d * (khead GB q k v S h).b i * Ideal.exp ((khead GB q k v S h).gc i) := by
  rw [← dcol_apply GB q k v S h i 0]
  fin_cases h
  · pointwise [khead, ke, dcol, kn, k0_pay38, k0_pay35, k0_pay36, k0_pay33, k0_pay31, k0_pay42, k0_pay32, k0_pay28, k0_pay27]
  · pointwise [khead, ke, dcol, kn, k0_pay52, k0_pay50, k0_pay49, k0_pay47, k0_pay45, k0_pay57, k0_pay46, k0_pay28, k0_pay27]
  · pointwise [khead, ke, dcol, kn, k0_pay67, k0_pay64, k0_pay65, k0_pay62, k0_pay60, k0_pay71, k0_pay61, k0_pay28, k0_pay27]
  · pointwise [khead, ke, dcol, kn, k0_pay81, k0_pay78, k0_pay79, k0_pay76, k0_pay74, k0_pay85, k0_pay75, k0_pay28, k0_pay27]

/-- The queries times their decays at one element. -/
theorem qg_apply (h : Fin 4) (i : Fin 32) (d : Fin 128) : qg GB q h (ix2 i d) = (khead GB q k v S h).q i d * Ideal.exp ((khead GB q k v S h).gc i) := by
  rw [← dcol_apply GB q k v S h i 0]
  fin_cases h
  · pointwise [khead, qg, dcol, qn, k0_pay39, k0_pay35, k0_pay30, k0_pay42, k0_pay32, k0_pay28, k0_pay27]
  · pointwise [khead, qg, dcol, qn, k0_pay53, k0_pay49, k0_pay44, k0_pay57, k0_pay46, k0_pay28, k0_pay27]
  · pointwise [khead, qg, dcol, qn, k0_pay68, k0_pay64, k0_pay59, k0_pay71, k0_pay61, k0_pay28, k0_pay27]
  · pointwise [khead, qg, dcol, qn, k0_pay82, k0_pay78, k0_pay73, k0_pay85, k0_pay75, k0_pay28, k0_pay27]

/-- The keys times their decay to the block's end at one element. -/
theorem kd_apply (h : Fin 4) (i : Fin 32) (d : Fin 128) : kd GB k h (ix2 i d) = (khead GB q k v S h).k i d * Ideal.exp ((khead GB q k v S h).gc 31 - (khead GB q k v S h).gc i) := by
  rw [← dcol_apply GB q k v S h i 0]
  rw [← dcol_apply GB q k v S h 31 0]
  fin_cases h
  · pointwise [khead, kd, dcol, kn, k0_pay40, k0_pay34, k0_pay31, k0_pay42, k0_pay32, k0_pay28, k0_pay27]
  · pointwise [khead, kd, dcol, kn, k0_pay55, k0_pay54, k0_pay48, k0_pay45, k0_pay57, k0_pay46, k0_pay28, k0_pay27]
  · pointwise [khead, kd, dcol, kn, k0_pay69, k0_pay63, k0_pay60, k0_pay71, k0_pay61, k0_pay28, k0_pay27]
  · pointwise [khead, kd, dcol, kn, k0_pay83, k0_pay77, k0_pay74, k0_pay85, k0_pay75, k0_pay28, k0_pay27]

/-- The decay of the whole block at its element. -/
theorem eg_apply (h : Fin 4) : eg GB h (ix2 0 0) = Ideal.exp ((khead GB q k v S h).gc 31) := by
  rw [← dcol_apply GB q k v S h 31 0]
  fin_cases h
  · pointwise [khead, eg, dcol, k0_pay41, k0_pay34, k0_pay42, k0_pay32, k0_pay28, k0_pay27]
  · pointwise [khead, eg, dcol, k0_pay56, k0_pay48, k0_pay57, k0_pay46, k0_pay28, k0_pay27]
  · pointwise [khead, eg, dcol, k0_pay70, k0_pay63, k0_pay71, k0_pay61, k0_pay28, k0_pay27]
  · pointwise [khead, eg, dcol, k0_pay84, k0_pay77, k0_pay85, k0_pay75, k0_pay28, k0_pay27]

end Cert.GdnIdeal.Value
-- ==== Proof.GdnStacks.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnHeads

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

open Cert.GdnInverse

/-- Four stacked blocks read at a lane of one head. -/
theorem stack4 (f : Fin 4 → S32x128.Idx → EReal) (h : Fin 4) (i : Fin 32) (d : Fin 128) :
    concatenate S128x128 0 [⟨S32x128, f 0⟩, ⟨S32x128, f 1⟩, ⟨S32x128, f 2⟩, ⟨S32x128, f 3⟩] concatenates_S32x128_S32x128_S32x128_S32x128_S128x128_d0 (ix2 (lane h i) d) = f h (ix2 i d) := by
  unfold lane
  fin_cases h
  · pointwise
  · pointwise
  · pointwise
    rw [dif_neg (by omega), dif_neg (by omega), dif_pos (by omega)]
    exact congrArg (f 2) (congrArg (fun z => ix2 z d) (Fin.ext (by simp; omega)))
  · pointwise
    rw [dif_neg (by omega), dif_neg (by omega), dif_neg (by omega)]
    exact congrArg (f 3) (congrArg (fun z => ix2 z d) (Fin.ext (by simp; omega)))

/-- Four rows set side by side read at a lane of one head. -/
theorem row4 (f : Fin 4 → S1x32.Idx → EReal) (h : Fin 4) (j : Fin 32) :
    concatenate S1x128 1 [⟨S1x32, f 0⟩, ⟨S1x32, f 1⟩, ⟨S1x32, f 2⟩, ⟨S1x32, f 3⟩] concatenates_S1x32_S1x32_S1x32_S1x32_S1x128_d1 (ix2 0 (lane h j)) = f h (ix2 0 j) := by
  unfold lane
  fin_cases h
  · pointwise
  · pointwise
  · pointwise
    rw [dif_neg (by omega), dif_neg (by omega), dif_pos (by omega)]
    exact congrArg (f 2) (congrArg (fun z => ix2 0 z) (Fin.ext (by simp; omega)))
  · pointwise
    rw [dif_neg (by omega), dif_neg (by omega), dif_neg (by omega)]
    exact congrArg (f 3) (congrArg (fun z => ix2 0 z) (Fin.ext (by simp; omega)))

variable (GB : FVec Ideal S1x32x128 .f32) (q k v : Fin 4 → FVec Ideal S32x128 .f32) (S : Fin 4 → FVec Ideal S128x128 .f32)

/-- The mask of the block diagonal lower triangle. -/
abbrev trilM : IVec S128x128 1 := k0_pay17 io0 io1 k0_pay13 (32#32) k0_pay14 k0_pay15
/-- The mask of the block diagonal strictly lower triangle. -/
abbrev strictM : IVec S128x128 1 := k0_pay18 io0 io1 k0_pay13 (32#32) k0_pay14 k0_pay15
/-- The identity of all heads. -/
abbrev eyeM : FVec Ideal S128x128 .f32 := k0_pay19 (F := Ideal) io0 io1
/-- The stacked keys. -/
def keys : FVec Ideal S128x128 .bf16 := k0_pay87 (F := Ideal) (kn k 0) (kn k 1) (kn k 2) (k 3)
/-- The decays of all heads. -/
def decays : FVec Ideal S128x128 .f32 := k0_pay88 (F := Ideal) trilM (dcol GB 0) (drow GB 0) (dcol GB 1) (drow GB 1) (dcol GB 2) (drow GB 2) (dcol GB 3) (drow GB 3)
/-- The negated triangular systems of all heads. -/
def systems : FVec Ideal S128x128 .f32 := k0_pay89 (F := Ideal) trilM strictM (kb GB k 0) (dcol GB 0) (drow GB 0) (kb GB k 1) (dcol GB 1) (drow GB 1) (kb GB k 2) (dcol GB 2) (drow GB 2) (kb GB k 3) (dcol GB 3) (drow GB 3) (keys k)
/-- The scores of all heads. -/
def scores : FVec Ideal S128x128 .bf16 := k0_pay90 (F := Ideal) trilM (qn q 0) (dcol GB 0) (drow GB 0) (qn q 1) (dcol GB 1) (drow GB 1) (qn q 2) (dcol GB 2) (drow GB 2) (qn q 3) (dcol GB 3) (drow GB 3) (keys k)
/-- The right-hand sides of all heads. -/
def rhs : FVec Ideal S128x256 .bf16 := k0_pay91 (F := Ideal) (vb GB v 0) (ke GB k 0) (vb GB v 1) (ke GB k 1) (vb GB v 2) (ke GB k 2) (vb GB v 3) (ke GB k 3)

/-- The stacked keys at a lane. -/
theorem keys_apply (h : Fin 4) (i : Fin 32) (d : Fin 128) : keys k (ix2 (lane h i) d) = (khead GB q k v S h).k i d :=
  stack4 (kn k) h i d

/-- The decays at a pair of lanes. -/
theorem decays_apply (h : Fin 4) (i : Fin 32) (h' : Fin 4) (j : Fin 32) :
    decays GB (ix2 (lane h i) (lane h' j)) = if h = h' then (khead GB q k v S h).dec i j else 0 := by
  have e1 := stack4 (dcol GB) h i (lane h' j)
  have e2 := row4 (drow GB) h' j
  have e3 : trilM _ = _ := tril_bd h i h' j
  rw [dcol_apply GB q k v S] at e1
  rw [drow_apply GB q k v S] at e2
  unfold decays k0_pay88
  generalize hC : concatenate S128x128 _ _ _ = C at e1
  generalize hD : concatenate S1x128 _ _ _ = D at e2
  pointwise
  rw [e1, e2, e3, select_ite, neg_inf]
  unfold Head.dec
  by_cases hh : h = h'
  · subst hh
    rw [if_pos rfl]
    by_cases hj : j ≤ i
    · rw [if_pos ⟨rfl, hj⟩, if_pos hj]
    · rw [if_neg (fun x => hj x.2), if_neg hj]
  · rw [if_neg hh, if_neg (fun x => hh x.1)]
    rfl

/-- The negated systems at a pair of lanes. -/
theorem systems_apply (h : Fin 4) (i : Fin 32) (h' : Fin 4) (j : Fin 32) :
    systems GB k (ix2 (lane h i) (lane h' j)) = if h = h' then 0 - (khead GB q k v S h).m i j else 0 := by
  have e1 : ∀ x, _ = _ := fun x => stack4 (kb GB k) h i x
  have e2 := keys_apply GB q k v S h' j
  have e3 : strictM _ = _ := strict_bd h i h' j
  have e4 := decays_apply GB q k v S h i h' j
  simp only [kb_apply GB q k v S] at e1
  unfold systems k0_pay89
  unfold decays at e4
  generalize hC : concatenate S128x128 _ _ _ = C at e1
  generalize k0_pay88 (F := Ideal) trilM _ _ _ _ _ _ _ _ = D at e4
  pointwise
  simp only [e1, e2, e3, e4, select_ite]
  unfold Head.m
  by_cases hh : h = h'
  · subst hh
    rw [if_pos rfl, if_pos rfl]
    by_cases hj : j < i
    · rw [if_pos ⟨rfl, hj⟩, if_pos hj]
    · rw [if_neg (fun x => hj x.2), if_neg hj, sub_zero]
  · rw [if_neg (fun x => hh x.1), if_neg hh]

/-- The scores at a pair of lanes. -/
theorem scores_apply (h : Fin 4) (i : Fin 32) (h' : Fin 4) (j : Fin 32) :
    scores GB q k (ix2 (lane h i) (lane h' j)) = if h = h' then (khead GB q k v S h).a i j else 0 := by
  have e1 : ∀ x, _ = _ := fun x => stack4 (qn q) h i x
  have e2 := keys_apply GB q k v S h' j
  have e4 := decays_apply GB q k v S h i h' j
  unfold scores k0_pay90
  unfold decays at e4
  generalize hC : concatenate S128x128 _ _ _ = C at e1
  generalize k0_pay88 (F := Ideal) trilM _ _ _ _ _ _ _ _ = D at e4
  pointwise
  simp only [e1, e2, e4]
  unfold Head.a
  by_cases hh : h = h'
  · subst hh
    rw [if_pos rfl, if_pos rfl]
    rfl
  · rw [if_neg hh, if_neg hh, mul_zero]

/-- The left half of the right-hand sides. -/
theorem rhs_left (h : Fin 4) (i : Fin 32) (d : Fin 128) (hd : d.val < 256) :
    rhs GB k v (ix2 (lane h i) ⟨d.val, hd⟩) = (khead GB q k v S h).v i d * (khead GB q k v S h).b i := by
  have e1 := stack4 (vb GB v) h i d
  rw [vb_apply GB q k v S] at e1
  unfold rhs k0_pay91
  generalize hC : concatenate S128x128 0 [⟨S32x128, vb GB v 0⟩, ⟨S32x128, vb GB v 1⟩, ⟨S32x128, vb GB v 2⟩, ⟨S32x128, vb GB v 3⟩] _ = C at e1
  generalize hD : concatenate S128x128 0 [⟨S32x128, ke GB k 0⟩, ⟨S32x128, ke GB k 1⟩, ⟨S32x128, ke GB k 2⟩, ⟨S32x128, ke GB k 3⟩] _ = D
  rw [← e1]
  pointwise

/-- The right half of the right-hand sides. -/
theorem rhs_right (h : Fin 4) (i : Fin 32) (d : Fin 128) (hd : 128 + d.val < 256) :
    rhs GB k v (ix2 (lane h i) ⟨128 + d.val, hd⟩) = (khead GB q k v S h).k i d * (khead GB q k v S h).b i * Ideal.exp ((khead GB q k v S h).gc i) := by
  have e1 := stack4 (ke GB k) h i d
  rw [ke_apply GB q k v S] at e1
  unfold rhs k0_pay91
  generalize hC : concatenate S128x128 0 [⟨S32x128, vb GB v 0⟩, ⟨S32x128, vb GB v 1⟩, ⟨S32x128, vb GB v 2⟩, ⟨S32x128, vb GB v 3⟩] _ = C
  generalize hD : concatenate S128x128 0 [⟨S32x128, ke GB k 0⟩, ⟨S32x128, ke GB k 1⟩, ⟨S32x128, ke GB k 2⟩, ⟨S32x128, ke GB k 3⟩] _ = D at e1
  rw [← e1]
  pointwise

end Cert.GdnIdeal.Value
-- ==== Proof.GdnSolve.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnStacks

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

open Cert.GdnInverse

/-- A value that is a real number. -/
def Real' (x : EReal) : Prop := ∃ r : ℝ, x = (r : EReal)

/-- Products of reals are real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- Differences of reals are real. -/
theorem Real'.sub {x y : EReal} (hx : Real' x) (hy : Real' y) : Real' (x - y) := by
  obtain ⟨a, rfl⟩ := hx
  obtain ⟨b, rfl⟩ := hy
  exact ⟨a - b, (EReal.coe_sub a b).symm⟩

/-- Zero is real. -/
theorem Real'.zero : Real' 0 := ⟨0, rfl⟩

/-- Finite sums of reals are real. -/
theorem Real'.sum {n : ℕ} {f : Fin n → EReal} (hf : ∀ i, Real' (f i)) : Real' (∑ i, f i) := by
  choose r hr using hf
  exact ⟨∑ i, r i, by rw [coe_sum]; exact Finset.sum_congr rfl fun i _ => hr i⟩

/-- With real keys and gates the triangular system is real. -/
theorem Head.m_real (H : Head) (hk : ∀ i d, Real' (H.k i d)) (hg : ∀ i, Real' (H.g i)) (hb : ∀ i, Real' (H.b i)) (i j : Fin 32) : Real' (H.m i j) := by
  have hgc : ∀ i, Real' (H.gc i) := fun i => Real'.sum fun j => by
    split
    · exact hg j
    · exact Real'.zero
  have hdec : Real' (H.dec i j) := by
    unfold Head.dec
    split
    · obtain ⟨r, hr⟩ := (hgc i).sub (hgc j)
      rw [hr]
      exact ⟨Real.exp r, rfl⟩
    · exact Real'.zero
  unfold Head.m
  split
  · exact (Real'.sum fun d => ((hk i d).mul (hb i)).mul (hk j d)).mul hdec
  · exact Real'.zero

variable (GB : FVec Ideal S1x32x128 .f32) (q k v : Fin 4 → FVec Ideal S32x128 .f32) (S : Fin 4 → FVec Ideal S128x128 .f32)

/-- The guard of the norms is a positive real. -/
theorem eps_real : ∃ e : ℝ, 0 < e ∧ Ideal.ofBits .f32 0x358637BD#32 = (e : EReal) := by
  simp [Ideal.ofBits, Ideal.ieee, -EReal.coe_mul]

/-- Normalized keys are real whatever the keys. -/
theorem kn_real (h : Fin 4) (i : Fin 32) (d : Fin 128) : Real' (kn k h (ix2 i d)) := by
  obtain ⟨e, he, hv⟩ := eps_real
  rw [kn_apply, hv]
  exact normalized_real (fun x => k h (ix2 i x)) e he d

/-- The systems of all heads are real and block diagonal. -/
theorem systems_blocks (hg : ∀ h i, Real' ((khead GB q k v S h).g i)) (hb : ∀ h i, Real' ((khead GB q k v S h).b i)) :
    ∃ r : Fin 4 → Fin 32 → Fin 32 → ℝ, (∀ h i j, (khead GB q k v S h).m i j = ((r h i j : ℝ) : EReal))
      ∧ Blocks (fun a b => systems GB k (ix2 a b)) (fun h => Matrix.of fun i j => - r h i j) := by
  have hr : ∀ h i j, Real' ((khead GB q k v S h).m i j) := fun h => Head.m_real _ (fun i d => kn_real k h i d) (hg h) (hb h)
  choose r hr using hr
  refine ⟨r, hr, fun h i h' j => ?_⟩
  show systems GB k _ = _
  rw [systems_apply GB q k v S, hr]
  split
  · show (0 : EReal) - _ = ((- r h i j : ℝ) : EReal)
    rw [EReal.coe_neg, sub_eq_add_neg, zero_add]
  · rfl

/-- The identity of all heads is the identity of each. -/
theorem eye_blocks : Blocks (fun a b => eyeM (ix2 a b)) (fun _ => 1) := by
  intro h i h' j
  show k0_pay19 (F := Ideal) io0 io1 _ = _
  rw [eye_bd]
  by_cases hh : h = h'
  · subst hh
    rw [if_pos rfl]
    show _ = (((1 : Matrix (Fin 32) (Fin 32) ℝ) i j : ℝ) : EReal)
    rw [Matrix.one_apply]
    by_cases hj : i = j
    · subst hj
      rw [if_pos rfl, if_pos rfl]
      rfl
    · rw [if_neg hj, if_neg (fun e => hj (Fin.ext (by have := congrArg Fin.val e; simp only [lane] at this; omega)))]
      rfl
  · rw [if_neg hh, if_neg (fun e => hh (Fin.ext (by have := congrArg Fin.val e; simp only [lane] at this; omega)))]

/-- The product of the Neumann series through the eighth power. -/
def series : FVec Ideal S128x128 .f32 := k0_pay95 (F := Ideal) trilM strictM eyeM (kb GB k 0) (dcol GB 0) (drow GB 0) (kb GB k 1) (dcol GB 1) (drow GB 1) (kb GB k 2) (dcol GB 2) (drow GB 2) (kb GB k 3) (dcol GB 3) (drow GB 3) (keys k)
/-- The same, as the product reads it. -/
def series' : FVec Ideal S128x128 .bf16 := k0_pay96 (F := Ideal) trilM strictM eyeM (kb GB k 0) (dcol GB 0) (drow GB 0) (kb GB k 1) (dcol GB 1) (drow GB 1) (kb GB k 2) (dcol GB 2) (drow GB 2) (kb GB k 3) (dcol GB 3) (drow GB 3) (keys k)
/-- The sixteenth power. -/
def power16 : FVec Ideal S128x128 .bf16 := k0_pay97 (F := Ideal) trilM strictM (kb GB k 0) (dcol GB 0) (drow GB 0) (kb GB k 1) (dcol GB 1) (drow GB 1) (kb GB k 2) (dcol GB 2) (drow GB 2) (kb GB k 3) (dcol GB 3) (drow GB 3) (keys k)
/-- The zeros a product starts from. -/
abbrev zeros : FVec Ideal S128x128 .f32 := constant S128x128 FTy.f32 0#32
/-- The solved right-hand sides of all heads. -/
def solved : FVec Ideal S128x256 .f32 := k0_pay98 (F := Ideal) (rhs GB k v) (series GB k) (series' GB k) (power16 GB k) zeros

/-- The solution at a lane is that head's inverse times its right-hand sides. -/
theorem solved_apply (hg : ∀ h i, Real' ((khead GB q k v S h).g i)) (hb : ∀ h i, Real' ((khead GB q k v S h).b i)) (h : Fin 4) (i : Fin 32) (c : Fin 256) :
    solved GB k v (ix2 (lane h i) c) = ∑ j, (khead GB q k v S h).T i j * rhs GB k v (ix2 (lane h j) c) := by
  obtain ⟨r, hr, hX⟩ := systems_blocks GB q k v S hg hb
  have hX2 := hX.mul hX
  have hP1 := eye_blocks.add hX
  have hP2 := hP1.add (hP1.mul hX2)
  have hX4 := hX2.mul hX2
  have hP4 := hP2.add (hP2.mul hX4)
  have hX8 := hX4.mul hX4
  have hP8 := hP4.add (hP4.mul hX8)
  have hX16 := hX8.mul hX8
  have hP := hP8.add (hP8.mul hX16)
  have hT : ∀ i j, (khead GB q k v S h).T i j = ((neumann (Matrix.of fun i j => - r h i j) i j : ℝ) : EReal) := by
    intro i j
    have hm : ∀ i j : Fin 32, i.val ≤ j.val → r h i j = 0 := by
      intro i j hij
      have e := hr h i j
      unfold Head.m at e
      rw [if_neg (by rw [Fin.lt_def]; omega)] at e
      exact_mod_cast e.symm
    rw [neumann_eq_fsub _ hm]
    unfold Head.T
    rw [← fsub_coe]
    congr 1
    · funext a b
      split <;> rfl
    · funext a b
      exact hr h a b
  simp only [hT]
  refine Eq.trans ?_ (hP.sum_mul h i fun a => rhs GB k v (ix2 a c))
  unfold solved series series' power16
  pointwise [k0_pay98, k0_pay95, k0_pay96, k0_pay97, k0_pay94, k0_pay93, k0_pay92]
  rfl

end Cert.GdnIdeal.Value
-- ==== Proof.GdnOut.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnSolve

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

open Cert.GdnInverse

variable (GB : FVec Ideal S1x32x128 .f32) (q k v : Fin 4 → FVec Ideal S32x128 .f32) (S : Fin 4 → FVec Ideal S128x128 .f32)

/-- What the last head reads of its state. -/
def reads3 : FVec Ideal S64x128 .f32 := k0_pay111 (F := Ideal) (S 3) (qg GB q 3) (rhs GB k v) (series GB k) (series' GB k) (power16 GB k) zeros
/-- The last head's solution, left half. -/
def left3 : FVec Ideal S32x128 .f32 := k0_pay112 (F := Ideal) (rhs GB k v) (series GB k) (series' GB k) (power16 GB k) zeros
/-- The written values of the heads. -/
def newv : Fin 4 → FVec Ideal S32x128 .f32 := ![k0_pay100 (F := Ideal) (S 0) (qg GB q 0) (rhs GB k v) (series GB k) (series' GB k) (power16 GB k) zeros, k0_pay104 (F := Ideal) (S 1) (qg GB q 1) (rhs GB k v) (series GB k) (series' GB k) (power16 GB k) zeros,
  k0_pay108 (F := Ideal) (S 2) (qg GB q 2) (rhs GB k v) (series GB k) (series' GB k) (power16 GB k) zeros, k0_pay113 (F := Ideal) (reads3 GB q k v S) (left3 GB k v)]
/-- What the queries read of the states. -/
def qread : Fin 4 → FVec Ideal S32x128 .f32 := ![k0_pay101 (F := Ideal) (S 0) (qg GB q 0) (rhs GB k v) (series GB k) (series' GB k) (power16 GB k) zeros, k0_pay105 (F := Ideal) (S 1) (qg GB q 1) (rhs GB k v) (series GB k) (series' GB k) (power16 GB k) zeros,
  k0_pay109 (F := Ideal) (S 2) (qg GB q 2) (rhs GB k v) (series GB k) (series' GB k) (power16 GB k) zeros, extractStridedSlice S32x128 ![32, 0] (reads3 GB q k v S) slices_S64x128_o32_0_S32x128]
/-- The states after the block. -/
def newS : Fin 4 → FVec Ideal S128x128 .f32 := ![k0_pay102 (F := Ideal) (S 0) (qg GB q 0) (kd GB k 0) (eg GB 0) (rhs GB k v) (series GB k) (series' GB k) (power16 GB k) zeros, k0_pay106 (F := Ideal) (S 1) (qg GB q 1) (kd GB k 1) (eg GB 1) (rhs GB k v) (series GB k) (series' GB k) (power16 GB k) zeros,
  k0_pay110 (F := Ideal) (S 2) (qg GB q 2) (kd GB k 2) (eg GB 2) (rhs GB k v) (series GB k) (series' GB k) (power16 GB k) zeros, k0_pay114 (F := Ideal) (S 3) (kd GB k 3) (eg GB 3) (reads3 GB q k v S) (left3 GB k v)]

/-- The written values in terms of the solution. -/
theorem newv_solved (h : Fin 4) (i : Fin 32) (d : Fin 128) : newv GB q k v S h (ix2 i d)
    = solved GB k v (ix2 (lane h i) ⟨d.val, by omega⟩) - ∑ a : Fin 128, solved GB k v (ix2 (lane h i) ⟨128 + a.val, by omega⟩) * S h (ix2 a d) := by
  unfold lane
  fin_cases h
  · pointwise [newv, solved, k0_pay100, k0_pay99]
  · pointwise [newv, solved, k0_pay104, k0_pay103]
  · pointwise [newv, solved, k0_pay108, k0_pay107]
  · pointwise [newv, solved, reads3, left3, k0_pay113, k0_pay112, k0_pay111]

/-- The written values at one element. -/
theorem newv_apply (hg : ∀ h i, Real' ((khead GB q k v S h).g i)) (hb : ∀ h i, Real' ((khead GB q k v S h).b i)) (h : Fin 4) (i : Fin 32) (d : Fin 128) :
    newv GB q k v S h (ix2 i d) = (khead GB q k v S h).vn i d := by
  rw [newv_solved]
  simp only [solved_apply GB q k v S hg hb, rhs_left GB q k v S, rhs_right GB q k v S]
  rfl

/-- What the queries read of the states at one element. -/
theorem qread_apply (h : Fin 4) (i : Fin 32) (d : Fin 128) : qread GB q k v S h (ix2 i d)
    = ∑ a : Fin 128, (khead GB q k v S h).q i a * Ideal.exp ((khead GB q k v S h).gc i) * (khead GB q k v S h).s a d := by
  simp only [← qg_apply]
  fin_cases h
  · pointwise [qread, khead, k0_pay101, k0_pay99]
  · pointwise [qread, khead, k0_pay105, k0_pay103]
  · pointwise [qread, khead, k0_pay109, k0_pay107]
  · pointwise [qread, khead, reads3, k0_pay111]

/-- The states after the block at one element. -/
theorem newS_apply (hg : ∀ h i, Real' ((khead GB q k v S h).g i)) (hb : ∀ h i, Real' ((khead GB q k v S h).b i)) (h : Fin 4) (a d : Fin 128) :
    newS GB q k v S h (ix2 a d) = (khead GB q k v S h).new a d := by
  unfold Head.new
  simp only [← kd_apply, ← eg_apply, ← newv_apply GB q k v S hg hb]
  fin_cases h
  · pointwise [newS, newv, khead, k0_pay102]
  · pointwise [newS, newv, khead, k0_pay106]
  · pointwise [newS, newv, khead, k0_pay110]
  · pointwise [newS, newv, khead, k0_pay114]

/-- The outputs of all heads before their norms. -/
def outs : FVec Ideal S128x128 .f32 := k0_pay115 (F := Ideal) (scores GB q k) (newv GB q k v S 0) (qread GB q k v S 0) (newv GB q k v S 1) (qread GB q k v S 1) (newv GB q k v S 2) (qread GB q k v S 2) (reads3 GB q k v S) (left3 GB k v)

/-- The outputs at a lane. -/
theorem outs_apply (hg : ∀ h i, Real' ((khead GB q k v S h).g i)) (hb : ∀ h i, Real' ((khead GB q k v S h).b i)) (h : Fin 4) (i : Fin 32) (d : Fin 128) :
    outs GB q k v S (ix2 (lane h i) d) = (khead GB q k v S h).o i d := by
  have e1 := stack4 (qread GB q k v S) h i d
  have e2 : ∀ h' j, _ = _ := fun h' j => stack4 (newv GB q k v S) h' j d
  rw [qread_apply] at e1
  simp only [newv_apply GB q k v S hg hb] at e2
  have e : outs GB q k v S (ix2 (lane h i) d)
      = concatenate S128x128 0 [⟨S32x128, qread GB q k v S 0⟩, ⟨S32x128, qread GB q k v S 1⟩, ⟨S32x128, qread GB q k v S 2⟩, ⟨S32x128, qread GB q k v S 3⟩] concatenates_S32x128_S32x128_S32x128_S32x128_S128x128_d0 (ix2 (lane h i) d)
        + ∑ x : Fin 128, scores GB q k (ix2 (lane h i) x) * concatenate S128x128 0 [⟨S32x128, newv GB q k v S 0⟩, ⟨S32x128, newv GB q k v S 1⟩, ⟨S32x128, newv GB q k v S 2⟩, ⟨S32x128, newv GB q k v S 3⟩] concatenates_S32x128_S32x128_S32x128_S32x128_S128x128_d0 (ix2 x d) := by
    show addf (concatenate S128x128 0 [⟨S32x128, qread GB q k v S 0⟩, ⟨S32x128, qread GB q k v S 1⟩, ⟨S32x128, qread GB q k v S 2⟩, ⟨S32x128, qread GB q k v S 3⟩] concatenates_S32x128_S32x128_S32x128_S32x128_S128x128_d0 : FVec Ideal S128x128 .f32)
      (matmul dot_S128x128_S128x128_S128x128_1_0_0_1_n_n none (scores GB q k) (truncf .bf16 (concatenate S128x128 0 [⟨S32x128, newv GB q k v S 0⟩, ⟨S32x128, newv GB q k v S 1⟩, ⟨S32x128, newv GB q k v S 2⟩, ⟨S32x128, newv GB q k v S 3⟩] concatenates_S32x128_S32x128_S32x128_S32x128_S128x128_d0 : FVec Ideal S128x128 .f32) bitsLt_bf16_f32) (constant S128x128 .f32 0x00000000#32)) _ = _
    generalize concatenate S128x128 0 [⟨S32x128, qread GB q k v S 0⟩, ⟨S32x128, qread GB q k v S 1⟩, ⟨S32x128, qread GB q k v S 2⟩, ⟨S32x128, qread GB q k v S 3⟩] _ = C
    generalize concatenate S128x128 0 [⟨S32x128, newv GB q k v S 0⟩, ⟨S32x128, newv GB q k v S 1⟩, ⟨S32x128, newv GB q k v S 2⟩, ⟨S32x128, newv GB q k v S 3⟩] _ = D
    pointwise
  rw [e, e1]
  refine congrArg (_ + ·) ((sum_lanes _).trans ?_)
  refine (Finset.sum_congr rfl fun h' _ => Finset.sum_congr rfl fun j _ => congrArg₂ (· * ·) (scores_apply GB q k v S h i h' j) (e2 h' j)).trans ?_
  rw [Finset.sum_eq_single h]
  · refine Finset.sum_congr rfl fun j _ => ?_
    rw [if_pos rfl]
  · intro h' _ hne
    refine Finset.sum_eq_zero fun j _ => ?_
    rw [if_neg (Ne.symm hne), zero_mul]
  · intro hn; exact absurd (Finset.mem_univ _) hn

end Cert.GdnIdeal.Value
-- ==== Proof.GdnRef.lean ====
module

public import proofs.«01_k».proof.Proof.Gen.GdnRefIdeal.Read
public import Idealize.ShloMosaic.Lib.Pipeline.ValueKit
public import Idealize.ShloMosaic.Lib.Pointwise
public import proofs.«01_k».proof.Proof.GdnModel

@[expose] public section

set_option maxRecDepth 16384
set_option maxHeartbeats 2000000

noncomputable section

open Idealize.ShloMosaic Idealize.ShloMosaic.TcCoe Idealize.SL.Sem

namespace Cert.GdnRefIdeal.Model

open Cert.GdnRefIdeal Cert.GdnRefIdeal.Read Cert.GdnInverse

variable (x0 : FVec Ideal S16x32x1536 .f32) (x1 : FVec Ideal S16x32x512 .f32) (x2 x3 : FVec Ideal S16x32x4 .f32)
  (x4 : FVec Ideal S1x16x3x1536 .f32) (x5 : FVec Ideal S1x16x4x128x128 .f32) (x6 : FVec Ideal S1x4x1536 .f32) (x7 : FVec Ideal S1x128 .f32)

/-- Head `h` of batch `t` as the reference reads it. -/
def head (t : Fin 16) (h : Fin 4) : Head where
  q i d := (val_main_v55 (F := Ideal) x0 x4 x6 : FVec Ideal S16x1x4x32x128 .f32) (ix5 t 0 h i d)
  k i d := (val_main_v57 (F := Ideal) x0 x4 x6 : FVec Ideal S16x1x4x32x128 .f32) (ix5 t 0 h i d)
  v i d := (val_main_v59 (F := Ideal) x0 x4 x6 : FVec Ideal S16x1x4x32x128 .f32) (ix5 t 0 h i d)
  g i := (val_main_v61 (F := Ideal) x2 : FVec Ideal S16x1x4x32 .f32) (ix4 t 0 h i)
  b i := (val_main_v63 (F := Ideal) x3 : FVec Ideal S16x1x4x32 .f32) (ix4 t 0 h i)
  s a d := x5 (ix5 0 t h a d)

/-- The positions of the window along its last axis. -/
def lastAxis : Fin 32 ≃ (⟨4, ![1, 1, 1, 32]⟩ : Shape).Idx where
  toFun w := ix4 0 0 0 w
  invFun y := y 3
  left_inv w := rfl
  right_inv y := by
    funext a
    match a with
    | 0 => exact Subsingleton.elim (α := Fin 1) _ _
    | 1 => exact Subsingleton.elim (α := Fin 1) _ _
    | 2 => exact Subsingleton.elim (α := Fin 1) _ _
    | 3 => rfl

/-- The last window position reaches back over a prefix: the terms in range are those up to `i`. -/
theorem prefix_sum (f : Fin 32 → EReal) (i : Fin 32) :
    ∑ w : Fin 32, (if hw : 31 ≤ i.val + w.val then f ⟨i.val + w.val - 31, by omega⟩ else 0) = ∑ j : Fin 32, if j ≤ i then f j else 0 := by
  have e1 : ∀ w : Fin 32, (if hw : 31 ≤ i.val + w.val then f ⟨i.val + w.val - 31, by omega⟩ else 0)
      = if 31 ≤ i.val + w.val then f ⟨i.val + w.val - 31, by omega⟩ else 0 := fun w => by split <;> rfl
  rw [Finset.sum_congr rfl fun w _ => e1 w, ← Finset.sum_filter, ← Finset.sum_filter]
  refine Finset.sum_bij' (fun w _ => (⟨i.val + w.val - 31, by omega⟩ : Fin 32)) (fun j _ => (⟨(j.val + 31 - i.val) % 32, by omega⟩ : Fin 32)) ?_ ?_ ?_ ?_ ?_
  · intro w hw
    simp only [Finset.mem_filter, Finset.mem_univ, true_and, Fin.le_def] at *
    omega
  · intro w hw
    simp only [Finset.mem_filter, Finset.mem_univ, true_and, Fin.le_def] at *
    omega
  · intro w hw
    simp only [Finset.mem_filter, Finset.mem_univ, true_and, Fin.le_def] at *
    ext
    show (i.val + w.val - 31 + 31 - i.val) % 32 = w.val
    omega
  · intro w hw
    simp only [Finset.mem_filter, Finset.mem_univ, true_and, Fin.le_def] at *
    ext
    show i.val + (w.val + 31 - i.val) % 32 - 31 = w.val
    omega
  · intro w hw
    rfl

/-- The running sum of the log decays. -/
theorem gc_eq (t : Fin 16) (h : Fin 4) (i : Fin 32) :
    (val_main_v64 (F := Ideal) x2 : FVec Ideal S16x1x4x32 .f32) (ix4 t 0 h i) = (head x0 x2 x3 x4 x5 x6 t h).gc i := by
  unfold val_main_v64 Head.gc head
  generalize (val_main_v61 (F := Ideal) x2 : FVec Ideal S16x1x4x32 .f32) = g
  have h0 : (val_main_call1_call0_v0 (F := Ideal) : FVec Ideal S_ .f32) (Shape.Idx.first Gen.h_S_) = 0 := by
    pointwise [val_main_call1_call0_v0, val_main_call1_call0_cst]
  show List.foldl _ _ (List.finRange _) = _
  refine (foldl_add _ _).trans ((congrArg₂ (· + ·) h0 ?_).trans (zero_add _))
  refine Eq.trans ?_ (prefix_sum (fun j => g (ix4 t 0 h j)) i)
  refine Eq.trans (Finset.sum_congr rfl fun k _ => ?_) ((Equiv.sum_comp (Shape.rowMajor ⟨4, ![1, 1, 1, 32]⟩).symm
    (fun y : (⟨4, ![1, 1, 1, 32]⟩ : Shape).Idx => if hw : 31 ≤ i.val + (lastAxis.symm y).val then g (ix4 t 0 h ⟨i.val + (lastAxis.symm y).val - 31, by omega⟩) else 0)).trans
      (Equiv.sum_comp lastAxis.symm (fun w : Fin 32 => if hw : 31 ≤ i.val + w.val then g (ix4 t 0 h ⟨i.val + w.val - 31, by omega⟩) else 0)))
  let Y : (⟨4, ![1, 1, 1, 32]⟩ : Shape).Idx := (Shape.rowMajor ⟨4, ![1, 1, 1, 32]⟩).symm k
  have y0 : (Y 0).val < 1 := (Y 0).isLt
  have y1 : (Y 1).val < 1 := (Y 1).isLt
  have y2 : (Y 2).val < 1 := (Y 2).isLt
  let w : Fin 32 := Y 3
  show _ = if hw : 31 ≤ i.val + w.val then g (ix4 t 0 h ⟨i.val + w.val - 31, by omega⟩) else 0
  by_cases hw : 31 ≤ i.val + w.val
  · rw [dif_pos hw, dif_pos]
    · refine congrArg g (funext fun a => ?_)
      match a with
      | 0 => exact Fin.ext (show t.val * 1 + (Y 0).val - 0 = t.val by omega)
      | 1 => exact Fin.ext (show 0 * 1 + (Y 1).val - 0 = 0 by omega)
      | 2 => exact Fin.ext (show h.val * 1 + (Y 2).val - 0 = h.val by omega)
      | 3 => exact Fin.ext (show i.val * 1 + w.val - 31 = i.val + w.val - 31 by omega)
    · intro a
      match a with
      | 0 => exact (show 0 ≤ t.val * 1 + (Y 0).val ∧ t.val * 1 + (Y 0).val - 0 < 16 by omega)
      | 1 => exact (show 0 ≤ 0 * 1 + (Y 1).val ∧ 0 * 1 + (Y 1).val - 0 < 1 by omega)
      | 2 => exact (show 0 ≤ h.val * 1 + (Y 2).val ∧ h.val * 1 + (Y 2).val - 0 < 4 by omega)
      | 3 => exact (show 31 ≤ i.val * 1 + w.val ∧ i.val * 1 + w.val - 31 < 32 by omega)
  · rw [dif_neg hw, dif_neg]
    · exact h0
    · intro hall
      have h3 : 31 ≤ i.val * 1 + w.val := (hall 3).1
      omega

/-- The decay between tokens. -/
theorem dec_eq (t : Fin 16) (h : Fin 4) (i j : Fin 32) :
    (val_main_v82 (F := Ideal) x2 : FVec Ideal S16x1x4x32x32 .f32) (ix5 t 0 h i j) = (head x0 x2 x3 x4 x5 x6 t h).dec i j := by
  have e := gc_eq x0 x2 x3 x4 x5 x6 t h
  unfold Head.dec
  rw [← e i, ← e j]
  pointwise [val_main_v82, val_main_v81, val_main_v80, val_main_v79, val_main_v78, val_main_v77, val_main_v76, val_main_call2_v1, val_main_call2_v2, val_main_call2_v0, val_main_cst_4, val_main_v70, val_main_v69, val_main_v68, val_main_v67, val_main_v66, val_main_v65]
  rw [sge32, select_ite, show id (constant (F := Ideal) S_ .f32 4286578688#32) ix0 = (⊥ : EReal) from neg_inf]

/-- The triangular system. -/
theorem m_eq (t : Fin 16) (h : Fin 4) (i j : Fin 32) :
    (val_main_v88 (F := Ideal) x0 x2 x3 x4 x6 : FVec Ideal S16x1x4x32x32 .f32) (ix5 t 0 h i j) = (head x0 x2 x3 x4 x5 x6 t h).m i j := by
  have e := dec_eq x0 x2 x3 x4 x5 x6 t h i j
  unfold Head.m
  rw [← e]
  unfold head
  pointwise [val_main_v88, val_main_v87, val_main_v86, val_main_v85, val_main_v84, val_main_v83, val_main_call3_v1, val_main_call3_v2, val_main_call3_v0, val_main_cst_5, val_main_v75, val_main_v74, val_main_v73, val_main_v72, val_main_v71, val_main_v65]
  rw [sgt32, select_ite, show id (constant (F := Ideal) S_ .f32 0#32) ix0 = (0 : EReal) from Ideal.ofBits_zero_f32]

/-- The identity block. -/
theorem eye_eq (t : Fin 16) (h : Fin 4) (i j : Fin 32) :
    (val_main_v95 (F := Ideal) : FVec Ideal S16x1x4x32x32 .f32) (ix5 t 0 h i j) = if i = j then 1 else 0 := by
  pointwise [val_main_v95, val_main_v94, val_main_v93, val_main_v92, val_main_v91, val_main_v90, val_main_v89, val_main_c]
  rw [eq32', uitofp_bit]

/-- One step of the reference's forward substitution. -/
def stepV (n : Nat) (T : FVec Ideal S16x1x4x32x32 .f32) : FVec Ideal S16x1x4x32x32 .f32 :=
  select (cmpi .eq (val_main_v97 (F := Ideal)) (broadcastInDim S16x1x4x32x32 ![] Gen.bcast_S_S16x1x4x32x32 (constantI S_ 32 (BitVec.ofNat 32 n))))
    (subf (val_main_v95 (F := Ideal)) (Host.dotGeneral dot_S16x1x4x32x32_S16x1x4x32x32_S16x1x4x32x32_4_3_3_4_012_012 none (φ₁ := .f32) (φ₂ := .f32) (val_main_v88 (F := Ideal) x0 x2 x3 x4 x6) T)) T

/-- A step at one element. -/
theorem stepV_apply (n : Nat) (hn : n < 32) (T : FVec Ideal S16x1x4x32x32 .f32) (t : Fin 16) (h : Fin 4) (i j : Fin 32) :
    stepV x0 x2 x3 x4 x6 n T (ix5 t 0 h i j)
      = if i.val = n then (if i = j then 1 else 0) - ∑ k, (head x0 x2 x3 x4 x5 x6 t h).m i k * T (ix5 t 0 h k j) else T (ix5 t 0 h i j) := by
  have e := m_eq x0 x2 x3 x4 x5 x6 t h i
  have e1 := eye_eq t h i j
  rw [← e1, Finset.sum_congr rfl fun k _ => congrArg (· * T (ix5 t 0 h k j)) (e k).symm]
  pointwise [stepV, val_main_v97, val_main_v96, val_main_v65]
  have en : (i = ⟨n, hn⟩) = (i.val = n) := propext ⟨fun h => congrArg Fin.val h, fun h => Fin.ext h⟩
  rw [eq32 i ⟨n, hn⟩, select_ite]
  simp only [en]

/-- The reference's successive inverses. -/
def invs : Fin 32 → FVec Ideal S16x1x4x32x32 .f32 :=
  ![val_main_v95 (F := Ideal), val_main_v102 (F := Ideal) x0 x2 x3 x4 x6, val_main_v107 (F := Ideal) x0 x2 x3 x4 x6, val_main_v112 (F := Ideal) x0 x2 x3 x4 x6, val_main_v117 (F := Ideal) x0 x2 x3 x4 x6, val_main_v122 (F := Ideal) x0 x2 x3 x4 x6, val_main_v127 (F := Ideal) x0 x2 x3 x4 x6, val_main_v132 (F := Ideal) x0 x2 x3 x4 x6, val_main_v137 (F := Ideal) x0 x2 x3 x4 x6, val_main_v142 (F := Ideal) x0 x2 x3 x4 x6, val_main_v147 (F := Ideal) x0 x2 x3 x4 x6, val_main_v152 (F := Ideal) x0 x2 x3 x4 x6, val_main_v157 (F := Ideal) x0 x2 x3 x4 x6, val_main_v162 (F := Ideal) x0 x2 x3 x4 x6, val_main_v167 (F := Ideal) x0 x2 x3 x4 x6, val_main_v172 (F := Ideal) x0 x2 x3 x4 x6, val_main_v177 (F := Ideal) x0 x2 x3 x4 x6, val_main_v182 (F := Ideal) x0 x2 x3 x4 x6, val_main_v187 (F := Ideal) x0 x2 x3 x4 x6, val_main_v192 (F := Ideal) x0 x2 x3 x4 x6, val_main_v197 (F := Ideal) x0 x2 x3 x4 x6, val_main_v202 (F := Ideal) x0 x2 x3 x4 x6, val_main_v207 (F := Ideal) x0 x2 x3 x4 x6, val_main_v212 (F := Ideal) x0 x2 x3 x4 x6, val_main_v217 (F := Ideal) x0 x2 x3 x4 x6, val_main_v222 (F := Ideal) x0 x2 x3 x4 x6, val_main_v227 (F := Ideal) x0 x2 x3 x4 x6, val_main_v232 (F := Ideal) x0 x2 x3 x4 x6, val_main_v237 (F := Ideal) x0 x2 x3 x4 x6, val_main_v242 (F := Ideal) x0 x2 x3 x4 x6, val_main_v247 (F := Ideal) x0 x2 x3 x4 x6, val_main_v252 (F := Ideal) x0 x2 x3 x4 x6]

/-- Each is a step from the one before. -/
theorem invs_succ (n : Fin 31) : invs x0 x2 x3 x4 x6 n.succ = stepV x0 x2 x3 x4 x6 (n.val + 1) (invs x0 x2 x3 x4 x6 n.castSucc) := by
  fin_cases n <;> rfl

/-- After `n` steps the rows up to `n` are substituted. -/
theorem invs_eq (t : Fin 16) (h : Fin 4) (n : Nat) : ∀ (hn : n < 32) (i j : Fin 32),
    invs x0 x2 x3 x4 x6 ⟨n, hn⟩ (ix5 t 0 h i j) = fsub (fun i j => if i = j then 1 else 0) (head x0 x2 x3 x4 x5 x6 t h).m n i j := by
  induction n with
  | zero => intro hn i j; exact eye_eq t h i j
  | succ n ih =>
    intro hn i j
    refine (congrFun (invs_succ x0 x2 x3 x4 x6 ⟨n, by omega⟩) _).trans ?_
    refine (stepV_apply x0 x2 x3 x4 x5 x6 (n + 1) hn _ t h i j).trans ?_
    show _ = if i.val = n + 1 then _ - ∑ k, _ * fsub _ _ n k j else fsub _ _ n i j
    simp only [← ih (by omega)]
    rfl

/-- The reference's inverse. -/
theorem T_eq (t : Fin 16) (h : Fin 4) (i j : Fin 32) :
    (val_main_v252 (F := Ideal) x0 x2 x3 x4 x6 : FVec Ideal S16x1x4x32x32 .f32) (ix5 t 0 h i j) = (head x0 x2 x3 x4 x5 x6 t h).T i j := by
  have e : invs x0 x2 x3 x4 x6 ⟨31, by omega⟩ = val_main_v252 (F := Ideal) x0 x2 x3 x4 x6 := rfl
  rw [← e]
  exact invs_eq x0 x2 x3 x4 x5 x6 t h 31 (by omega) i j

/-- The written values before the state's part. -/
theorem u_eq (t : Fin 16) (h : Fin 4) (i : Fin 32) (d : Fin 128) :
    (val_main_v258 (F := Ideal) x0 x2 x3 x4 x6 : FVec Ideal S16x4x32x128 .f32) (ix4 t h i d) = (head x0 x2 x3 x4 x5 x6 t h).u i d := by
  have e := T_eq x0 x2 x3 x4 x5 x6 t h i
  unfold Head.u
  simp only [← e]
  unfold head
  pointwise [val_main_v258, val_main_v257, val_main_v256, val_main_v255, val_main_v254, val_main_v253]

/-- What the written values read of the state. -/
theorem w_eq (t : Fin 16) (h : Fin 4) (i : Fin 32) (d : Fin 128) :
    (val_main_v266 (F := Ideal) x0 x2 x3 x4 x6 : FVec Ideal S16x4x32x128 .f32) (ix4 t h i d) = (head x0 x2 x3 x4 x5 x6 t h).w i d := by
  have e := T_eq x0 x2 x3 x4 x5 x6 t h i
  have e' := gc_eq x0 x2 x3 x4 x5 x6 t h
  unfold Head.w
  simp only [← e, ← e']
  unfold head
  pointwise [val_main_v266, val_main_v265, val_main_v264, val_main_v263, val_main_v262, val_main_v261, val_main_v260, val_main_v85, val_main_v84, val_main_v83]

/-- The written values. -/
theorem vn_eq (t : Fin 16) (h : Fin 4) (i : Fin 32) (d : Fin 128) :
    (val_main_v298 (F := Ideal) x0 x2 x3 x4 x5 x6 : FVec Ideal S16x4x32x128 .f32) (ix4 t h i d) = (head x0 x2 x3 x4 x5 x6 t h).vn i d := by
  have e := u_eq x0 x2 x3 x4 x5 x6 t h i
  have e' := w_eq x0 x2 x3 x4 x5 x6 t h i
  unfold Head.vn
  simp only [← e, ← e']
  unfold head
  pointwise [val_main_v298, val_main_v297, val_main_v292, val_main_v291, val_main_v290, val_main_v285, val_main_v284, val_main_v259, val_main_v267]

/-- The reference's state after the block. -/
theorem new_eq (t : Fin 16) (h : Fin 4) (a d : Fin 128) :
    (val_main_v306 (F := Ideal) x0 x2 x3 x4 x5 x6 : FVec Ideal S16x4x128x128 .f32) (ix4 t h a d) = (head x0 x2 x3 x4 x5 x6 t h).new a d := by
  have e := vn_eq x0 x2 x3 x4 x5 x6 t h
  have e' := gc_eq x0 x2 x3 x4 x5 x6 t h
  unfold Head.new
  simp only [← e, ← e']
  unfold head
  pointwise [val_main_v306, val_main_v305, val_main_v304, val_main_v303, val_main_v302, val_main_v296, val_main_v295, val_main_v290, val_main_v289, val_main_v288, val_main_v283, val_main_v282, val_main_v281, val_main_v280, val_main_v279, val_main_v278, val_main_v277, val_main_v276, val_main_v275, val_main_v274]

/-- The reference's output of a head before its norm. -/
theorem o_eq (t : Fin 16) (h : Fin 4) (i : Fin 32) (d : Fin 128) :
    (val_main_v301 (F := Ideal) x0 x2 x3 x4 x5 x6 : FVec Ideal S16x4x32x128 .f32) (ix4 t h i d) = (head x0 x2 x3 x4 x5 x6 t h).o i d := by
  have e := vn_eq x0 x2 x3 x4 x5 x6 t h
  have e' := gc_eq x0 x2 x3 x4 x5 x6 t h
  have e2 := dec_eq x0 x2 x3 x4 x5 x6 t h
  unfold Head.o Head.a
  simp only [← e, ← e', ← e2]
  unfold head
  pointwise [val_main_v301, val_main_v300, val_main_v299, val_main_v294, val_main_v293, val_main_v290, val_main_v287, val_main_v286, val_main_v273, val_main_v272, val_main_v271, val_main_v270, val_main_v269, val_main_v268]

end Cert.GdnRefIdeal.Model
-- ==== Proof.GdnJoin.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnOut
public import proofs.«01_k».proof.Proof.GdnRef

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

open Cert.GdnInverse Cert.GdnRefIdeal.Read

variable (GB : FVec Ideal S1x32x128 .f32) (q k v : Fin 4 → FVec Ideal S32x128 .f32) (S : Fin 4 → FVec Ideal S128x128 .f32)
variable (NG : FVec Ideal S1x128 .f32) (Z : Fin 4 → FVec Ideal S1x32x128 .f32)
variable (x0 : FVec Ideal S16x32x1536 .f32) (x1 : FVec Ideal S16x32x512 .f32) (x2 x3 : FVec Ideal S16x32x4 .f32) (x4 : FVec Ideal S1x16x3x1536 .f32) (x5 : FVec Ideal S1x16x4x128x128 .f32)
  (x6 : FVec Ideal S1x4x1536 .f32) (x7 : FVec Ideal S1x128 .f32)

/-- The reference's queries in terms of its convolved rows. -/
theorem ref_q (t : Fin 16) (h : Fin 4) (i : Fin 32) (d : Fin 128) (f : Fin 128 → EReal)
    (hf : ∀ d : Fin 128, f d = val_main_v29 (F := Ideal) x0 x4 x6 (ix3 t i ⟨h.val * 128 + d.val, by omega⟩)) :
    (val_main_v55 (F := Ideal) x0 x4 x6 : FVec Ideal Cert.GdnRefIdeal.S16x1x4x32x128 .f32) (ix5 t 0 h i d) = f d * Ideal.rsqrt ((∑ x, f x * f x) + Ideal.ofBits .f32 0x358637BD#32) * Ideal.ofBits .f32 0x3DB504F3#32 := by
  simp only [hf]
  pointwise [val_main_v55, val_main_v54, val_main_v43, val_main_v42, val_main_v41, val_main_v40, val_main_v39, val_main_v38, val_main_v37, val_main_v36, val_main_v35, val_main_v34, val_main_v33, val_main_v30, val_main_cst, val_main_cst_0, val_main_cst_1]

/-- The reference's keys in terms of its convolved rows. -/
theorem ref_k (t : Fin 16) (h : Fin 4) (i : Fin 32) (d : Fin 128) (f : Fin 128 → EReal)
    (hf : ∀ d : Fin 128, f d = val_main_v29 (F := Ideal) x0 x4 x6 (ix3 t i ⟨512 + (h.val * 128 + d.val), by omega⟩)) :
    (val_main_v57 (F := Ideal) x0 x4 x6 : FVec Ideal Cert.GdnRefIdeal.S16x1x4x32x128 .f32) (ix5 t 0 h i d) = f d * Ideal.rsqrt ((∑ x, f x * f x) + Ideal.ofBits .f32 0x358637BD#32) := by
  simp only [hf]
  pointwise [val_main_v57, val_main_v56, val_main_v52, val_main_v51, val_main_v50, val_main_v49, val_main_v48, val_main_v47, val_main_v46, val_main_v45, val_main_v44, val_main_v31, val_main_cst_2, val_main_cst_3]

/-- The reference's values in terms of its convolved rows. -/
theorem ref_v (t : Fin 16) (h : Fin 4) (i : Fin 32) (d : Fin 128) :
    (val_main_v59 (F := Ideal) x0 x4 x6 : FVec Ideal Cert.GdnRefIdeal.S16x1x4x32x128 .f32) (ix5 t 0 h i d) = val_main_v29 (F := Ideal) x0 x4 x6 (ix3 t i ⟨1024 + (h.val * 128 + d.val), by omega⟩) := by
  pointwise [val_main_v59, val_main_v58, val_main_v53, val_main_v32]

/-- The reference's log decays. -/
theorem ref_g (t : Fin 16) (h : Fin 4) (i : Fin 32) : (val_main_v61 (F := Ideal) x2 : FVec Ideal Cert.GdnRefIdeal.S16x1x4x32 .f32) (ix4 t 0 h i) = x2 (ix3 t i h) := by
  pointwise [val_main_v61, val_main_v60]

/-- The reference's write strengths. -/
theorem ref_b (t : Fin 16) (h : Fin 4) (i : Fin 32) : (val_main_v63 (F := Ideal) x3 : FVec Ideal Cert.GdnRefIdeal.S16x1x4x32 .f32) (ix4 t 0 h i) = x3 (ix3 t i h) := by
  pointwise [val_main_v63, val_main_v62]

/-- The gated norm of a row of a head's output. -/
def gated (o : Fin 128 → EReal) (g : Fin 128 → EReal) (z : EReal) (d : Fin 128) : EReal :=
  o d * Ideal.rsqrt (Ideal.div (∑ x, o x * o x) (Ideal.ofBits .f32 0x43000000#32) + Ideal.ofBits .f32 0x358637BD#32) * g d * (z * Ideal.div 1 (1 + Ideal.exp (-z)))

/-- The reference's output at one element. -/
theorem ref_o (t : Fin 16) (h : Fin 4) (i : Fin 32) (d : Fin 128) (hd : h.val * 128 + d.val < 512) :
    (val_main_v329 (F := Ideal) x0 x1 x2 x3 x4 x5 x6 x7 : FVec Ideal S16x32x512 .bf16) (ix3 t i ⟨h.val * 128 + d.val, hd⟩)
      = gated (fun x => val_main_v301 (F := Ideal) x0 x2 x3 x4 x5 x6 (ix4 t h i x)) (fun x => x7 (ix2 0 x)) (x1 (ix3 t i ⟨h.val * 128 + d.val, hd⟩)) d := by
  unfold gated
  pointwise [val_main_v329, val_main_v328, val_main_v327, val_main_v326, val_main_call35_v5, val_main_call35_v4, val_main_call35_v3, val_main_call35_v2, val_main_call35_v1, val_main_call35_v0, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_cst_37, val_main_cst_38, val_main_cst_39, val_main_call35_cst, val_main_call35_cst_0]

/-- The rows of the kernel's output, head by head. -/
def outrow : Fin 4 → FVec Ideal S1x32x128 .bf16 := ![k0_pay116 (F := Ideal) NG (scores GB q k) (newv GB q k v S 0) (qread GB q k v S 0) (newv GB q k v S 1) (qread GB q k v S 1) (newv GB q k v S 2) (qread GB q k v S 2) (reads3 GB q k v S) (left3 GB k v) (Z 0),
  k0_pay117 (F := Ideal) NG (outs GB q k v S) (Z 1), k0_pay121 (F := Ideal) (k0_pay118 (F := Ideal) (Z 2)) (k0_pay119 (F := Ideal) NG (outs GB q k v S)) (k0_pay120 (F := Ideal)), k0_pay122 (F := Ideal) NG (outs GB q k v S) (Z 3)]

/-- Zero minus a value is its negative. -/
theorem zero_sub_val (z : EReal) : (0 : EReal) - z = -z := by rw [sub_eq_add_neg, zero_add]

/-- The gated norm of the first head's rows. -/
theorem gated0 (C : FVec Ideal S128x128 .bf16) (a0 a1 a2 a3 a4 a5 a7 : FVec Ideal S32x128 .f32) (a6 : FVec Ideal S64x128 .f32) (Y : FVec Ideal S1x32x128 .f32) (i : Fin 32) (d : Fin 128) :
    k0_pay116 (F := Ideal) NG C a0 a1 a2 a3 a4 a5 a6 a7 Y (ix3 0 i d) = gated (fun x => k0_pay115 (F := Ideal) C a0 a1 a2 a3 a4 a5 a6 a7 (ix2 (lane 0 i) x)) (fun x => NG (ix2 0 x)) (Y (ix3 0 i d)) d := by
  unfold gated lane
  pointwise [k0_pay116]
  rw [zero_sub_val]

/-- The gated norm of the second head's rows. -/
theorem gated1 (O : FVec Ideal S128x128 .f32) (Y : FVec Ideal S1x32x128 .f32) (i : Fin 32) (d : Fin 128) :
    k0_pay117 (F := Ideal) NG O Y (ix3 0 i d) = gated (fun x => O (ix2 (lane 1 i) x)) (fun x => NG (ix2 0 x)) (Y (ix3 0 i d)) d := by
  unfold gated lane
  pointwise [k0_pay117]
  rw [zero_sub_val]

/-- The gated norm of the third head's rows. -/
theorem gated2 (O : FVec Ideal S128x128 .f32) (Y : FVec Ideal S1x32x128 .f32) (i : Fin 32) (d : Fin 128) :
    k0_pay121 (F := Ideal) (k0_pay118 (F := Ideal) Y) (k0_pay119 (F := Ideal) NG O) (k0_pay120 (F := Ideal)) (ix3 0 i d) = gated (fun x => O (ix2 (lane 2 i) x)) (fun x => NG (ix2 0 x)) (Y (ix3 0 i d)) d := by
  unfold gated lane
  pointwise [k0_pay121, k0_pay118, k0_pay119, k0_pay120]
  rw [zero_sub_val]

/-- The gated norm of the fourth head's rows. -/
theorem gated3 (O : FVec Ideal S128x128 .f32) (Y : FVec Ideal S1x32x128 .f32) (i : Fin 32) (d : Fin 128) :
    k0_pay122 (F := Ideal) NG O Y (ix3 0 i d) = gated (fun x => O (ix2 (lane 3 i) x)) (fun x => NG (ix2 0 x)) (Y (ix3 0 i d)) d := by
  unfold gated lane
  pointwise [k0_pay122]
  rw [zero_sub_val]

/-- The kernel's output rows at one element. -/
theorem outrow_apply (h : Fin 4) (i : Fin 32) (d : Fin 128) :
    outrow GB q k v S NG Z h (ix3 0 i d) = gated (fun x => outs GB q k v S (ix2 (lane h i) x)) (fun x => NG (ix2 0 x)) (Z h (ix3 0 i d)) d := by
  fin_cases h
  · exact gated0 NG _ _ _ _ _ _ _ _ _ _ i d
  · exact gated1 NG _ _ i d
  · exact gated2 NG _ _ i d
  · exact gated3 NG _ _ i d

/-- The kernel's head and the reference's are the same, when their rows, gates and states are. -/
theorem khead_eq (t : Fin 16) (h : Fin 4)
    (hq : ∀ (i : Fin 32) (d : Fin 128), q h (ix2 i d) = val_main_v29 (F := Ideal) x0 x4 x6 (ix3 t i ⟨h.val * 128 + d.val, by omega⟩))
    (hk : ∀ (i : Fin 32) (d : Fin 128), k h (ix2 i d) = val_main_v29 (F := Ideal) x0 x4 x6 (ix3 t i ⟨512 + (h.val * 128 + d.val), by omega⟩))
    (hv : ∀ (i : Fin 32) (d : Fin 128), v h (ix2 i d) = val_main_v29 (F := Ideal) x0 x4 x6 (ix3 t i ⟨1024 + (h.val * 128 + d.val), by omega⟩))
    (hg : ∀ i : Fin 32, GB (ix3 0 i ⟨h.val, by omega⟩) = x2 (ix3 t i h)) (hb : ∀ i : Fin 32, GB (ix3 0 i ⟨4 + h.val, by omega⟩) = x3 (ix3 t i h))
    (hs : ∀ a d : Fin 128, S h (ix2 a d) = x5 (ix5 0 t h a d)) :
    khead GB q k v S h = Cert.GdnRefIdeal.Model.head x0 x2 x3 x4 x5 x6 t h := by
  unfold khead Cert.GdnRefIdeal.Model.head
  congr 1
  · funext i d
    exact (qn_apply q h i d).trans (ref_q x0 x4 x6 t h i d (fun d => q h (ix2 i d)) (hq i)).symm
  · funext i d
    exact (kn_apply k h i d).trans (ref_k x0 x4 x6 t h i d (fun d => k h (ix2 i d)) (hk i)).symm
  · funext i d
    exact (hv i d).trans (ref_v x0 x4 x6 t h i d).symm
  · funext i
    exact (hg i).trans (ref_g x2 t h i).symm
  · funext i
    exact (hb i).trans (ref_b x3 t h i).symm
  · funext a d
    exact hs a d

end Cert.GdnIdeal.Value
-- ==== Proof.GdnBlocks.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.GdnIdeal.Value

open Cert.GdnIdeal Cert.GdnIdeal.Gen

variable (m : (ℓ : Loc nD τ sig) → Buf (Elt Ideal) ℓ)

/-- The block index of every window at grid point `t`: batch `t` throughout, the convolution's taps and the gain whole. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0] ∧ win0_6.index t = ![0, 0]
    ∧ win0_7.index t = ![t.val, 0, 0] ∧ win0_8.index t = ![t.val, 0, 0, 0] :=
  (by decide +kernel : ∀ t : Fin grid0.N, _)

/-- The staged rows are batch `t`'s. -/
theorem blk0 (c : Dev nD) (t : Fin 16) (i : Fin 32) (k : Fin 1536) :
    (iblk m c 0 t : FVec Ideal S1x32x1536 .f32) (ix3 0 i k) = (m ((c : Thread nD τ).loc main_arg0) : FVec Ideal S16x32x1536 .f32) (ix3 t i k) := by
  blk_ext [iblk, V, idx t]

/-- The staged gate rows are batch `t`'s. -/
theorem blk1 (c : Dev nD) (t : Fin 16) (i : Fin 32) (k : Fin 512) :
    (iblk m c 1 t : FVec Ideal S1x32x512 .f32) (ix3 0 i k) = (m ((c : Thread nD τ).loc main_arg1) : FVec Ideal S16x32x512 .f32) (ix3 t i k) := by
  blk_ext [iblk, V, idx t]

/-- A row of three arrays set side by side is the row of three equal arrays set side by side. -/
theorem concat3 {α : Type} (a a' b b' : S16x32x4.Idx → α) (d d' : S16x32x120.Idx → α) (ha : a = a') (hb : b = b') (hd : d = d') :
    concatenate S16x32x128 2 [⟨S16x32x4, a⟩, ⟨S16x32x4, b⟩, ⟨S16x32x120, d⟩] concatenates_S16x32x4_S16x32x4_S16x32x120_S16x32x128_d2
      = concatenate S16x32x128 2 [⟨S16x32x4, a'⟩, ⟨S16x32x4, b'⟩, ⟨S16x32x120, d'⟩] concatenates_S16x32x4_S16x32x4_S16x32x120_S16x32x128_d2 := by
  subst ha hb hd; rfl

/-- The packed gates are the decays, the write strengths and zeros side by side. -/
theorem gates_eq (c : Dev nD) : (V m c main_v1 : FVec Ideal S16x32x128 .f32)
    = concatenate S16x32x128 2 [⟨S16x32x4, (m ((c : Thread nD τ).loc main_arg2) : FVec Ideal S16x32x4 .f32)⟩,
        ⟨S16x32x4, (m ((c : Thread nD τ).loc main_arg3) : FVec Ideal S16x32x4 .f32)⟩,
        ⟨S16x32x120, broadcastInDim S16x32x120 ![] bcast_S_S16x32x120 (constant (F := Ideal) S_ .f32 0x00000000#32)⟩] concatenates_S16x32x4_S16x32x4_S16x32x120_S16x32x128_d2 := by
  unfold V
  simp only [Idealize.ShloMosaic.StableHlo.after_cons, Idealize.ShloMosaic.StableHlo.after_nil]
  iterate 6 after_results_step
  rw [StableHlo.nary_result]
  refine concat3 _ _ _ _ _ _ ?_ ?_ ?_
  · show HloOp.result _ _ (Proc.tc.devRef main_arg2) = _
    after_results_steps
  · show HloOp.result _ _ (Proc.tc.devRef main_arg3) = _
    after_results_steps
  · show HloOp.result _ _ (Proc.tc.devRef main_v0) = _
    after_results_steps

/-- The first four lanes of the packed gates are the decays. -/
theorem blk2g (c : Dev nD) (t : Fin 16) (i : Fin 32) (h : Fin 4) (h1 : h.val < 128) :
    (iblk m c 2 t : FVec Ideal S1x32x128 .f32) (ix3 0 i ⟨h.val, h1⟩) = (m ((c : Thread nD τ).loc main_arg2) : FVec Ideal S16x32x4 .f32) (ix3 t i h) := by
  have e : (iblk m c 2 t : FVec Ideal S1x32x128 .f32) (ix3 0 i ⟨h.val, h1⟩) = (V m c main_v1 : FVec Ideal S16x32x128 .f32) (ix3 t i ⟨h.val, h1⟩) := by
    blk_simp [iblk]
    blk_ext [idx t]
  rw [e, gates_eq]
  generalize (m ((c : Thread nD τ).loc main_arg2) : FVec Ideal S16x32x4 .f32) = g
  generalize (m ((c : Thread nD τ).loc main_arg3) : FVec Ideal S16x32x4 .f32) = b
  pointwise

/-- The next four lanes of the packed gates are the write strengths. -/
theorem blk2b (c : Dev nD) (t : Fin 16) (i : Fin 32) (h : Fin 4) (h1 : 4 + h.val < 128) :
    (iblk m c 2 t : FVec Ideal S1x32x128 .f32) (ix3 0 i ⟨4 + h.val, h1⟩) = (m ((c : Thread nD τ).loc main_arg3) : FVec Ideal S16x32x4 .f32) (ix3 t i h) := by
  have e : (iblk m c 2 t : FVec Ideal S1x32x128 .f32) (ix3 0 i ⟨4 + h.val, h1⟩) = (V m c main_v1 : FVec Ideal S16x32x128 .f32) (ix3 t i ⟨4 + h.val, h1⟩) := by
    blk_simp [iblk]
    blk_ext [idx t]
  rw [e, gates_eq]
  generalize (m ((c : Thread nD τ).loc main_arg2) : FVec Ideal S16x32x4 .f32) = g
  generalize (m ((c : Thread nD τ).loc main_arg3) : FVec Ideal S16x32x4 .f32) = b
  pointwise
/-- The staged state is batch `t`'s. -/
theorem blk4 (c : Dev nD) (t : Fin 16) (h : Fin 4) (a : Fin 128) (b : Fin 128) :
    (iblk m c 4 t : FVec Ideal S1x4x128x128 .f32) (ix4 0 h a b) = (m ((c : Thread nD τ).loc main_arg5) : FVec Ideal S1x16x4x128x128 .f32) (ix5 0 t h a b) := by
  blk_simp [iblk, idx t]
  entry_read
  pointwise
  blk_ext [idx t]

/-- The staged taps are the convolution's. -/
theorem blk5 (c : Dev nD) (t : Fin 16) (i : Fin 4) (k : Fin 1536) :
    (iblk m c 5 t : FVec Ideal S4x1536 .f32) (ix2 i k) = (m ((c : Thread nD τ).loc main_arg6) : FVec Ideal S1x4x1536 .f32) (ix3 0 i k) := by
  blk_simp [iblk, idx t]
  entry_read
  pointwise
  blk_ext [idx t]

/-- The staged gain is the argument. -/
theorem blk6 (c : Dev nD) (t : Fin 16) (d : Fin 128) :
    (iblk m c 6 t : FVec Ideal S1x128 .f32) (ix2 0 d) = (m ((c : Thread nD τ).loc main_arg7) : FVec Ideal S1x128 .f32) (ix2 0 d) := by
  blk_ext [iblk, V, idx t]

/-- The last three of the eight staged rows are the rows kept from before the call. -/
theorem blk3 (c : Dev nD) (t : Fin 16) (r : Fin 3) (k : Fin 1536) :
    (iblk m c 3 t : FVec Ideal S1x8x1536 .f32) (ix3 0 ⟨5 + r.val, by omega⟩ k) = (m ((c : Thread nD τ).loc main_arg4) : FVec Ideal S1x16x3x1536 .f32) (ix4 0 t r k) := by
  have e : (iblk m c 3 t : FVec Ideal S1x8x1536 .f32) (ix3 0 ⟨5 + r.val, by omega⟩ k) = (V m c main_v6 : FVec Ideal S16x8x1536 .f32) (ix3 t ⟨5 + r.val, by omega⟩ k) := by
    blk_simp [iblk]
    blk_ext [idx t]
  rw [e]
  entry_read
  pointwise

/-- The rows the convolution reads: the eight staged rows, then the call's own. -/
def padded (x0 : FVec Ideal S1x32x1536 .f32) (x3 : FVec Ideal S1x8x1536 .f32) : FVec Ideal S40x1536 .f32 :=
  View.readCov (Val := Elt Ideal) (s := S40x1536) (e := .f32) (View.whole cc0_scratch0)
    [⟨Rect.unit (s := S40x1536) ![8, 0] S32x1536.size inb_S40x1536_S32x1536_8_0, k0_pay8 (F := Ideal) x0⟩,
      ⟨Rect.unit (s := S40x1536) ![0, 0] S8x1536.size inb_S40x1536_S8x1536_0_0, k0_pay6 (F := Ideal) x3⟩]
    (Rect.unit (s := S40x1536) ![0, 0] S40x1536.size inb_S40x1536_S40x1536_0_0).toLoadRect

/-- From row eight on the convolution reads the call's own rows. -/
theorem padded_hi (x0 : FVec Ideal S1x32x1536 .f32) (x3 : FVec Ideal S1x8x1536 .f32) (i : Fin 32) (k : Fin 1536) :
    padded x0 x3 (ix2 ⟨8 + i.val, by omega⟩ k) = x0 (ix3 0 i k) := by
  unfold padded
  rw [View.readCov_eq_canon']
  have e : ((Rect.unit (s := S40x1536) ![0, 0] S40x1536.size inb_S40x1536_S40x1536_0_0).toLoadRect.idx (ix2 ⟨8 + i.val, by omega⟩ k) : S40x1536.Idx)
    = (Rect.unit (s := S40x1536) ![8, 0] S32x1536.size inb_S40x1536_S32x1536_8_0).emb (ix2 i k) := by
    blk_ext
    · exact (show 0 + 1 * (8 + i.val) = 8 + i.val by omega)
    · exact (show 0 + 1 * k.val = k.val by omega)
  show View.canon _ _ = _
  rw [e]
  refine (View.canon_cons_emb _ _ _ _).trans ?_
  pointwise [k0_pay8]

/-- The first eight rows the convolution reads are the staged rows. -/
theorem padded_lo (x0 : FVec Ideal S1x32x1536 .f32) (x3 : FVec Ideal S1x8x1536 .f32) (i : Fin 8) (k : Fin 1536) :
    padded x0 x3 (ix2 ⟨i.val, by omega⟩ k) = x3 (ix3 0 i k) := by
  unfold padded
  rw [View.readCov_eq_canon']
  have e : ((Rect.unit (s := S40x1536) ![0, 0] S40x1536.size inb_S40x1536_S40x1536_0_0).toLoadRect.idx (ix2 ⟨i.val, by omega⟩ k) : S40x1536.Idx)
    = (Rect.unit (s := S40x1536) ![0, 0] S8x1536.size inb_S40x1536_S8x1536_0_0).emb (ix2 i k) := by
    blk_ext
    · exact (show 0 + 1 * i.val = i.val by omega)
    · exact (show 0 + 1 * k.val = k.val by omega)
  show View.canon _ _ = _
  rw [e]
  refine (View.canon_cons_of_not_mem _ _ ?_).trans ((View.canon_cons_emb _ _ _ _).trans ?_)
  · intro hm
    obtain ⟨j, hj, hj'⟩ := (LoadRect.mem_set _).mp hm 0
    have h1 : ((Rect.unit (s := S40x1536) ![0, 0] S8x1536.size inb_S40x1536_S8x1536_0_0).emb (ix2 i k) 0).val = 0 + 1 * i.val := rfl
    have h2 : ((Rect.unit (s := S40x1536) ![0, 0] S8x1536.size inb_S40x1536_S8x1536_0_0).emb (ix2 i k) 0).val = 8 + 1 * j := hj'
    omega
  · pointwise [k0_pay6]

end Cert.GdnIdeal.Value
-- ==== Proof.GdnRows.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnBlocks

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

variable (m : (ℓ : Loc nD τ sig) → Buf (Elt Ideal) ℓ)

open Cert.GdnRefIdeal.Read in
/-- Row five and on of what the kernel's convolution reads is what the reference's reads: the kept rows, then the call's own. -/
theorem padded_ref (X0 : FVec Ideal S1x32x1536 .f32) (X3 : FVec Ideal S1x8x1536 .f32) (x0 : FVec Ideal S16x32x1536 .f32)
    (x4 : FVec Ideal S1x16x3x1536 .f32) (t : Fin 16) (h0 : ∀ i k, X0 (ix3 0 i k) = x0 (ix3 t i k))
    (h3 : ∀ (r : Fin 3) k, X3 (ix3 0 ⟨5 + r.val, by omega⟩ k) = x4 (ix4 0 t r k)) (j : Fin 35) (k : Fin 1536) (hj : 5 + j.val < 40) :
    padded X0 X3 (ix2 ⟨5 + j.val, hj⟩ k) = val_main_v1 (F := Ideal) x0 x4 (ix3 t j k) := by
  by_cases hlt : j.val < 3
  · have e := padded_lo X0 X3 ⟨5 + j.val, by omega⟩ k
    have e' := h3 ⟨j.val, hlt⟩ k
    generalize padded X0 X3 = XP at *
    refine e.trans (e'.trans ?_)
    pointwise [val_main_v1, val_main_v0]
    rw [dif_pos hlt]
  · have e := padded_hi X0 X3 ⟨j.val - 3, by omega⟩ k
    have e' := h0 ⟨j.val - 3, by omega⟩ k
    generalize padded X0 X3 = XP at *
    have ei : (⟨5 + j.val, hj⟩ : Fin 40) = ⟨8 + (j.val - 3), by omega⟩ := by ext; show 5 + j.val = 8 + (j.val - 3); omega
    rw [ei]
    refine e.trans (e'.trans ?_)
    pointwise [val_main_v1, val_main_v0]
    rw [dif_neg hlt]

open Cert.GdnRefIdeal.Read in
/-- The staged rows after the convolution and the activation are the reference's. -/
theorem rows_ref (X0 : FVec Ideal S1x32x1536 .f32) (X3 : FVec Ideal S1x8x1536 .f32) (CW : FVec Ideal S4x1536 .f32) (x0 : FVec Ideal S16x32x1536 .f32)
    (x4 : FVec Ideal S1x16x3x1536 .f32) (x6 : FVec Ideal S1x4x1536 .f32) (t : Fin 16) (h0 : ∀ i k, X0 (ix3 0 i k) = x0 (ix3 t i k))
    (h3 : ∀ (r : Fin 3) k, X3 (ix3 0 ⟨5 + r.val, by omega⟩ k) = x4 (ix4 0 t r k))
    (h5 : ∀ r k, CW (ix2 r k) = x6 (ix3 0 r k)) (i : Fin 32) (k : Fin 1536) :
    k0_pay12 (F := Ideal) (k0_pay9 CW (padded X0 X3)) k0_pay11 (ix2 i k) = val_main_v29 (F := Ideal) x0 x4 x6 (ix3 t i k) := by
  have hp := padded_ref X0 X3 x0 x4 t h0 h3
  generalize padded X0 X3 = XP at *
  generalize hW : val_main_v1 (F := Ideal) x0 x4 = W at *
  have e0 : XP (ix2 ⟨5 + i.val, by omega⟩ k) = W (ix3 t ⟨i.val, by omega⟩ k) := hp ⟨i.val, by omega⟩ k _
  have e1 : XP (ix2 ⟨6 + i.val, by omega⟩ k) = W (ix3 t ⟨1 + i.val, by omega⟩ k) := by
    rw [← hp ⟨1 + i.val, by omega⟩ k (by show 5 + (1 + i.val) < 40; omega)]
    congr 2; ext; show 6 + i.val = 5 + (1 + i.val); omega
  have e2 : XP (ix2 ⟨7 + i.val, by omega⟩ k) = W (ix3 t ⟨2 + i.val, by omega⟩ k) := by
    rw [← hp ⟨2 + i.val, by omega⟩ k (by show 5 + (2 + i.val) < 40; omega)]
    congr 2; ext; show 7 + i.val = 5 + (2 + i.val); omega
  have e3 : XP (ix2 ⟨8 + i.val, by omega⟩ k) = W (ix3 t ⟨3 + i.val, by omega⟩ k) := by
    rw [← hp ⟨3 + i.val, by omega⟩ k (by show 5 + (3 + i.val) < 40; omega)]
    congr 2; ext; show 8 + i.val = 5 + (3 + i.val); omega
  have f0 := h5 0 k
  have f1 := h5 1 k
  have f2 := h5 2 k
  have f3 := h5 3 k
  clear hp h0 h3 h5
  pointwise [k0_pay9, k0_pay12, k0_pay11, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_call0_v0, val_main_call0_v1, val_main_call0_v2, val_main_call0_v3, val_main_call0_v4, val_main_call0_v5, val_main_v29, val_main_call0_cst, val_main_call0_cst_0]
  rw [show (⟨(8 + i.val + 40 - 3) % 40, by omega⟩ : Fin 40) = ⟨5 + i.val, by omega⟩ from Fin.ext (by show (8 + i.val + 40 - 3) % 40 = 5 + i.val; omega),
    show (⟨(8 + i.val + 40 - 2) % 40, by omega⟩ : Fin 40) = ⟨6 + i.val, by omega⟩ from Fin.ext (by show (8 + i.val + 40 - 2) % 40 = 6 + i.val; omega),
    show (⟨(8 + i.val + 40 - 1) % 40, by omega⟩ : Fin 40) = ⟨7 + i.val, by omega⟩ from Fin.ext (by show (8 + i.val + 40 - 1) % 40 = 7 + i.val; omega),
    e0, e1, e2, e3, f0, f1, f2, f3, hW, zero_sub]
  have ac : ∀ a b c d : EReal, a + b + c + d = b + c + d + a := fun a b c d => by ac_rfl
  rw [ac]

/-- A load of 128 columns of the staged rows reads those columns. -/
theorem cols_apply (Y : FVec Ideal S32x1536 .f32) (o : Nat) (hb) (i : Fin 32) (d : Fin 128) (ho : o + d.val < 1536) :
    (View.readCov (Val := Elt Ideal) (s := S32x1536) (e := .f32) (View.whole cc0_scratch1)
      [⟨Rect.unit (s := S32x1536) ![0, 0] S32x1536.size inb_S32x1536_S32x1536_0_0, Y⟩]
      (Rect.unit (s := S32x1536) ![0, o] S32x128.size hb).toLoadRect : FVec Ideal S32x128 .f32) (ix2 i d) = Y (ix2 i ⟨o + d.val, ho⟩) := by
  rw [View.readCov_eq_canon']
  have e : ((Rect.unit (s := S32x1536) ![0, o] S32x128.size hb).toLoadRect.idx (ix2 i d) : S32x1536.Idx)
      = (Rect.unit (s := S32x1536) ![0, 0] S32x1536.size inb_S32x1536_S32x1536_0_0).emb (ix2 i ⟨o + d.val, ho⟩) := by
    blk_ext
    · exact (show 0 + 1 * i.val = i.val by omega)
    · exact (show o + 1 * d.val = o + d.val by omega)
  show View.canon _ _ = _
  rw [e]
  exact View.canon_cons_emb _ _ _ _

end Cert.GdnIdeal.Value
-- ==== Proof.GdnFinal.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnJoin
public import proofs.«01_k».proof.Proof.GdnRows

@[expose] public section

set_option maxRecDepth 16384
set_option maxHeartbeats 400000

noncomputable section

open Idealize.ShloMosaic Idealize.ShloMosaic.TcCoe Idealize.SL.Sem
open Idealize.ShloMosaic.Pipeline (Dat)

namespace Cert.GdnIdeal.Value

open Cert.GdnIdeal Cert.GdnIdeal.Gen
open Cert.GdnInverse

/-- A load of 128 columns of the staged rows. -/
def cols (Y : FVec Ideal S32x1536 .f32) (o : Nat) (hb : ∀ a, (![0, o] : Fin 2 → ℕ) a + S32x128.size a ≤ S32x1536.size a) : FVec Ideal S32x128 .f32 :=
  View.readCov (Val := Elt Ideal) (s := S32x1536) (e := .f32) (View.whole cc0_scratch1)
    [⟨Rect.unit (s := S32x1536) ![0, 0] S32x1536.size inb_S32x1536_S32x1536_0_0, Y⟩]
    (Rect.unit (s := S32x1536) ![0, o] S32x128.size hb).toLoadRect

/-- The query columns of each head. -/
def qs (Y : FVec Ideal S32x1536 .f32) : Fin 4 → FVec Ideal S32x128 .f32 :=
  ![cols Y 0 inb_S32x1536_S32x128_0_0, cols Y 128 inb_S32x1536_S32x128_0_128, cols Y 256 inb_S32x1536_S32x128_0_256, cols Y 384 inb_S32x1536_S32x128_0_384]
/-- The key columns of each head. -/
def ks (Y : FVec Ideal S32x1536 .f32) : Fin 4 → FVec Ideal S32x128 .f32 :=
  ![cols Y 512 inb_S32x1536_S32x128_0_512, cols Y 640 inb_S32x1536_S32x128_0_640, cols Y 768 inb_S32x1536_S32x128_0_768, cols Y 896 inb_S32x1536_S32x128_0_896]
/-- The value columns of each head. -/
def vs (Y : FVec Ideal S32x1536 .f32) : Fin 4 → FVec Ideal S32x128 .f32 :=
  ![cols Y 1024 inb_S32x1536_S32x128_0_1024, cols Y 1152 inb_S32x1536_S32x128_0_1152, cols Y 1280 inb_S32x1536_S32x128_0_1280, cols Y 1408 inb_S32x1536_S32x128_0_1408]

/-- The first of four. -/
theorem pick0 {α : Type} (a b c d : α) : (![a, b, c, d] : Fin 4 → α) 0 = a := rfl
/-- The second of four. -/
theorem pick1 {α : Type} (a b c d : α) : (![a, b, c, d] : Fin 4 → α) 1 = b := rfl
/-- The third of four. -/
theorem pick2 {α : Type} (a b c d : α) : (![a, b, c, d] : Fin 4 → α) 2 = c := rfl
/-- The last of four. -/
theorem pick3 {α : Type} (a b c d : α) : (![a, b, c, d] : Fin 4 → α) 3 = d := rfl

/-- There are four heads. -/
theorem four (h : Fin 4) : h = 0 ∨ h = 1 ∨ h = 2 ∨ h = 3 := by omega

/-- A load of columns of the staged rows reads the column it names. -/
theorem cols_at (Y : FVec Ideal S32x1536 .f32) (o : Nat) (hb) (i : Fin 32) (d : Fin 128) (n : ℕ) (hn : n < 1536) (e : o + d.val = n) : cols Y o hb (ix2 i d) = Y (ix2 i ⟨n, hn⟩) := by
  subst e
  exact cols_apply Y o hb i d hn

/-- Head `h` has its queries in columns `128 h` on. -/
theorem qs_apply (Y : FVec Ideal S32x1536 .f32) (h : Fin 4) (i : Fin 32) (d : Fin 128) (hd : h.val * 128 + d.val < 1536) : qs Y h (ix2 i d) = Y (ix2 i ⟨h.val * 128 + d.val, hd⟩) := by
  unfold qs
  rcases four h with rfl | rfl | rfl | rfl
  · refine (congrFun (pick0 _ _ _ _) _).trans ?_
    exact cols_at Y 0 inb_S32x1536_S32x128_0_0 i d _ hd (show 0 + d.val = 0 * 128 + d.val by omega)
  · refine (congrFun (pick1 _ _ _ _) _).trans ?_
    exact cols_at Y 128 inb_S32x1536_S32x128_0_128 i d _ hd (show 128 + d.val = 1 * 128 + d.val by omega)
  · refine (congrFun (pick2 _ _ _ _) _).trans ?_
    exact cols_at Y 256 inb_S32x1536_S32x128_0_256 i d _ hd (show 256 + d.val = 2 * 128 + d.val by omega)
  · refine (congrFun (pick3 _ _ _ _) _).trans ?_
    exact cols_at Y 384 inb_S32x1536_S32x128_0_384 i d _ hd (show 384 + d.val = 3 * 128 + d.val by omega)

/-- Head `h` has its keys in columns `512 + 128 h` on. -/
theorem ks_apply (Y : FVec Ideal S32x1536 .f32) (h : Fin 4) (i : Fin 32) (d : Fin 128) (hd : 512 + (h.val * 128 + d.val) < 1536) : ks Y h (ix2 i d) = Y (ix2 i ⟨512 + (h.val * 128 + d.val), hd⟩) := by
  unfold ks
  rcases four h with rfl | rfl | rfl | rfl
  · refine (congrFun (pick0 _ _ _ _) _).trans ?_
    exact cols_at Y 512 inb_S32x1536_S32x128_0_512 i d _ hd (show 512 + d.val = 512 + (0 * 128 + d.val) by omega)
  · refine (congrFun (pick1 _ _ _ _) _).trans ?_
    exact cols_at Y 640 inb_S32x1536_S32x128_0_640 i d _ hd (show 640 + d.val = 512 + (1 * 128 + d.val) by omega)
  · refine (congrFun (pick2 _ _ _ _) _).trans ?_
    exact cols_at Y 768 inb_S32x1536_S32x128_0_768 i d _ hd (show 768 + d.val = 512 + (2 * 128 + d.val) by omega)
  · refine (congrFun (pick3 _ _ _ _) _).trans ?_
    exact cols_at Y 896 inb_S32x1536_S32x128_0_896 i d _ hd (show 896 + d.val = 512 + (3 * 128 + d.val) by omega)

/-- Head `h` has its values in columns `1024 + 128 h` on. -/
theorem vs_apply (Y : FVec Ideal S32x1536 .f32) (h : Fin 4) (i : Fin 32) (d : Fin 128) (hd : 1024 + (h.val * 128 + d.val) < 1536) : vs Y h (ix2 i d) = Y (ix2 i ⟨1024 + (h.val * 128 + d.val), hd⟩) := by
  unfold vs
  rcases four h with rfl | rfl | rfl | rfl
  · refine (congrFun (pick0 _ _ _ _) _).trans ?_
    exact cols_at Y 1024 inb_S32x1536_S32x128_0_1024 i d _ hd (show 1024 + d.val = 1024 + (0 * 128 + d.val) by omega)
  · refine (congrFun (pick1 _ _ _ _) _).trans ?_
    exact cols_at Y 1152 inb_S32x1536_S32x128_0_1152 i d _ hd (show 1152 + d.val = 1024 + (1 * 128 + d.val) by omega)
  · refine (congrFun (pick2 _ _ _ _) _).trans ?_
    exact cols_at Y 1280 inb_S32x1536_S32x128_0_1280 i d _ hd (show 1280 + d.val = 1024 + (2 * 128 + d.val) by omega)
  · refine (congrFun (pick3 _ _ _ _) _).trans ?_
    exact cols_at Y 1408 inb_S32x1536_S32x128_0_1408 i d _ hd (show 1408 + d.val = 1024 + (3 * 128 + d.val) by omega)

/-- An entry of one head's state is in no other head's slab. -/
theorem other_slab (o : ℕ) (hb : ∀ a, (![o, 0, 0] : Fin 3 → ℕ) a + S1x128x128.size a ≤ S4x128x128.size a) (h : Fin 4) (a d : Fin 128) (ho : o ≠ h.val) :
    (ix3 h a d : S4x128x128.Idx) ∉ (Rect.unit (s := S4x128x128) ![o, 0, 0] S1x128x128.size hb).set := by
  intro hm
  have h0 := (Rect.mem_set_unit.mp hm) 0
  change o ≤ h.val ∧ h.val < o + 1 at h0
  omega

/-- An entry of a head's state is that entry of the head's slab. -/
theorem own_slab (o : ℕ) (hb : ∀ a, (![o, 0, 0] : Fin 3 → ℕ) a + S1x128x128.size a ≤ S4x128x128.size a) (h : Fin 4) (a d : Fin 128) (ho : h.val = o) :
    (ix3 h a d : S4x128x128.Idx) = (Rect.unit (s := S4x128x128) ![o, 0, 0] S1x128x128.size hb).emb (ix3 0 a d) := by
  blk_ext

/-- The load of head `o`'s slab of the staged state. -/
def slab (X4 : FVec Ideal S1x4x128x128 .f32) (o : ℕ) (hb : ∀ a, (![o, 0, 0] : Fin 3 → ℕ) a + S1x128x128.size a ≤ S4x128x128.size a) : FVec Ideal S1x128x128 .f32 :=
  View.readCov (Val := Elt Ideal) (s := S4x128x128) (e := .f32) (View.whole cc0_scratch2)
    [⟨Rect.unit (s := S4x128x128) ![0, 0, 0] S4x128x128.size inb_S4x128x128_S4x128x128_0_0_0, k0_pay7 (F := Ideal) X4⟩]
    (Rect.unit (s := S4x128x128) ![o, 0, 0] S1x128x128.size hb).toLoadRect

/-- A load of a head's slab reads the staged state. -/
theorem slab_apply (X4 : FVec Ideal S1x4x128x128 .f32) (o : ℕ) (hb) (h : Fin 4) (ho : h.val = o) (a d : Fin 128) :
    slab X4 o hb (ix3 0 a d) = X4 (ix4 0 h a d) := by
  unfold slab
  rw [View.readCov_eq_canon']
  have e : ((Rect.unit (s := S4x128x128) ![o, 0, 0] S1x128x128.size hb).toLoadRect.idx (ix3 0 a d) : S4x128x128.Idx)
    = (Rect.unit (s := S4x128x128) ![0, 0, 0] S4x128x128.size inb_S4x128x128_S4x128x128_0_0_0).emb (ix3 h a d) := by
    blk_ext
    · exact (show o + 1 * 0 = h.val by omega)
    · exact (show 0 + 1 * a.val = a.val by omega)
    · exact (show 0 + 1 * d.val = d.val by omega)
  show View.canon _ _ = _
  rw [e]
  refine (View.canon_cons_emb _ _ _ _).trans ?_
  pointwise [k0_pay7]

/-- The staged state of each head. -/
def ss (X4 : FVec Ideal S1x4x128x128 .f32) : Fin 4 → FVec Ideal S128x128 .f32 :=
  ![k0_pay23 (F := Ideal) (slab X4 0 inb_S4x128x128_S1x128x128_0_0_0), k0_pay24 (F := Ideal) (slab X4 1 inb_S4x128x128_S1x128x128_1_0_0),
    k0_pay25 (F := Ideal) (slab X4 2 inb_S4x128x128_S1x128x128_2_0_0), k0_pay26 (F := Ideal) (slab X4 3 inb_S4x128x128_S1x128x128_3_0_0)]

/-- The staged state of head `h` is the call's. -/
theorem ss_apply (X4 : FVec Ideal S1x4x128x128 .f32) (h : Fin 4) (a d : Fin 128) : ss X4 h (ix2 a d) = X4 (ix4 0 h a d) := by
  have e0 := slab_apply X4 0 inb_S4x128x128_S1x128x128_0_0_0 0 rfl a d
  have e1 := slab_apply X4 1 inb_S4x128x128_S1x128x128_1_0_0 1 rfl a d
  have e2 := slab_apply X4 2 inb_S4x128x128_S1x128x128_2_0_0 2 rfl a d
  have e3 := slab_apply X4 3 inb_S4x128x128_S1x128x128_3_0_0 3 rfl a d
  unfold ss
  fin_cases h
  · refine Eq.trans ?_ e0
    pointwise [k0_pay23]
  · refine Eq.trans ?_ e1
    pointwise [k0_pay24]
  · refine Eq.trans ?_ e2
    pointwise [k0_pay25]
  · refine Eq.trans ?_ e3
    pointwise [k0_pay26]

/-- The state the call writes, from the four heads' new states stored one after the other. -/
def kept (X4 : FVec Ideal S1x4x128x128 .f32) (N : Fin 4 → FVec Ideal S128x128 .f32) : FVec Ideal S4x128x128 .f32 :=
  View.readCov (Val := Elt Ideal) (s := S4x128x128) (e := .f32) (View.whole cc0_scratch2)
    [⟨Rect.unit (s := S4x128x128) ![3, 0, 0] S1x128x128.size inb_S4x128x128_S1x128x128_3_0_0, k0_pay4 (F := Ideal) (N 3)⟩,
      ⟨Rect.unit (s := S4x128x128) ![2, 0, 0] S1x128x128.size inb_S4x128x128_S1x128x128_2_0_0, k0_pay3 (F := Ideal) (N 2)⟩,
      ⟨Rect.unit (s := S4x128x128) ![1, 0, 0] S1x128x128.size inb_S4x128x128_S1x128x128_1_0_0, k0_pay2 (F := Ideal) (N 1)⟩,
      ⟨Rect.unit (s := S4x128x128) ![0, 0, 0] S1x128x128.size inb_S4x128x128_S1x128x128_0_0_0, k0_pay1 (F := Ideal) (N 0)⟩,
      ⟨Rect.unit (s := S4x128x128) ![0, 0, 0] S4x128x128.size inb_S4x128x128_S4x128x128_0_0_0, k0_pay7 (F := Ideal) X4⟩]
    (Rect.unit (s := S4x128x128) ![0, 0, 0] S4x128x128.size inb_S4x128x128_S4x128x128_0_0_0).toLoadRect

/-- The state the call writes has each head's new state in the head's slab. -/
theorem kept_apply (X4 : FVec Ideal S1x4x128x128 .f32) (N : Fin 4 → FVec Ideal S128x128 .f32) (h : Fin 4) (a d : Fin 128) :
    k0_pay5 (F := Ideal) (kept X4 N) (ix4 0 h a d) = N h (ix2 a d) := by
  have e : k0_pay5 (F := Ideal) (kept X4 N) (ix4 0 h a d) = kept X4 N (ix3 h a d) := by
    generalize kept X4 N = W
    pointwise [k0_pay5]
  rw [e]
  unfold kept
  rw [View.readCov_eq_canon']
  have e : ((Rect.unit (s := S4x128x128) ![0, 0, 0] S4x128x128.size inb_S4x128x128_S4x128x128_0_0_0).toLoadRect.idx (ix3 h a d) : S4x128x128.Idx) = ix3 h a d := by
    blk_ext
    · exact (show 0 + 1 * h.val = h.val by omega)
    · exact (show 0 + 1 * a.val = a.val by omega)
    · exact (show 0 + 1 * d.val = d.val by omega)
  show View.canon _ _ = _
  rw [e]
  rcases four h with h0 | h0 | h0 | h0
  · refine Eq.trans (View.canon_cons_of_not_mem _ _ (other_slab 3 inb_S4x128x128_S1x128x128_3_0_0 h a d (by omega))) ?_
    refine Eq.trans (View.canon_cons_of_not_mem _ _ (other_slab 2 inb_S4x128x128_S1x128x128_2_0_0 h a d (by omega))) ?_
    refine Eq.trans (View.canon_cons_of_not_mem _ _ (other_slab 1 inb_S4x128x128_S1x128x128_1_0_0 h a d (by omega))) ?_
    rw [own_slab 0 inb_S4x128x128_S1x128x128_0_0_0 h a d (by omega)]
    refine (View.canon_cons_emb _ _ _ _).trans ?_
    subst h0
    generalize N 0 = W
    pointwise [k0_pay1]
  · refine Eq.trans (View.canon_cons_of_not_mem _ _ (other_slab 3 inb_S4x128x128_S1x128x128_3_0_0 h a d (by omega))) ?_
    refine Eq.trans (View.canon_cons_of_not_mem _ _ (other_slab 2 inb_S4x128x128_S1x128x128_2_0_0 h a d (by omega))) ?_
    rw [own_slab 1 inb_S4x128x128_S1x128x128_1_0_0 h a d (by omega)]
    refine (View.canon_cons_emb _ _ _ _).trans ?_
    subst h0
    generalize N 1 = W
    pointwise [k0_pay2]
  · refine Eq.trans (View.canon_cons_of_not_mem _ _ (other_slab 3 inb_S4x128x128_S1x128x128_3_0_0 h a d (by omega))) ?_
    rw [own_slab 2 inb_S4x128x128_S1x128x128_2_0_0 h a d (by omega)]
    refine (View.canon_cons_emb _ _ _ _).trans ?_
    subst h0
    generalize N 2 = W
    pointwise [k0_pay3]
  · rw [own_slab 3 inb_S4x128x128_S1x128x128_3_0_0 h a d (by omega)]
    refine (View.canon_cons_emb _ _ _ _).trans ?_
    subst h0
    generalize N 3 = W
    pointwise [k0_pay4]

/-- The block of results holds each head's rows in the head's columns. -/
theorem written_apply (W : Fin 4 → FVec Ideal S1x32x128 .bf16) (h : Fin 4) (i : Fin 32) (d : Fin 128) (hd : h.val * 128 + d.val < 512) :
    View.canon (Val := Elt Ideal) (s := S1x32x512) (e := .bf16)
      [⟨Rect.unit (s := S1x32x512) ![0, 0, 384] S1x32x128.size inb_S1x32x512_S1x32x128_0_0_384, W 3⟩,
        ⟨Rect.unit (s := S1x32x512) ![0, 0, 256] S1x32x128.size inb_S1x32x512_S1x32x128_0_0_256, W 2⟩,
        ⟨Rect.unit (s := S1x32x512) ![0, 0, 128] S1x32x128.size inb_S1x32x512_S1x32x128_0_0_128, W 1⟩,
        ⟨Rect.unit (s := S1x32x512) ![0, 0, 0] S1x32x128.size inb_S1x32x512_S1x32x128_0_0_0, W 0⟩]
      (ix3 0 i ⟨h.val * 128 + d.val, hd⟩) = W h (ix3 0 i d) := by
  have own : ∀ (o : ℕ) (hb : ∀ a, (![0, 0, o] : Fin 3 → ℕ) a + S1x32x128.size a ≤ S1x32x512.size a) (ho : h.val * 128 = o),
      (ix3 0 i ⟨h.val * 128 + d.val, hd⟩ : S1x32x512.Idx) = (Rect.unit (s := S1x32x512) ![0, 0, o] S1x32x128.size hb).emb (ix3 0 i d) := by
    intro o hb ho
    blk_ext
  have other : ∀ (o : ℕ) (hb : ∀ a, (![0, 0, o] : Fin 3 → ℕ) a + S1x32x128.size a ≤ S1x32x512.size a) (ho : h.val * 128 + 128 ≤ o),
      (ix3 0 i ⟨h.val * 128 + d.val, hd⟩ : S1x32x512.Idx) ∉ (Rect.unit (s := S1x32x512) ![0, 0, o] S1x32x128.size hb).set := by
    intro o hb ho hm
    have h0 := (Rect.mem_set_unit.mp hm) 2
    change o ≤ h.val * 128 + d.val ∧ h.val * 128 + d.val < o + 128 at h0
    omega
  rcases four h with h0 | h0 | h0 | h0
  · refine Eq.trans (View.canon_cons_of_not_mem _ _ (other 384 inb_S1x32x512_S1x32x128_0_0_384 (by omega))) ?_
    refine Eq.trans (View.canon_cons_of_not_mem _ _ (other 256 inb_S1x32x512_S1x32x128_0_0_256 (by omega))) ?_
    refine Eq.trans (View.canon_cons_of_not_mem _ _ (other 128 inb_S1x32x512_S1x32x128_0_0_128 (by omega))) ?_
    rw [own 0 inb_S1x32x512_S1x32x128_0_0_0 (by omega)]
    refine (View.canon_cons_emb _ _ _ _).trans ?_
    subst h0
    rfl
  · refine Eq.trans (View.canon_cons_of_not_mem _ _ (other 384 inb_S1x32x512_S1x32x128_0_0_384 (by omega))) ?_
    refine Eq.trans (View.canon_cons_of_not_mem _ _ (other 256 inb_S1x32x512_S1x32x128_0_0_256 (by omega))) ?_
    rw [own 128 inb_S1x32x512_S1x32x128_0_0_128 (by omega)]
    refine (View.canon_cons_emb _ _ _ _).trans ?_
    subst h0
    rfl
  · refine Eq.trans (View.canon_cons_of_not_mem _ _ (other 384 inb_S1x32x512_S1x32x128_0_0_384 (by omega))) ?_
    rw [own 256 inb_S1x32x512_S1x32x128_0_0_256 (by omega)]
    refine (View.canon_cons_emb _ _ _ _).trans ?_
    subst h0
    rfl
  · rw [own 384 inb_S1x32x512_S1x32x128_0_0_384 (by omega)]
    refine (View.canon_cons_emb _ _ _ _).trans ?_
    subst h0
    rfl

/-- The gate columns of each head. -/
def zs (X1 : FVec Ideal S1x32x512 .f32) : Fin 4 → FVec Ideal S1x32x128 .f32 :=
  ![View.ld (Val := Elt Ideal) (S := S1x32x512) (e' := .f32) X1 (Rect.unit (s := S1x32x512) ![0, 0, 0] S1x32x128.size inb_S1x32x512_S1x32x128_0_0_0),
    View.ld (Val := Elt Ideal) (S := S1x32x512) (e' := .f32) X1 (Rect.unit (s := S1x32x512) ![0, 0, 128] S1x32x128.size inb_S1x32x512_S1x32x128_0_0_128),
    View.ld (Val := Elt Ideal) (S := S1x32x512) (e' := .f32) X1 (Rect.unit (s := S1x32x512) ![0, 0, 256] S1x32x128.size inb_S1x32x512_S1x32x128_0_0_256),
    View.ld (Val := Elt Ideal) (S := S1x32x512) (e' := .f32) X1 (Rect.unit (s := S1x32x512) ![0, 0, 384] S1x32x128.size inb_S1x32x512_S1x32x128_0_0_384)]

/-- Head `h` has its gate columns at `128 h` on. -/
theorem zs_apply (X1 : FVec Ideal S1x32x512 .f32) (h : Fin 4) (i : Fin 32) (d : Fin 128) (hd : h.val * 128 + d.val < 512) :
    zs X1 h (ix3 0 i d) = X1 (ix3 0 i ⟨h.val * 128 + d.val, hd⟩) := by
  unfold zs
  rcases four h with rfl | rfl | rfl | rfl
  · refine (congrFun (pick0 _ _ _ _) _).trans (congrArg X1 ?_)
    blk_ext
    · exact (show 0 + 1 * i.val = i.val by omega)
    · exact (show 0 + 1 * d.val = 0 * 128 + d.val by omega)
  · refine (congrFun (pick1 _ _ _ _) _).trans (congrArg X1 ?_)
    blk_ext
    · exact (show 0 + 1 * i.val = i.val by omega)
    · exact (show 128 + 1 * d.val = 1 * 128 + d.val by omega)
  · refine (congrFun (pick2 _ _ _ _) _).trans (congrArg X1 ?_)
    blk_ext
    · exact (show 0 + 1 * i.val = i.val by omega)
    · exact (show 256 + 1 * d.val = 2 * 128 + d.val by omega)
  · refine (congrFun (pick3 _ _ _ _) _).trans (congrArg X1 ?_)
    blk_ext
    · exact (show 0 + 1 * i.val = i.val by omega)
    · exact (show 384 + 1 * d.val = 3 * 128 + d.val by omega)

/-- The staged rows after the convolution and the activation. -/
def acted (X0 : FVec Ideal S1x32x1536 .f32) (X3 : FVec Ideal S1x8x1536 .f32) (X5 : FVec Ideal S4x1536 .f32) : FVec Ideal S32x1536 .f32 :=
  k0_pay12 (F := Ideal) (k0_pay9 (F := Ideal) X5 (padded X0 X3)) (k0_pay11 (F := Ideal))

section Points

variable (X0 : FVec Ideal S1x32x1536 .f32) (X1 : FVec Ideal S1x32x512 .f32) (X2 : FVec Ideal S1x32x128 .f32) (X3 : FVec Ideal S1x8x1536 .f32)
  (X4 : FVec Ideal S1x4x128x128 .f32) (X5 : FVec Ideal S4x1536 .f32) (X6 : FVec Ideal S1x128 .f32)
  (x0 : FVec Ideal S16x32x1536 .f32) (x1 : FVec Ideal S16x32x512 .f32) (x2 x3 : FVec Ideal S16x32x4 .f32) (x4 : FVec Ideal S1x16x3x1536 .f32)
  (x5 : FVec Ideal S1x16x4x128x128 .f32) (x6 : FVec Ideal S1x4x1536 .f32) (x7 : FVec Ideal S1x128 .f32) (t : Fin 16)

/-- What the blocks staged at one grid point hold: batch `t` of the call's arguments, with finite gates. -/
structure Staged : Prop where
  h0 : ∀ (i : Fin 32) (k : Fin 1536), X0 (ix3 0 i k) = x0 (ix3 t i k)
  h1 : ∀ (i : Fin 32) (k : Fin 512), X1 (ix3 0 i k) = x1 (ix3 t i k)
  hg : ∀ (h : Fin 4) (i : Fin 32), X2 (ix3 0 i ⟨h.val, by omega⟩) = x2 (ix3 t i h)
  hb : ∀ (h : Fin 4) (i : Fin 32), X2 (ix3 0 i ⟨4 + h.val, by omega⟩) = x3 (ix3 t i h)
  h3 : ∀ (r : Fin 3) (k : Fin 1536), X3 (ix3 0 ⟨5 + r.val, by omega⟩ k) = x4 (ix4 0 t r k)
  h4 : ∀ (h : Fin 4) (a d : Fin 128), X4 (ix4 0 h a d) = x5 (ix5 0 t h a d)
  h5 : ∀ (r : Fin 4) (k : Fin 1536), X5 (ix2 r k) = x6 (ix3 0 r k)
  h6 : ∀ d : Fin 128, X6 (ix2 0 d) = x7 (ix2 0 d)
  rg : ∀ (i : Fin 32) (h : Fin 4), Real' (x2 (ix3 t i h))
  rb : ∀ (i : Fin 32) (h : Fin 4), Real' (x3 (ix3 t i h))

variable (B : Staged X0 X1 X2 X3 X4 X5 X6 x0 x1 x2 x3 x4 x5 x6 x7 t)

include B

/-- Each head of the staged blocks is the reference's head of batch `t`. -/
theorem heads_eq (h : Fin 4) : khead X2 (qs (acted X0 X3 X5)) (ks (acted X0 X3 X5)) (vs (acted X0 X3 X5)) (ss X4) h = Cert.GdnRefIdeal.Model.head x0 x2 x3 x4 x5 x6 t h := by
  have rows : ∀ (i : Fin 32) (k : Fin 1536), acted X0 X3 X5 (ix2 i k) = Cert.GdnRefIdeal.Read.val_main_v29 (F := Ideal) x0 x4 x6 (ix3 t i k) :=
    fun i k => rows_ref X0 X3 X5 x0 x4 x6 t B.h0 B.h3 B.h5 i k
  refine khead_eq X2 _ _ _ _ x0 x2 x3 x4 x5 x6 t h ?_ ?_ ?_ (B.hg h) (B.hb h) ?_
  · intro i d
    exact (qs_apply _ h i d _).trans (rows i _)
  · intro i d
    exact (ks_apply _ h i d _).trans (rows i _)
  · intro i d
    exact (vs_apply _ h i d _).trans (rows i _)
  · intro a d
    exact (ss_apply X4 h a d).trans (B.h4 h a d)

/-- The log-gates of the staged heads are real. -/
theorem real_g (h : Fin 4) (i : Fin 32) : Real' ((khead X2 (qs (acted X0 X3 X5)) (ks (acted X0 X3 X5)) (vs (acted X0 X3 X5)) (ss X4) h).g i) := by
  have e : (khead X2 (qs (acted X0 X3 X5)) (ks (acted X0 X3 X5)) (vs (acted X0 X3 X5)) (ss X4) h).g i = x2 (ix3 t i h) := B.hg h i
  rw [e]
  exact B.rg i h

/-- The write strengths of the staged heads are real. -/
theorem real_b (h : Fin 4) (i : Fin 32) : Real' ((khead X2 (qs (acted X0 X3 X5)) (ks (acted X0 X3 X5)) (vs (acted X0 X3 X5)) (ss X4) h).b i) := by
  have e : (khead X2 (qs (acted X0 X3 X5)) (ks (acted X0 X3 X5)) (vs (acted X0 X3 X5)) (ss X4) h).b i = x3 (ix3 t i h) := B.hb h i
  rw [e]
  exact B.rb i h

/-- One entry of the stored state is the reference's new state at that entry. -/
theorem state_point (h : Fin 4) (a d : Fin 128) :
    k0_pay5 (F := Ideal) (kept X4 (newS X2 (qs (acted X0 X3 X5)) (ks (acted X0 X3 X5)) (vs (acted X0 X3 X5)) (ss X4))) (ix4 0 h a d)
      = Cert.GdnRefIdeal.Read.val_main_v306 (F := Ideal) x0 x2 x3 x4 x5 x6 (ix4 t h a d) := by
  refine (kept_apply X4 _ h a d).trans ?_
  refine (newS_apply X2 _ _ _ _ (real_g X0 X1 X2 X3 X4 X5 X6 x0 x1 x2 x3 x4 x5 x6 x7 t B) (real_b X0 X1 X2 X3 X4 X5 X6 x0 x1 x2 x3 x4 x5 x6 x7 t B) h a d).trans ?_
  rw [heads_eq X0 X1 X2 X3 X4 X5 X6 x0 x1 x2 x3 x4 x5 x6 x7 t B h]
  exact (Cert.GdnRefIdeal.Model.new_eq x0 x2 x3 x4 x5 x6 t h a d).symm

/-- One entry of the stored rows is the reference's output at that entry. -/
theorem out_point (h : Fin 4) (i : Fin 32) (d : Fin 128) (hd : h.val * 128 + d.val < 512) :
    outrow X2 (qs (acted X0 X3 X5)) (ks (acted X0 X3 X5)) (vs (acted X0 X3 X5)) (ss X4) X6 (zs X1) h (ix3 0 i d)
      = Cert.GdnRefIdeal.Read.val_main_v329 (F := Ideal) x0 x1 x2 x3 x4 x5 x6 x7 (ix3 t i ⟨h.val * 128 + d.val, hd⟩) := by
  refine (outrow_apply X2 _ _ _ _ X6 (zs X1) h i d).trans (Eq.trans ?_ (ref_o x0 x1 x2 x3 x4 x5 x6 x7 t h i d hd).symm)
  have e : ∀ x, outs X2 (qs (acted X0 X3 X5)) (ks (acted X0 X3 X5)) (vs (acted X0 X3 X5)) (ss X4) (ix2 (lane h i) x)
      = Cert.GdnRefIdeal.Read.val_main_v301 (F := Ideal) x0 x2 x3 x4 x5 x6 (ix4 t h i x) := by
    intro x
    refine (outs_apply X2 _ _ _ _ (real_g X0 X1 X2 X3 X4 X5 X6 x0 x1 x2 x3 x4 x5 x6 x7 t B) (real_b X0 X1 X2 X3 X4 X5 X6 x0 x1 x2 x3 x4 x5 x6 x7 t B) h i x).trans ?_
    rw [heads_eq X0 X1 X2 X3 X4 X5 X6 x0 x1 x2 x3 x4 x5 x6 x7 t B h]
    exact (Cert.GdnRefIdeal.Model.o_eq x0 x2 x3 x4 x5 x6 t h i x).symm
  rw [zs_apply X1 h i d hd, B.h1]
  simp only [e, B.h6]

end Points

end Cert.GdnIdeal.Value
-- ==== Proof.GdnGates.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnFinal
public import proofs.«01_k».proof.Defs
public import proofs.«01_k».proof.Proof.Gen.Pre_gates_finite
public import Idealize.ShloMosaic.Lib.ReduceAll

@[expose] public section

set_option maxRecDepth 16384
set_option maxHeartbeats 2000000

noncomputable section

open Idealize.ShloMosaic Idealize.ShloMosaic.TcCoe Idealize.SL.Sem
open Idealize.ShloMosaic.Pipeline (Dat)

namespace Cert.GdnIdeal.Value

open Cert.GdnIdeal Cert.GdnIdeal.Gen

variable (m : (ℓ : Loc nD τ sig) → Buf (Elt Ideal) ℓ)

/-- A value whose magnitude is below infinity is real. -/
theorem real_of_abs (x : EReal) (h : max x (-x) < ⊤) : Real' x := by
  induction x with
  | bot => simp at h
  | top => simp at h
  | coe r => exact ⟨r, rfl⟩

/-- A comparison of a magnitude with infinity that holds says that the value is real. -/
theorem real_of_cmp (x : EReal) (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  refine real_of_abs x ?_
  by_contra hn
  simp [Ideal.cmp, hn] at h

/-- The precondition makes both gates real. -/
theorem gates_real (x0 : FVec Ideal S16x32x1536 .f32) (x1 : FVec Ideal S16x32x512 .f32) (x2 x3 : FVec Ideal S16x32x4 .f32) (x4 : FVec Ideal S1x16x3x1536 .f32)
    (x5 : FVec Ideal S1x16x4x128x128 .f32) (x6 : FVec Ideal S1x4x1536 .f32) (x7 : FVec Ideal S1x128 .f32) [Cert.Pre_gates_finite.Facts]
    (h : Cert.Pre_gates_finite.fn (F := Ideal) x0 x1 x2 x3 x4 x5 x6 x7 = fun _ => 1#1) (i : S16x32x4.Idx) : Real' (x2 i) ∧ Real' (x3 i) := by
  have andi_one (a b : BitVec 1) : IntOp.andi a b = 1#1 ↔ a = 1#1 ∧ b = 1#1 := by revert a b; decide
  have pre := congrFun h ix0
  simp only [Cert.Pre_gates_finite.fn, andi, andi_one] at pre
  haveI : Subsingleton Cert.Pre_gates_finite.S_.Idx := ⟨fun a b => funext fun k => k.elim0⟩
  have e2 := Host.reduce_andi_all _ _ _ _ _ pre.1 i
  have e3 := Host.reduce_andi_all _ _ _ _ _ pre.2 i
  clear pre h
  exact ⟨real_of_cmp _ e2, real_of_cmp _ e3⟩

end Cert.GdnIdeal.Value
-- ==== Proof.GdnValue.lean ====
module

public import proofs.«01_k».proof.Proof.Gen.GdnIdeal.Frame
public import proofs.«01_k».proof.Proof.Gen.GdnRefIdeal.Read
public import Idealize.ShloMosaic.Lib.Pipeline.ValueKit
public import Idealize.ShloMosaic.Lib.Pointwise
public import proofs.«01_k».proof.Proof.GdnGates

@[expose] public section

set_option maxRecDepth 16384
set_option maxHeartbeats 400000

noncomputable section

open Idealize.ShloMosaic Idealize.ShloMosaic.TcCoe Idealize.SL.Sem
open Idealize.ShloMosaic.Pipeline (Dat)

namespace Cert.GdnIdeal.Value

open Cert.GdnIdeal Cert.GdnIdeal.Gen

variable (m : (ℓ : Loc nD τ sig) → Buf (Elt Ideal) ℓ)

/-- The blocks staged at grid point `t` are batch `t` of the arguments, the gates of which the precondition makes real. -/
theorem staged [Cert.Pre_gates_finite.Facts] (hpre : Cert.Pre_GdnIdeal_gates_finite m) (c : Dev nD) (t : Fin 16) :
    Staged (iblk m c 0 t : FVec Ideal S1x32x1536 .f32) (iblk m c 1 t : FVec Ideal S1x32x512 .f32) (iblk m c 2 t : FVec Ideal S1x32x128 .f32) (iblk m c 3 t : FVec Ideal S1x8x1536 .f32) (iblk m c 4 t : FVec Ideal S1x4x128x128 .f32) (iblk m c 5 t : FVec Ideal S4x1536 .f32) (iblk m c 6 t : FVec Ideal S1x128 .f32)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t where
  h0 := blk0 m c t
  h1 := blk1 m c t
  hg h i := blk2g m c t i h _
  hb h i := blk2b m c t i h _
  h3 := blk3 m c t
  h4 := blk4 m c t
  h5 := blk5 m c t
  h6 := blk6 m c t
  rg i h := (gates_real _ _ _ _ _ _ _ _ (hpre c) (ix3 t i h)).1
  rb i h := (gates_real _ _ _ _ _ _ _ _ (hpre c) (ix3 t i h)).2

/-- Where the stored state of grid point `t` lies in the result. -/
theorem emb8 (t : Fin 16) (h : Fin 4) (a d : Fin 128) : (((cfg0.win 8).blk t).view.emb (ix4 0 h a d) : S16x4x128x128.Idx) = ix4 t h a d := by
  blk_ext [idx t]

/-- Where the stored rows of grid point `t` lie in the result. -/
theorem emb7 (t : Fin 16) (i : Fin 32) (k : Fin 512) : (((cfg0.win 7).blk t).view.emb (ix3 0 i k) : S16x32x512.Idx) = ix3 t i k := by
  blk_ext [idx t]

/-- The state the call returns is the reference's new state. -/
theorem final8 [Cert.Pre_gates_finite.Facts] (hpre : Cert.Pre_GdnIdeal_gates_finite m) (c : Dev nD) :
    (dats m 0 c).arrAt 8 (cfgs 0).N = Cert.GdnRefIdeal.Read.val_main_v306 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  unfold outsAt0
  frame_out
  have B := staged m hpre c t
  generalize (iblk m c 0 t : FVec Ideal S1x32x1536 .f32) = X0 at B ⊢
  generalize (iblk m c 1 t : FVec Ideal S1x32x512 .f32) = X1 at B ⊢
  generalize (iblk m c 2 t : FVec Ideal S1x32x128 .f32) = X2 at B ⊢
  generalize (iblk m c 3 t : FVec Ideal S1x8x1536 .f32) = X3 at B ⊢
  generalize (iblk m c 4 t : FVec Ideal S1x4x128x128 .f32) = X4 at B ⊢
  generalize (iblk m c 5 t : FVec Ideal S4x1536 .f32) = X5 at B ⊢
  generalize (iblk m c 6 t : FVec Ideal S1x128 .f32) = X6 at B ⊢
  obtain ⟨z, h, a, d, rfl⟩ : ∃ (z : Fin 1) (h : Fin 4) (a d : Fin 128), y = ix4 z h a d := ⟨y 0, y 1, y 2, y 3, (ix4_eta y).symm⟩
  obtain rfl : z = 0 := Subsingleton.elim _ _
  refine Eq.trans ?_ ((state_point X0 X1 X2 X3 X4 X5 X6 _ _ _ _ _ _ _ _ t B h a d).trans (congrArg _ ?_))
  swap
  · exact (emb8 t h a d).symm
  simp only [kept, acted, qs, ks, vs, ss, cols, slab, padded]
  generalize (View.readCov (Val := Elt Ideal) (s := S40x1536) (e := .f32) (View.whole cc0_scratch0) [⟨Rect.unit (s := S40x1536) ![8, 0] S32x1536.size inb_S40x1536_S32x1536_8_0, k0_pay8 X0⟩, ⟨Rect.unit (s := S40x1536) ![0, 0] S8x1536.size inb_S40x1536_S8x1536_0_0, k0_pay6 X3⟩] (Rect.unit (s := S40x1536) ![0, 0] S40x1536.size inb_S40x1536_S40x1536_0_0).toLoadRect : FVec Ideal S40x1536 .f32) = XP
  generalize k0_pay12 (F := Ideal) (k0_pay9 (F := Ideal) X5 XP) (k0_pay11 (F := Ideal)) = Y
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 0] S32x128.size inb_S32x1536_S32x128_0_0).toLoadRect : FVec Ideal S32x128 .f32) = q0
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 128] S32x128.size inb_S32x1536_S32x128_0_128).toLoadRect : FVec Ideal S32x128 .f32) = q1
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 256] S32x128.size inb_S32x1536_S32x128_0_256).toLoadRect : FVec Ideal S32x128 .f32) = q2
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 384] S32x128.size inb_S32x1536_S32x128_0_384).toLoadRect : FVec Ideal S32x128 .f32) = q3
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 512] S32x128.size inb_S32x1536_S32x128_0_512).toLoadRect : FVec Ideal S32x128 .f32) = k0
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 640] S32x128.size inb_S32x1536_S32x128_0_640).toLoadRect : FVec Ideal S32x128 .f32) = k1
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 768] S32x128.size inb_S32x1536_S32x128_0_768).toLoadRect : FVec Ideal S32x128 .f32) = k2
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 896] S32x128.size inb_S32x1536_S32x128_0_896).toLoadRect : FVec Ideal S32x128 .f32) = k3
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1024] S32x128.size inb_S32x1536_S32x128_0_1024).toLoadRect : FVec Ideal S32x128 .f32) = v0
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1152] S32x128.size inb_S32x1536_S32x128_0_1152).toLoadRect : FVec Ideal S32x128 .f32) = v1
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1280] S32x128.size inb_S32x1536_S32x128_0_1280).toLoadRect : FVec Ideal S32x128 .f32) = v2
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1408] S32x128.size inb_S32x1536_S32x128_0_1408).toLoadRect : FVec Ideal S32x128 .f32) = v3
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![0, 0, 0] S1x128x128.size inb_S4x128x128_S1x128x128_0_0_0).toLoadRect : FVec Ideal S1x128x128 .f32) = s0
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![1, 0, 0] S1x128x128.size inb_S4x128x128_S1x128x128_1_0_0).toLoadRect : FVec Ideal S1x128x128 .f32) = s1
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![2, 0, 0] S1x128x128.size inb_S4x128x128_S1x128x128_2_0_0).toLoadRect : FVec Ideal S1x128x128 .f32) = s2
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![3, 0, 0] S1x128x128.size inb_S4x128x128_S1x128x128_3_0_0).toLoadRect : FVec Ideal S1x128x128 .f32) = s3
  clear B
  simp only [qn, kn, dcol, drow, kb, vb, ke, qg, kd, eg, trilM, strictM, eyeM, keys, scores, rhs, series, series', power16, zeros, reads3, left3, newv, qread, newS, outs, outrow, pick0, pick1, pick2, pick3]

/-- The rows the call returns are the reference's. -/
theorem final7 [Cert.Pre_gates_finite.Facts] (hpre : Cert.Pre_GdnIdeal_gates_finite m) (c : Dev nD) :
    (dats m 0 c).arrAt 7 (cfgs 0).N = Cert.GdnRefIdeal.Read.val_main_v329 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t _ y => ?_
  blk_simp
  rw [after0_7]
  unfold outsAt0
  frame_out
  have B := staged m hpre c t
  generalize (iblk m c 0 t : FVec Ideal S1x32x1536 .f32) = X0 at B ⊢
  generalize (iblk m c 1 t : FVec Ideal S1x32x512 .f32) = X1 at B ⊢
  generalize (iblk m c 2 t : FVec Ideal S1x32x128 .f32) = X2 at B ⊢
  generalize (iblk m c 3 t : FVec Ideal S1x8x1536 .f32) = X3 at B ⊢
  generalize (iblk m c 4 t : FVec Ideal S1x4x128x128 .f32) = X4 at B ⊢
  generalize (iblk m c 5 t : FVec Ideal S4x1536 .f32) = X5 at B ⊢
  generalize (iblk m c 6 t : FVec Ideal S1x128 .f32) = X6 at B ⊢
  obtain ⟨z, i, k, rfl⟩ : ∃ (z : Fin 1) (i : Fin 32) (k : Fin 512), y = ix3 z i k := ⟨y 0, y 1, y 2, (ix3_eta y).symm⟩
  obtain rfl : z = 0 := Subsingleton.elim _ _
  obtain ⟨h, d, hd, rfl⟩ : ∃ (h : Fin 4) (d : Fin 128) (hd : h.val * 128 + d.val < 512), k = ⟨h.val * 128 + d.val, hd⟩ :=
    ⟨⟨k.val / 128, by omega⟩, ⟨k.val % 128, by omega⟩, by show k.val / 128 * 128 + k.val % 128 < 512; omega, Fin.ext (by show k.val = k.val / 128 * 128 + k.val % 128; omega)⟩
  refine Eq.trans ?_ ((out_point X0 X1 X2 X3 X4 X5 X6 _ _ _ _ _ _ _ _ t B h i d hd).trans (congrArg _ (emb7 t i _).symm))
  refine Eq.trans ?_ (written_apply (outrow X2 (qs (acted X0 X3 X5)) (ks (acted X0 X3 X5)) (vs (acted X0 X3 X5)) (ss X4) X6 (zs X1)) h i d hd)
  simp only [kept, acted, qs, ks, vs, ss, cols, slab, padded]
  generalize (View.readCov (Val := Elt Ideal) (s := S40x1536) (e := .f32) (View.whole cc0_scratch0) [⟨Rect.unit (s := S40x1536) ![8, 0] S32x1536.size inb_S40x1536_S32x1536_8_0, k0_pay8 X0⟩, ⟨Rect.unit (s := S40x1536) ![0, 0] S8x1536.size inb_S40x1536_S8x1536_0_0, k0_pay6 X3⟩] (Rect.unit (s := S40x1536) ![0, 0] S40x1536.size inb_S40x1536_S40x1536_0_0).toLoadRect : FVec Ideal S40x1536 .f32) = XP
  generalize k0_pay12 (F := Ideal) (k0_pay9 (F := Ideal) X5 XP) (k0_pay11 (F := Ideal)) = Y
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 0] S32x128.size inb_S32x1536_S32x128_0_0).toLoadRect : FVec Ideal S32x128 .f32) = q0
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 128] S32x128.size inb_S32x1536_S32x128_0_128).toLoadRect : FVec Ideal S32x128 .f32) = q1
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 256] S32x128.size inb_S32x1536_S32x128_0_256).toLoadRect : FVec Ideal S32x128 .f32) = q2
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 384] S32x128.size inb_S32x1536_S32x128_0_384).toLoadRect : FVec Ideal S32x128 .f32) = q3
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 512] S32x128.size inb_S32x1536_S32x128_0_512).toLoadRect : FVec Ideal S32x128 .f32) = k0
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 640] S32x128.size inb_S32x1536_S32x128_0_640).toLoadRect : FVec Ideal S32x128 .f32) = k1
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 768] S32x128.size inb_S32x1536_S32x128_0_768).toLoadRect : FVec Ideal S32x128 .f32) = k2
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 896] S32x128.size inb_S32x1536_S32x128_0_896).toLoadRect : FVec Ideal S32x128 .f32) = k3
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1024] S32x128.size inb_S32x1536_S32x128_0_1024).toLoadRect : FVec Ideal S32x128 .f32) = v0
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1152] S32x128.size inb_S32x1536_S32x128_0_1152).toLoadRect : FVec Ideal S32x128 .f32) = v1
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1280] S32x128.size inb_S32x1536_S32x128_0_1280).toLoadRect : FVec Ideal S32x128 .f32) = v2
  generalize (View.readCov (Val := Elt Ideal) (s := S32x1536) (e := .f32) (View.whole cc0_scratch1) [⟨Rect.unit (s := S32x1536) ![0, 0] S32x1536.size inb_S32x1536_S32x1536_0_0, Y⟩] (Rect.unit (s := S32x1536) ![0, 1408] S32x128.size inb_S32x1536_S32x128_0_1408).toLoadRect : FVec Ideal S32x128 .f32) = v3
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![0, 0, 0] S1x128x128.size inb_S4x128x128_S1x128x128_0_0_0).toLoadRect : FVec Ideal S1x128x128 .f32) = s0
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![1, 0, 0] S1x128x128.size inb_S4x128x128_S1x128x128_1_0_0).toLoadRect : FVec Ideal S1x128x128 .f32) = s1
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![2, 0, 0] S1x128x128.size inb_S4x128x128_S1x128x128_2_0_0).toLoadRect : FVec Ideal S1x128x128 .f32) = s2
  generalize (View.readCov (Val := Elt Ideal) (s := S4x128x128) (e := .f32) (View.whole cc0_scratch2) [⟨Rect.unit (s := S4x128x128) ![0, 0, 0] S4x128x128.size inb_S4x128x128_S4x128x128_0_0_0, k0_pay7 X4⟩] (Rect.unit (s := S4x128x128) ![3, 0, 0] S1x128x128.size inb_S4x128x128_S1x128x128_3_0_0).toLoadRect : FVec Ideal S1x128x128 .f32) = s3
  clear B
  simp only [qn, kn, dcol, drow, kb, vb, ke, qg, kd, eg, trilM, strictM, eyeM, keys, scores, rhs, series, series', power16, zeros, reads3, left3, newv, qread, newS, outs, outrow, pick0, pick1, pick2, pick3]
  rfl

end Cert.GdnIdeal.Value
-- ==== Proof.PostRef.lean ====
module

public import proofs.«01_k».proof.Proof.Gen.PostIdeal.Frame
public import proofs.«01_k».proof.Proof.Gen.PostRefIdeal.Read
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.PostIdeal.Value

open Cert.PostIdeal Cert.PostIdeal.Gen

variable (m : (ℓ : Loc nD τ sig) → Buf (Elt Ideal) ℓ)

/-- Attention of one query over 256 keys: the scores shifted by their largest, their exponentials over the sum of those, times the values. -/
def soft (S W : Fin 256 → EReal) : EReal :=
  ∑ k, Ideal.div (Ideal.exp (S k - Finset.fold max (Ideal.ofBits FTy.f32 0xFF800000#32 : EReal) S Finset.univ)) (∑ j, Ideal.exp (S j - Finset.fold max (Ideal.ofBits FTy.f32 0xFF800000#32 : EReal) S Finset.univ)) * W k

/-- The host's row maximum is the fold of the larger. -/
theorem hostMax (Y : FVec Ideal Cert.PostRefIdeal.S8x4x8192x256 .f32) (hr : Cert.PostRefIdeal.S8x4x8192x256.ReducesTo [3] Cert.PostRefIdeal.S8x4x8192) (hu : 0 < Cert.PostRefIdeal.S_.numel) (b : Fin 8) (h : Fin 4) (p : Fin 8192) :
    Host.reduce FloatOps.maximumf Y (constant Cert.PostRefIdeal.S_ .f32 0xFF800000#32) hr hu (ix3 b h p)
      = Finset.fold max (Ideal.ofBits FTy.f32 0xFF800000#32 : EReal) (fun k : Fin 256 => (Y (ix4 b h p k) : EReal)) Finset.univ := by
  pointwise

/-- Starting the fold from the same bound once more changes nothing. -/
theorem foldMax (c : EReal) (S : Fin 256 → EReal) : max c (Finset.fold max c S Finset.univ) = Finset.fold max c S Finset.univ :=
  max_eq_right ((Finset.le_fold_max _).mpr (Or.inl le_rfl))

section Reference

variable (x0 : FVec Ideal Cert.PostRefIdeal.S8x8192x1024 .f32) (x1 x2 : FVec Ideal Cert.PostRefIdeal.S8x8192x512 .bf16) (x3 x4 : FVec Ideal Cert.PostRefIdeal.S8x256x4x128 .f32) (x5 : FVec Ideal Cert.PostRefIdeal.S1x1024x1024 .f32) (x6 : FVec Ideal Cert.PostRefIdeal.S1x1024 .f32) (x7 : FVec Ideal Cert.PostRefIdeal.S1x1024x512 .f32) (x8 : FVec Ideal Cert.PostRefIdeal.S1x512x1024 .f32)

/-- The mixed rows through the output weight: the two mixers' rows each meet their half of the weight. -/
theorem ref4 (b : Fin 8) (p : Fin 8192) (n : Fin 1024) :
    (Cert.PostRefIdeal.Read.val_main_v4 (F := Ideal) x1 x2 x5 : FVec Ideal Cert.PostRefIdeal.S8x8192x1024 .f32) (ix3 b p n) = ((∑ k : Fin 512, x1 (ix3 b p k) * x5 (ix3 0 ⟨k.val, by omega⟩ n)) + ∑ k : Fin 512, x2 (ix3 b p k) * x5 (ix3 0 ⟨512 + k.val, by omega⟩ n) : EReal) := by
  pointwise [Cert.PostRefIdeal.Read.val_main_v4, Cert.PostRefIdeal.Read.val_main_v3, Cert.PostRefIdeal.Read.val_main_v2, Cert.PostRefIdeal.Read.val_main_v1, Cert.PostRefIdeal.Read.val_main_v0]

/-- The first residual sum. -/
theorem ref5 (b : Fin 8) (p : Fin 8192) (n : Fin 1024) :
    (Cert.PostRefIdeal.Read.val_main_v5 (F := Ideal) x0 x1 x2 x5 : FVec Ideal Cert.PostRefIdeal.S8x8192x1024 .f32) (ix3 b p n) = (x0 (ix3 b p n) + (Cert.PostRefIdeal.Read.val_main_v4 (F := Ideal) x1 x2 x5 : FVec Ideal Cert.PostRefIdeal.S8x8192x1024 .f32) (ix3 b p n) : EReal) := by
  pointwise [Cert.PostRefIdeal.Read.val_main_v5]

/-- The norm of the first residual sum. -/
theorem ref19 (b : Fin 8) (p : Fin 8192) (n : Fin 1024) :
    (Cert.PostRefIdeal.Read.val_main_v19 (F := Ideal) x0 x1 x2 x5 x6 : FVec Ideal Cert.PostRefIdeal.S8x8192x1024 .f32) (ix3 b p n) = ((Cert.PostRefIdeal.Read.val_main_v5 (F := Ideal) x0 x1 x2 x5 : FVec Ideal Cert.PostRefIdeal.S8x8192x1024 .f32) (ix3 b p n) * Ideal.rsqrt (Ideal.div (∑ k, (Cert.PostRefIdeal.Read.val_main_v5 (F := Ideal) x0 x1 x2 x5 : FVec Ideal Cert.PostRefIdeal.S8x8192x1024 .f32) (ix3 b p k) * (Cert.PostRefIdeal.Read.val_main_v5 (F := Ideal) x0 x1 x2 x5 : FVec Ideal Cert.PostRefIdeal.S8x8192x1024 .f32) (ix3 b p k)) (Ideal.ofBits FTy.f32 0x44800000#32) + Ideal.ofBits FTy.f32 0x358637BD#32) * x6 (ix2 0 n) : EReal) := by
  pointwise [Cert.PostRefIdeal.Read.val_main_v6, Cert.PostRefIdeal.Read.val_main_v7, Cert.PostRefIdeal.Read.val_main_cst, Cert.PostRefIdeal.Read.val_main_v8, Cert.PostRefIdeal.Read.val_main_v9, Cert.PostRefIdeal.Read.val_main_cst_0, Cert.PostRefIdeal.Read.val_main_v10, Cert.PostRefIdeal.Read.val_main_v11, Cert.PostRefIdeal.Read.val_main_cst_1, Cert.PostRefIdeal.Read.val_main_v12, Cert.PostRefIdeal.Read.val_main_v13, Cert.PostRefIdeal.Read.val_main_v14, Cert.PostRefIdeal.Read.val_main_v15, Cert.PostRefIdeal.Read.val_main_v16, Cert.PostRefIdeal.Read.val_main_v17, Cert.PostRefIdeal.Read.val_main_v18, Cert.PostRefIdeal.Read.val_main_v19]

/-- The queries. -/
theorem ref22 (b : Fin 8) (p : Fin 8192) (j : Fin 512) :
    (Cert.PostRefIdeal.Read.val_main_v22 (F := Ideal) x0 x1 x2 x5 x6 x7 : FVec Ideal Cert.PostRefIdeal.S8x8192x512 .f32) (ix3 b p j) = (∑ k, (Cert.PostRefIdeal.Read.val_main_v19 (F := Ideal) x0 x1 x2 x5 x6 : FVec Ideal Cert.PostRefIdeal.S8x8192x1024 .f32) (ix3 b p k) * x7 (ix3 0 k j) : EReal) := by
  pointwise [Cert.PostRefIdeal.Read.val_main_v22, Cert.PostRefIdeal.Read.val_main_v20]

/-- The scaled scores of a head. -/
theorem ref26 (b : Fin 8) (h : Fin 4) (p : Fin 8192) (k : Fin 256) :
    (Cert.PostRefIdeal.Read.val_main_v26 (F := Ideal) x0 x1 x2 x3 x5 x6 x7 : FVec Ideal Cert.PostRefIdeal.S8x4x8192x256 .f32) (ix4 b h p k) = ((∑ x, (Cert.PostRefIdeal.Read.val_main_v22 (F := Ideal) x0 x1 x2 x5 x6 x7 : FVec Ideal Cert.PostRefIdeal.S8x8192x512 .f32) (ix3 b p ⟨h.val * 128 + x.val, by omega⟩) * x3 (ix4 b k h x)) * Ideal.ofBits FTy.f32 0x3DB504F3#32 : EReal) := by
  pointwise [Cert.PostRefIdeal.Read.val_main_v26, Cert.PostRefIdeal.Read.val_main_v25, Cert.PostRefIdeal.Read.val_main_v24, Cert.PostRefIdeal.Read.val_main_v23, Cert.PostRefIdeal.Read.val_main_cst_2]

/-- The largest score of a row, as the reduction leaves it. -/
theorem ref27 (b : Fin 8) (h : Fin 4) (p : Fin 8192) :
    (Cert.PostRefIdeal.Read.val_main_v27 (F := Ideal) x0 x1 x2 x3 x5 x6 x7 : FVec Ideal Cert.PostRefIdeal.S8x4x8192 .f32) (ix3 b h p) = Finset.fold max (Ideal.ofBits FTy.f32 0xFF800000#32 : EReal) (fun k : Fin 256 => (Cert.PostRefIdeal.Read.val_main_v26 (F := Ideal) x0 x1 x2 x3 x5 x6 x7 : FVec Ideal Cert.PostRefIdeal.S8x4x8192x256 .f32) (ix4 b h p k)) Finset.univ := by
  unfold Cert.PostRefIdeal.Read.val_main_v27 Cert.PostRefIdeal.Read.val_main_cst_3
  generalize Cert.PostRefIdeal.Read.val_main_v26 (F := Ideal) x0 x1 x2 x3 x5 x6 x7 = Y
  exact hostMax Y _ _ b h p

/-- The bound the reference's maximum starts from. -/
theorem ref28 (b : Fin 8) (h : Fin 4) (p : Fin 8192) :
    (Cert.PostRefIdeal.Read.val_main_v28 (F := Ideal) : FVec Ideal Cert.PostRefIdeal.S8x4x8192 .f32) (ix3 b h p) = (Ideal.ofBits FTy.f32 0xFF800000#32 : EReal) := by
  pointwise [Cert.PostRefIdeal.Read.val_main_v28, Cert.PostRefIdeal.Read.val_main_cst_4]

/-- The larger of the bound and the row's largest score. -/
theorem ref29a (b : Fin 8) (h : Fin 4) (p : Fin 8192) :
    (Cert.PostRefIdeal.Read.val_main_v29 (F := Ideal) x0 x1 x2 x3 x5 x6 x7 : FVec Ideal Cert.PostRefIdeal.S8x4x8192 .f32) (ix3 b h p) = max ((Cert.PostRefIdeal.Read.val_main_v28 (F := Ideal) : FVec Ideal Cert.PostRefIdeal.S8x4x8192 .f32) (ix3 b h p) : EReal) ((Cert.PostRefIdeal.Read.val_main_v27 (F := Ideal) x0 x1 x2 x3 x5 x6 x7 : FVec Ideal Cert.PostRefIdeal.S8x4x8192 .f32) (ix3 b h p) : EReal) := by
  rw [Cert.PostRefIdeal.Read.val_main_v29_apply]
  generalize Cert.PostRefIdeal.Read.val_main_v28 (F := Ideal) = A
  generalize Cert.PostRefIdeal.Read.val_main_v27 (F := Ideal) x0 x1 x2 x3 x5 x6 x7 = B
  rfl

/-- The largest score of a row. -/
theorem ref29 (b : Fin 8) (h : Fin 4) (p : Fin 8192) :
    (Cert.PostRefIdeal.Read.val_main_v29 (F := Ideal) x0 x1 x2 x3 x5 x6 x7 : FVec Ideal Cert.PostRefIdeal.S8x4x8192 .f32) (ix3 b h p) = Finset.fold max (Ideal.ofBits FTy.f32 0xFF800000#32 : EReal) (fun k : Fin 256 => (Cert.PostRefIdeal.Read.val_main_v26 (F := Ideal) x0 x1 x2 x3 x5 x6 x7 : FVec Ideal Cert.PostRefIdeal.S8x4x8192x256 .f32) (ix4 b h p k)) Finset.univ := by
  rw [ref29a, ref28, ref27]
  exact foldMax _ _

/-- The exponential of a shifted score. -/
theorem ref33 (b : Fin 8) (h : Fin 4) (p : Fin 8192) (k : Fin 256) :
    (Cert.PostRefIdeal.Read.val_main_v33 (F := Ideal) x0 x1 x2 x3 x5 x6 x7 : FVec Ideal Cert.PostRefIdeal.S8x4x8192x256 .f32) (ix4 b h p k) = (Ideal.exp ((Cert.PostRefIdeal.Read.val_main_v26 (F := Ideal) x0 x1 x2 x3 x5 x6 x7 : FVec Ideal Cert.PostRefIdeal.S8x4x8192x256 .f32) (ix4 b h p k) - (Cert.PostRefIdeal.Read.val_main_v29 (F := Ideal) x0 x1 x2 x3 x5 x6 x7 : FVec Ideal Cert.PostRefIdeal.S8x4x8192 .f32) (ix3 b h p)) : EReal) := by
  pointwise [Cert.PostRefIdeal.Read.val_main_v33, Cert.PostRefIdeal.Read.val_main_v32, Cert.PostRefIdeal.Read.val_main_v31, Cert.PostRefIdeal.Read.val_main_v30]

/-- The sum of a row's exponentials. -/
theorem ref34 (b : Fin 8) (h : Fin 4) (p : Fin 8192) :
    (Cert.PostRefIdeal.Read.val_main_v34 (F := Ideal) x0 x1 x2 x3 x5 x6 x7 : FVec Ideal Cert.PostRefIdeal.S8x4x8192 .f32) (ix3 b h p) = (∑ k, (Cert.PostRefIdeal.Read.val_main_v33 (F := Ideal) x0 x1 x2 x3 x5 x6 x7 : FVec Ideal Cert.PostRefIdeal.S8x4x8192x256 .f32) (ix4 b h p k) : EReal) := by
  pointwise [Cert.PostRefIdeal.Read.val_main_v34, Cert.PostRefIdeal.Read.val_main_cst_5]

/-- A row's weight. -/
theorem ref37 (b : Fin 8) (h : Fin 4) (p : Fin 8192) (k : Fin 256) :
    (Cert.PostRefIdeal.Read.val_main_v37 (F := Ideal) x0 x1 x2 x3 x5 x6 x7 : FVec Ideal Cert.PostRefIdeal.S8x4x8192x256 .f32) (ix4 b h p k) = (Ideal.div ((Cert.PostRefIdeal.Read.val_main_v33 (F := Ideal) x0 x1 x2 x3 x5 x6 x7 : FVec Ideal Cert.PostRefIdeal.S8x4x8192x256 .f32) (ix4 b h p k)) ((Cert.PostRefIdeal.Read.val_main_v34 (F := Ideal) x0 x1 x2 x3 x5 x6 x7 : FVec Ideal Cert.PostRefIdeal.S8x4x8192 .f32) (ix3 b h p)) : EReal) := by
  pointwise [Cert.PostRefIdeal.Read.val_main_v37, Cert.PostRefIdeal.Read.val_main_v36, Cert.PostRefIdeal.Read.val_main_v35]

/-- The weighted values of a head. -/
theorem ref39 (b : Fin 8) (p : Fin 8192) (h : Fin 4) (d : Fin 128) :
    (Cert.PostRefIdeal.Read.val_main_v39 (F := Ideal) x0 x1 x2 x3 x4 x5 x6 x7 : FVec Ideal Cert.PostRefIdeal.S8x8192x4x128 .f32) (ix4 b p h d) = (∑ k : Fin 256, x4 (ix4 b k h d) * (Cert.PostRefIdeal.Read.val_main_v37 (F := Ideal) x0 x1 x2 x3 x5 x6 x7 : FVec Ideal Cert.PostRefIdeal.S8x4x8192x256 .f32) (ix4 b h p k) : EReal) := by
  pointwise [Cert.PostRefIdeal.Read.val_main_v39, Cert.PostRefIdeal.Read.val_main_v38]

/-- The attended row, head by head. -/
theorem ref40 (b : Fin 8) (p : Fin 8192) (j : Fin 512) :
    (Cert.PostRefIdeal.Read.val_main_v40 (F := Ideal) x0 x1 x2 x3 x4 x5 x6 x7 : FVec Ideal Cert.PostRefIdeal.S8x8192x512 .f32) (ix3 b p j) = (Cert.PostRefIdeal.Read.val_main_v39 (F := Ideal) x0 x1 x2 x3 x4 x5 x6 x7 : FVec Ideal Cert.PostRefIdeal.S8x8192x4x128 .f32) (ix4 b p ⟨j.val / 128, by omega⟩ ⟨j.val % 128, by omega⟩) := by
  pointwise [Cert.PostRefIdeal.Read.val_main_v40]

/-- The attended row is the attention of its head's queries. -/
theorem ref40s (b : Fin 8) (p : Fin 8192) (j : Fin 512) :
    (Cert.PostRefIdeal.Read.val_main_v40 (F := Ideal) x0 x1 x2 x3 x4 x5 x6 x7 : FVec Ideal Cert.PostRefIdeal.S8x8192x512 .f32) (ix3 b p j) = soft (fun k => ((∑ x : Fin 128, (Cert.PostRefIdeal.Read.val_main_v22 (F := Ideal) x0 x1 x2 x5 x6 x7 : FVec Ideal Cert.PostRefIdeal.S8x8192x512 .f32) (ix3 b p ⟨j.val / 128 * 128 + x.val, by omega⟩) * x3 (ix4 b k ⟨j.val / 128, by omega⟩ x)) * Ideal.ofBits FTy.f32 0x3DB504F3#32 : EReal)) (fun k => x4 (ix4 b k ⟨j.val / 128, by omega⟩ ⟨j.val % 128, by omega⟩)) := by
  rw [ref40, ref39]
  unfold soft
  refine Finset.sum_congr rfl fun k _ => ?_
  rw [mul_comm, ref37, ref34, ref33]
  simp only [ref33, ref29, ref26]

/-- The result: the second residual sum. -/
theorem ref42 (b : Fin 8) (p : Fin 8192) (n : Fin 1024) :
    (Cert.PostRefIdeal.Read.val_main_v42 (F := Ideal) x0 x1 x2 x3 x4 x5 x6 x7 x8 : FVec Ideal Cert.PostRefIdeal.S8x8192x1024 .f32) (ix3 b p n) = ((Cert.PostRefIdeal.Read.val_main_v5 (F := Ideal) x0 x1 x2 x5 : FVec Ideal Cert.PostRefIdeal.S8x8192x1024 .f32) (ix3 b p n) + ∑ j : Fin 512, (Cert.PostRefIdeal.Read.val_main_v40 (F := Ideal) x0 x1 x2 x3 x4 x5 x6 x7 : FVec Ideal Cert.PostRefIdeal.S8x8192x512 .f32) (ix3 b p j) * x8 (ix3 0 j n) : EReal) := by
  pointwise [Cert.PostRefIdeal.Read.val_main_v42, Cert.PostRefIdeal.Read.val_main_v41, Cert.PostRefIdeal.Read.val_main_v21]

end Reference

end Cert.PostIdeal.Value
-- ==== Proof.PostKer.lean ====
module

public import proofs.«01_k».proof.Proof.Gen.PostIdeal.Frame
public import proofs.«01_k».proof.Proof.Gen.PostRefIdeal.Read
public import proofs.«01_k».proof.Proof.PostRef
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.PostIdeal.Value

open Cert.PostIdeal Cert.PostIdeal.Gen

variable (m : (ℓ : Loc nD τ sig) → Buf (Elt Ideal) ℓ)

/-- The scaled scores of 1024 queries against 256 keys. -/
def scores (T : FVec Ideal S1024x128 .bf16) (K : FVec Ideal S1x256x128 .bf16) : FVec Ideal S1024x256 .f32 :=
  mulf (matmul dot_S1024x128_S256x128_S1024x256_1_1_0_0_n_n none T (shapeCast S256x128 K shapeCasts_S1x256x128_S256x128 : FVec Ideal S256x128 .bf16) (constant S1024x256 .f32 0x00000000#32)) (broadcast S1024x256 (Scalar.ofBits (F := Ideal) .f32 0x3DB504F3#32))

/-- Each score less its row's largest, its exponential. -/
def expo (S : FVec Ideal S1024x256 .f32) : FVec Ideal S1024x256 .f32 :=
  exp (subf S (broadcastTo S1024x256 (shapeCast S1024x1 (multiReduction .maximumf [1] S1024 S 0xFF800000#32 reduces_S1024x256_S1024 (.inl rfl) rfl) shapeCasts_S1024_S1024x1) broadcasts_S1024x1_S1024x256))

/-- The weighted values: each exponential over its row's sum, times the values. -/
def weigh (E : FVec Ideal S1024x256 .f32) (W : FVec Ideal S1x256x128 .bf16) : FVec Ideal S1024x128 .f32 :=
  matmul dot_S1024x256_S256x128_S1024x128_1_0_0_1_n_n none (truncf .bf16 (divf E (broadcastTo S1024x256 (shapeCast S1024x1 (multiReduction .add [1] S1024 E 0x00000000#32 reduces_S1024x256_S1024 (.inl rfl) rfl) shapeCasts_S1024_S1024x1) broadcasts_S1024x1_S1024x256)) bitsLt_bf16_f32)
    (shapeCast S256x128 W shapeCasts_S1x256x128_S256x128 : FVec Ideal S256x128 .bf16) (constant S1024x128 .f32 0x00000000#32)

/-- A score at its row and key. -/
theorem scores_at (T : FVec Ideal S1024x128 .bf16) (K : FVec Ideal S1x256x128 .bf16) (r : Fin 1024) (k : Fin 256) :
    scores T K (ix2 r k) = ((∑ x : Fin 128, T (ix2 r x) * K (ix3 0 k x)) * Ideal.ofBits FTy.f32 0x3DB504F3#32 : EReal) := by
  pointwise [scores]

/-- A shifted exponential at its row and key. -/
theorem expo_at (S : FVec Ideal S1024x256 .f32) (r : Fin 1024) (k : Fin 256) :
    expo S (ix2 r k) = Ideal.exp (S (ix2 r k) - Finset.fold max (Ideal.ofBits FTy.f32 0xFF800000#32 : EReal) (fun j : Fin 256 => (S (ix2 r j) : EReal)) Finset.univ) := by
  pointwise [expo]

/-- A weighted value at its row and column. -/
theorem weigh_at (E : FVec Ideal S1024x256 .f32) (W : FVec Ideal S1x256x128 .bf16) (r : Fin 1024) (d : Fin 128) :
    weigh E W (ix2 r d) = (∑ k : Fin 256, Ideal.div (E (ix2 r k)) (∑ j : Fin 256, E (ix2 r j)) * W (ix3 0 k d) : EReal) := by
  pointwise [weigh]

/-- One head's attention. -/
def headOf (T : FVec Ideal S1024x128 .bf16) (K W : FVec Ideal S1x256x128 .bf16) : FVec Ideal S1024x128 .f32 := weigh (expo (scores T K)) W

/-- One head's attention at its row and column. -/
theorem headOf_at (T : FVec Ideal S1024x128 .bf16) (K W : FVec Ideal S1x256x128 .bf16) (r : Fin 1024) (d : Fin 128) :
    headOf T K W (ix2 r d) = soft (fun k => ((∑ x : Fin 128, T (ix2 r x) * K (ix3 0 k x)) * Ideal.ofBits FTy.f32 0x3DB504F3#32 : EReal)) (fun k => W (ix3 0 k d)) := by
  unfold headOf
  rw [weigh_at]
  unfold soft
  simp only [expo_at, scores_at]

/-- The first head of the kernel. -/
theorem pay4_eq (Q : FVec Ideal S1024x512 .bf16) (K W : FVec Ideal S1x256x128 .bf16) :
    k0_pay4 (F := Ideal) Q K W = headOf (extractStridedSlice S1024x128 ![0, 0] Q slices_S1024x512_o0_0_S1024x128) K W := rfl

/-- The second head of the kernel. -/
theorem pay5_eq (Q : FVec Ideal S1024x512 .bf16) (K W : FVec Ideal S1x256x128 .bf16) :
    k0_pay5 (F := Ideal) Q K W = headOf (extractStridedSlice S1024x128 ![0, 128] Q slices_S1024x512_o0_128_S1024x128) K W := rfl

/-- The kernel's attended rows are its four heads side by side. -/
theorem pay6_eq (Q : FVec Ideal S1024x512 .bf16) (A B : FVec Ideal S1024x128 .f32) (K2 W2 K3 W3 : FVec Ideal S1x256x128 .bf16) :
    k0_pay6 (F := Ideal) Q A B K2 W2 K3 W3 = truncf .bf16 (concatenate S1024x512 1 [⟨S1024x128, A⟩, ⟨S1024x128, B⟩, ⟨S1024x128, headOf (extractStridedSlice S1024x128 ![0, 256] Q slices_S1024x512_o0_256_S1024x128) K2 W2⟩, ⟨S1024x128, headOf (extractStridedSlice S1024x128 ![0, 384] Q slices_S1024x512_o0_384_S1024x128) K3 W3⟩] concatenates_S1024x128_S1024x128_S1024x128_S1024x128_S1024x512_d1 : FVec Ideal S1024x512 .f32) bitsLt_bf16_f32 := rfl

/-- Four heads side by side, read at a column. -/
theorem four (A B C D : FVec Ideal S1024x128 .f32) (r : Fin 1024) (j : Fin 512) :
    (truncf .bf16 (concatenate S1024x512 1 [⟨S1024x128, A⟩, ⟨S1024x128, B⟩, ⟨S1024x128, C⟩, ⟨S1024x128, D⟩] concatenates_S1024x128_S1024x128_S1024x128_S1024x128_S1024x512_d1 : FVec Ideal S1024x512 .f32) bitsLt_bf16_f32 : FVec Ideal S1024x512 .bf16) (ix2 r j)
      = ((![A, B, C, D] : Fin 4 → FVec Ideal S1024x128 .f32) ⟨j.val / 128, by omega⟩ (ix2 r ⟨j.val % 128, by omega⟩) : EReal) := by
  have h4 : j.val / 128 = 0 ∨ j.val / 128 = 1 ∨ j.val / 128 = 2 ∨ j.val / 128 = 3 := by omega
  have q : ∀ (Z : FVec Ideal S1024x128 .f32) (u v : Fin 128), u.val = v.val → Z (ix2 r u) = Z (ix2 r v) := fun Z u v e => by rw [Fin.ext e]
  rcases h4 with h4 | h4 | h4 | h4
  · have e : (⟨j.val / 128, by omega⟩ : Fin 4) = 0 := Fin.ext h4
    rw [e]
    pointwise
    rw [dif_pos (by omega)]
    exact q A _ _ (by dsimp only; omega)
  · have e : (⟨j.val / 128, by omega⟩ : Fin 4) = 1 := Fin.ext h4
    rw [e]
    pointwise
    rw [dif_neg (by omega), dif_pos (by omega)]
    exact q B _ _ (by dsimp only; omega)
  · have e : (⟨j.val / 128, by omega⟩ : Fin 4) = 2 := Fin.ext h4
    rw [e]
    pointwise
    rw [dif_neg (by omega), dif_neg (by omega), dif_pos (by omega)]
    exact q C _ _ (by dsimp only; omega)
  · have e : (⟨j.val / 128, by omega⟩ : Fin 4) = 3 := Fin.ext h4
    rw [e]
    pointwise
    rw [dif_neg (by omega), dif_neg (by omega), dif_neg (by omega)]
    exact q D _ _ (by dsimp only; omega)

/-- The first residual sum in the kernel. -/
theorem pay2_at (X : FVec Ideal S1x1024x1024 .f32) (G D : FVec Ideal S1x1024x512 .bf16) (A B : FVec Ideal S512x1024 .bf16) (r : Fin 1024) (n : Fin 1024) :
    (k0_pay2 (F := Ideal) X G A D B : FVec Ideal S1024x1024 .f32) (ix2 r n) = (X (ix3 0 r n) + (∑ k : Fin 512, G (ix3 0 r k) * A (ix2 k n)) + ∑ k : Fin 512, D (ix3 0 r k) * B (ix2 k n) : EReal) := by
  pointwise [k0_pay2]

/-- The queries in the kernel. -/
theorem pay3_at (X : FVec Ideal S1x1024x1024 .f32) (G D : FVec Ideal S1x1024x512 .bf16) (A B : FVec Ideal S512x1024 .bf16) (H : FVec Ideal S1x1024 .f32) (Wq : FVec Ideal S1024x512 .bf16) (P : FVec Ideal S1024x1024 .f32) (hP : k0_pay2 (F := Ideal) X G A D B = P) (r : Fin 1024) (j : Fin 512) :
    (k0_pay3 (F := Ideal) X G A D B H Wq : FVec Ideal S1024x512 .bf16) (ix2 r j)
      = (∑ n : Fin 1024, P (ix2 r n) * Ideal.rsqrt (Ideal.div (∑ k : Fin 1024, P (ix2 r k) * P (ix2 r k)) (Ideal.ofBits FTy.f32 0x44800000#32) + Ideal.ofBits FTy.f32 0x358637BD#32) * H (ix2 0 n) * Wq (ix2 n j) : EReal) := by
  unfold k0_pay3
  rw [hP]
  pointwise

/-- The second residual sum in the kernel. -/
theorem pay1_at (P : FVec Ideal S1024x1024 .f32) (O : FVec Ideal S1024x512 .bf16) (Wo : FVec Ideal S512x1024 .bf16) (r : Fin 1024) (n : Fin 1024) :
    (k0_pay1 (F := Ideal) P O Wo : FVec Ideal S1x1024x1024 .f32) (ix3 0 r n) = (P (ix2 r n) + ∑ j : Fin 512, O (ix2 r j) * Wo (ix2 j n) : EReal) := by
  pointwise [k0_pay1]

end Cert.PostIdeal.Value
-- ==== Proof.PostBlocks.lean ====
module

public import proofs.«01_k».proof.Proof.Gen.PostIdeal.Frame
public import proofs.«01_k».proof.Proof.Gen.PostRefIdeal.Read
public import proofs.«01_k».proof.Proof.PostKer
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.PostIdeal.Value

open Cert.PostIdeal Cert.PostIdeal.Gen

variable (m : (ℓ : Loc nD τ sig) → Buf (Elt Ideal) ℓ)

/-- The first head's queries are their columns of the queries. -/
theorem sl0 (Q : FVec Ideal S1024x512 .bf16) (r : Fin 1024) (x : Fin 128) :
    (extractStridedSlice S1024x128 ![0, 0] Q slices_S1024x512_o0_0_S1024x128 : FVec Ideal S1024x128 .bf16) (ix2 r x) = Q (ix2 r ⟨0 + x.val, by omega⟩) := by
  pointwise

/-- The first head's keys and values are their columns of the staged block. -/
theorem ld0 (X : FVec Ideal S1x256x512 .bf16) (k : Fin 256) (x : Fin 128) :
    (View.ld (Val := Elt Ideal) (S := S1x256x512) (e' := .bf16) X r0_6 : FVec Ideal S1x256x128 .bf16) (ix3 0 k x) = X (ix3 0 k ⟨0 + x.val, by omega⟩) := by
  pointwise

/-- The second head's queries are their columns of the queries. -/
theorem sl1 (Q : FVec Ideal S1024x512 .bf16) (r : Fin 1024) (x : Fin 128) :
    (extractStridedSlice S1024x128 ![0, 128] Q slices_S1024x512_o0_128_S1024x128 : FVec Ideal S1024x128 .bf16) (ix2 r x) = Q (ix2 r ⟨128 + x.val, by omega⟩) := by
  pointwise

/-- The second head's keys and values are their columns of the staged block. -/
theorem ld1 (X : FVec Ideal S1x256x512 .bf16) (k : Fin 256) (x : Fin 128) :
    (View.ld (Val := Elt Ideal) (S := S1x256x512) (e' := .bf16) X r0_7 : FVec Ideal S1x256x128 .bf16) (ix3 0 k x) = X (ix3 0 k ⟨128 + x.val, by omega⟩) := by
  pointwise

/-- The third head's queries are their columns of the queries. -/
theorem sl2 (Q : FVec Ideal S1024x512 .bf16) (r : Fin 1024) (x : Fin 128) :
    (extractStridedSlice S1024x128 ![0, 256] Q slices_S1024x512_o0_256_S1024x128 : FVec Ideal S1024x128 .bf16) (ix2 r x) = Q (ix2 r ⟨256 + x.val, by omega⟩) := by
  pointwise

/-- The third head's keys and values are their columns of the staged block. -/
theorem ld2 (X : FVec Ideal S1x256x512 .bf16) (k : Fin 256) (x : Fin 128) :
    (View.ld (Val := Elt Ideal) (S := S1x256x512) (e' := .bf16) X r0_8 : FVec Ideal S1x256x128 .bf16) (ix3 0 k x) = X (ix3 0 k ⟨256 + x.val, by omega⟩) := by
  pointwise

/-- The fourth head's queries are their columns of the queries. -/
theorem sl3 (Q : FVec Ideal S1024x512 .bf16) (r : Fin 1024) (x : Fin 128) :
    (extractStridedSlice S1024x128 ![0, 384] Q slices_S1024x512_o0_384_S1024x128 : FVec Ideal S1024x128 .bf16) (ix2 r x) = Q (ix2 r ⟨384 + x.val, by omega⟩) := by
  pointwise

/-- The fourth head's keys and values are their columns of the staged block. -/
theorem ld3 (X : FVec Ideal S1x256x512 .bf16) (k : Fin 256) (x : Fin 128) :
    (View.ld (Val := Elt Ideal) (S := S1x256x512) (e' := .bf16) X r0_9 : FVec Ideal S1x256x128 .bf16) (ix3 0 k x) = X (ix3 0 k ⟨384 + x.val, by omega⟩) := by
  pointwise

/-- The kernel's attended rows: the attention of the column's head. -/
theorem attend (Q : FVec Ideal S1024x512 .bf16) (X3 X4 : FVec Ideal S1x256x512 .bf16) (r : Fin 1024) (j : Fin 512) :
    (k0_pay6 (F := Ideal) Q (k0_pay4 (F := Ideal) Q (View.ld (Val := Elt Ideal) (S := S1x256x512) (e' := .bf16) X3 r0_6) (View.ld (Val := Elt Ideal) (S := S1x256x512) (e' := .bf16) X4 r0_6)) (k0_pay5 (F := Ideal) Q (View.ld (Val := Elt Ideal) (S := S1x256x512) (e' := .bf16) X3 r0_7) (View.ld (Val := Elt Ideal) (S := S1x256x512) (e' := .bf16) X4 r0_7)) (View.ld (Val := Elt Ideal) (S := S1x256x512) (e' := .bf16) X3 r0_8) (View.ld (Val := Elt Ideal) (S := S1x256x512) (e' := .bf16) X4 r0_8) (View.ld (Val := Elt Ideal) (S := S1x256x512) (e' := .bf16) X3 r0_9) (View.ld (Val := Elt Ideal) (S := S1x256x512) (e' := .bf16) X4 r0_9) : FVec Ideal S1024x512 .bf16) (ix2 r j)
      = soft (fun k => ((∑ x : Fin 128, Q (ix2 r ⟨j.val / 128 * 128 + x.val, by omega⟩) * X3 (ix3 0 k ⟨j.val / 128 * 128 + x.val, by omega⟩)) * Ideal.ofBits FTy.f32 0x3DB504F3#32 : EReal)) (fun k => X4 (ix3 0 k j)) := by
  have qq : ∀ (Z : FVec Ideal S1024x512 .bf16) (r : Fin 1024) (u v : Fin 512), u.val = v.val → Z (ix2 r u) = Z (ix2 r v) := fun Z r u v e => by rw [Fin.ext e]
  have qx : ∀ (Z : FVec Ideal S1x256x512 .bf16) (k : Fin 256) (u v : Fin 512), u.val = v.val → Z (ix3 0 k u) = Z (ix3 0 k v) := fun Z k u v e => by rw [Fin.ext e]
  have h4 : j.val / 128 = 0 ∨ j.val / 128 = 1 ∨ j.val / 128 = 2 ∨ j.val / 128 = 3 := by omega
  rw [pay6_eq, pay4_eq, pay5_eq]
  refine (four _ _ _ _ r j).trans ?_
  rcases h4 with h4 | h4 | h4 | h4
  · have e : (⟨j.val / 128, by omega⟩ : Fin 4) = 0 := Fin.ext h4
    rw [e]
    refine (headOf_at _ _ _ r _).trans ?_
    simp only [sl0]
    refine congrArg₂ soft (funext fun k => congrArg (fun z : EReal => z * _) (Finset.sum_congr rfl fun x _ => congrArg₂ (fun u v : EReal => u * v) (qq Q _ _ _ ?_) ((ld0 X3 k x).trans (qx X3 _ _ _ ?_)))) (funext fun k => (ld0 X4 k _).trans (qx X4 _ _ _ ?_))
    all_goals (dsimp only; omega)
  · have e : (⟨j.val / 128, by omega⟩ : Fin 4) = 1 := Fin.ext h4
    rw [e]
    refine (headOf_at _ _ _ r _).trans ?_
    simp only [sl1]
    refine congrArg₂ soft (funext fun k => congrArg (fun z : EReal => z * _) (Finset.sum_congr rfl fun x _ => congrArg₂ (fun u v : EReal => u * v) (qq Q _ _ _ ?_) ((ld1 X3 k x).trans (qx X3 _ _ _ ?_)))) (funext fun k => (ld1 X4 k _).trans (qx X4 _ _ _ ?_))
    all_goals (dsimp only; omega)
  · have e : (⟨j.val / 128, by omega⟩ : Fin 4) = 2 := Fin.ext h4
    rw [e]
    refine (headOf_at _ _ _ r _).trans ?_
    simp only [sl2]
    refine congrArg₂ soft (funext fun k => congrArg (fun z : EReal => z * _) (Finset.sum_congr rfl fun x _ => congrArg₂ (fun u v : EReal => u * v) (qq Q _ _ _ ?_) ((ld2 X3 k x).trans (qx X3 _ _ _ ?_)))) (funext fun k => (ld2 X4 k _).trans (qx X4 _ _ _ ?_))
    all_goals (dsimp only; omega)
  · have e : (⟨j.val / 128, by omega⟩ : Fin 4) = 3 := Fin.ext h4
    rw [e]
    refine (headOf_at _ _ _ r _).trans ?_
    simp only [sl3]
    refine congrArg₂ soft (funext fun k => congrArg (fun z : EReal => z * _) (Finset.sum_congr rfl fun x _ => congrArg₂ (fun u v : EReal => u * v) (qq Q _ _ _ ?_) ((ld3 X3 k x).trans (qx X3 _ _ _ ?_)))) (funext fun k => (ld3 X4 k _).trans (qx X4 _ _ _ ?_))
    all_goals (dsimp only; omega)

/-- The block index of every window at grid point `t`: the rows move with the point, the memory with the batch, the weights stay. -/
theorem idx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, 0, 0] ∧ win0_4.index t = ![t.val / 8, 0, 0] ∧ win0_5.index t = ![0, 0] ∧ win0_6.index t = ![0, 0]
    ∧ win0_7.index t = ![0, 0] ∧ win0_8.index t = ![0, 0] ∧ win0_9.index t = ![t.val / 8, t.val % 8, 0] :=
  (by decide +kernel : ∀ t : Fin grid0.N, _)

/-- Row `r` of the staged residual rows at point `t` is row `t % 8 * 1024 + r` of batch `t / 8`. -/
theorem blk0 (c : Dev nD) (t : Fin cfg0.N) (r : Fin 1024) (k : Fin 1024) (h1 : t.val / 8 < 8) (h2 : t.val % 8 * 1024 + r.val < 8192) :
    (iblk m c 0 t : FVec Ideal S1x1024x1024 .f32) (ix3 0 r k) = (m ((c : Thread nD τ).loc main_arg0) : FVec Ideal Cert.PostRefIdeal.S8x8192x1024 .f32) (ix3 ⟨t.val / 8, h1⟩ ⟨t.val % 8 * 1024 + r.val, h2⟩ k) := by
  blk_ext [iblk, V, idx t]

/-- Row `r` of the staged recurrence rows at point `t` is row `t % 8 * 1024 + r` of batch `t / 8`. -/
theorem blk1 (c : Dev nD) (t : Fin cfg0.N) (r : Fin 1024) (k : Fin 512) (h1 : t.val / 8 < 8) (h2 : t.val % 8 * 1024 + r.val < 8192) :
    (iblk m c 1 t : FVec Ideal S1x1024x512 .bf16) (ix3 0 r k) = (m ((c : Thread nD τ).loc main_arg1) : FVec Ideal Cert.PostRefIdeal.S8x8192x512 .bf16) (ix3 ⟨t.val / 8, h1⟩ ⟨t.val % 8 * 1024 + r.val, h2⟩ k) := by
  blk_ext [iblk, V, idx t]

/-- Row `r` of the staged attention rows at point `t` is row `t % 8 * 1024 + r` of batch `t / 8`. -/
theorem blk2 (c : Dev nD) (t : Fin cfg0.N) (r : Fin 1024) (k : Fin 512) (h1 : t.val / 8 < 8) (h2 : t.val % 8 * 1024 + r.val < 8192) :
    (iblk m c 2 t : FVec Ideal S1x1024x512 .bf16) (ix3 0 r k) = (m ((c : Thread nD τ).loc main_arg2) : FVec Ideal Cert.PostRefIdeal.S8x8192x512 .bf16) (ix3 ⟨t.val / 8, h1⟩ ⟨t.val % 8 * 1024 + r.val, h2⟩ k) := by
  blk_ext [iblk, V, idx t]

/-- The staged memory keys at point `t` are those of batch `t / 8`, head by head. -/
theorem blk3 (c : Dev nD) (t : Fin cfg0.N) (k : Fin 256) (j : Fin 512) (h1 : t.val / 8 < 8) :
    (iblk m c 3 t : FVec Ideal S1x256x512 .bf16) (ix3 0 k j) = (m ((c : Thread nD τ).loc main_arg3) : FVec Ideal Cert.PostRefIdeal.S8x256x4x128 .f32) (ix4 ⟨t.val / 8, h1⟩ k ⟨j.val / 128, by omega⟩ ⟨j.val % 128, by omega⟩) := by
  blk_simp [iblk, idx t]
  entry_read
  pointwise
  blk_ext [idx t]

/-- The staged memory values at point `t` are those of batch `t / 8`, head by head. -/
theorem blk4 (c : Dev nD) (t : Fin cfg0.N) (k : Fin 256) (j : Fin 512) (h1 : t.val / 8 < 8) :
    (iblk m c 4 t : FVec Ideal S1x256x512 .bf16) (ix3 0 k j) = (m ((c : Thread nD τ).loc main_arg4) : FVec Ideal Cert.PostRefIdeal.S8x256x4x128 .f32) (ix4 ⟨t.val / 8, h1⟩ k ⟨j.val / 128, by omega⟩ ⟨j.val % 128, by omega⟩) := by
  blk_simp [iblk, idx t]
  entry_read
  pointwise
  blk_ext [idx t]

/-- The staged output weight is the argument's only slab. -/
theorem blk5 (c : Dev nD) (t : Fin cfg0.N) (r : Fin 1024) (k : Fin 1024) :
    (iblk m c 5 t : FVec Ideal S1024x1024 .bf16) (ix2 r k) = (m ((c : Thread nD τ).loc main_arg5) : FVec Ideal Cert.PostRefIdeal.S1x1024x1024 .f32) (ix3 0 r k) := by
  blk_simp [iblk, idx t]
  entry_read
  pointwise
  blk_ext [idx t]

/-- The staged query weight is the argument's only slab. -/
theorem blk7 (c : Dev nD) (t : Fin cfg0.N) (r : Fin 1024) (k : Fin 512) :
    (iblk m c 7 t : FVec Ideal S1024x512 .bf16) (ix2 r k) = (m ((c : Thread nD τ).loc main_arg7) : FVec Ideal Cert.PostRefIdeal.S1x1024x512 .f32) (ix3 0 r k) := by
  blk_simp [iblk, idx t]
  entry_read
  pointwise
  blk_ext [idx t]

/-- The staged memory output weight is the argument's only slab. -/
theorem blk8 (c : Dev nD) (t : Fin cfg0.N) (r : Fin 512) (k : Fin 1024) :
    (iblk m c 8 t : FVec Ideal S512x1024 .bf16) (ix2 r k) = (m ((c : Thread nD τ).loc main_arg8) : FVec Ideal Cert.PostRefIdeal.S1x512x1024 .f32) (ix3 0 r k) := by
  blk_simp [iblk, idx t]
  entry_read
  pointwise
  blk_ext [idx t]

/-- The staged gain is the argument. -/
theorem blk6 (c : Dev nD) (t : Fin cfg0.N) (k : Fin 1024) :
    (iblk m c 6 t : FVec Ideal S1x1024 .f32) (ix2 0 k) = (m ((c : Thread nD τ).loc main_arg6) : FVec Ideal S1x1024 .f32) (ix2 0 k) := by
  blk_ext [iblk, V, idx t]

/-- Entry `(0, a, b)` of the output block at point `t` is row `t % 8 * 1024 + a` of batch `t / 8`. -/
theorem emb9 (t : Fin cfg0.N) (a : Fin 1024) (b : Fin 1024) (h1 : t.val / 8 < 8) (h2 : t.val % 8 * 1024 + a.val < 8192) :
    (((cfg0.win 9).blk t).view.emb (ix3 0 a b) : S8x8192x1024.Idx) = ix3 ⟨t.val / 8, h1⟩ ⟨t.val % 8 * 1024 + a.val, h2⟩ b := by
  blk_ext [idx t]

end Cert.PostIdeal.Value
-- ==== Proof.PostValue.lean ====
module

public import proofs.«01_k».proof.Proof.Gen.PostIdeal.Frame
public import proofs.«01_k».proof.Proof.Gen.PostRefIdeal.Read
public import proofs.«01_k».proof.Proof.PostBlocks
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.PostIdeal.Value

open Cert.PostIdeal Cert.PostIdeal.Gen

variable (m : (ℓ : Loc nD τ sig) → Buf (Elt Ideal) ℓ)

/-- The upper half of the staged output weight. -/
theorem ldA (X : FVec Ideal S1024x1024 .bf16) (k : Fin 512) (n : Fin 1024) :
    ((View.ld (Val := Elt Ideal) (S := S1024x1024) (e' := .bf16) X r0_2) : FVec Ideal S512x1024 .bf16) (ix2 k n) = X (ix2 ⟨k.val, by omega⟩ n) := by
  pointwise

/-- The lower half of the staged output weight. -/
theorem ldB (X : FVec Ideal S1024x1024 .bf16) (k : Fin 512) (n : Fin 1024) :
    ((View.ld (Val := Elt Ideal) (S := S1024x1024) (e' := .bf16) X r0_3) : FVec Ideal S512x1024 .bf16) (ix2 k n) = X (ix2 ⟨512 + k.val, by omega⟩ n) := by
  pointwise

/-- The queries read the whole of every block but the output weight. -/
theorem pay7_eq (X0 : FVec Ideal S1x1024x1024 .f32) (X1 : FVec Ideal S1x1024x512 .bf16) (X2 : FVec Ideal S1x1024x512 .bf16) (X3 : FVec Ideal S1x256x512 .bf16) (X4 : FVec Ideal S1x256x512 .bf16) (X5 : FVec Ideal S1024x1024 .bf16) (X6 : FVec Ideal S1x1024 .f32) (X7 : FVec Ideal S1024x512 .bf16) (X8 : FVec Ideal S512x1024 .bf16) :
    k0_pay7 (F := Ideal) X0 X1 X2 X3 X4 X5 X6 X7 X8 = k0_pay3 (F := Ideal) X0 X1 (View.ld (Val := Elt Ideal) (S := S1024x1024) (e' := .bf16) X5 r0_2) X2 (View.ld (Val := Elt Ideal) (S := S1024x1024) (e' := .bf16) X5 r0_3) X6 X7 := by
  unfold k0_pay7
  simp (disch := decide) only [View.ld_unit_lit']

section Row

variable (x0 : FVec Ideal Cert.PostRefIdeal.S8x8192x1024 .f32) (x1 x2 : FVec Ideal Cert.PostRefIdeal.S8x8192x512 .bf16) (x3 x4 : FVec Ideal Cert.PostRefIdeal.S8x256x4x128 .f32) (x5 : FVec Ideal Cert.PostRefIdeal.S1x1024x1024 .f32) (x6 : FVec Ideal Cert.PostRefIdeal.S1x1024 .f32) (x7 : FVec Ideal Cert.PostRefIdeal.S1x1024x512 .f32) (x8 : FVec Ideal Cert.PostRefIdeal.S1x512x1024 .f32)
variable (X0 : FVec Ideal S1x1024x1024 .f32) (X1 : FVec Ideal S1x1024x512 .bf16) (X2 : FVec Ideal S1x1024x512 .bf16) (X3 : FVec Ideal S1x256x512 .bf16) (X4 : FVec Ideal S1x256x512 .bf16) (X5 : FVec Ideal S1024x1024 .bf16) (X6 : FVec Ideal S1x1024 .f32) (X7 : FVec Ideal S1024x512 .bf16) (X8 : FVec Ideal S512x1024 .bf16)

/-- The kernel's first residual sum is the reference's. -/
theorem resid (WA WB : FVec Ideal S512x1024 .bf16) (b : Fin 8) (p : Fin 8192) (r : Fin 1024)
    (e0 : ∀ n, X0 (ix3 0 r n) = x0 (ix3 b p n)) (e1 : ∀ k, X1 (ix3 0 r k) = x1 (ix3 b p k)) (e2 : ∀ k, X2 (ix3 0 r k) = x2 (ix3 b p k))
    (eA : ∀ (k : Fin 512) (n : Fin 1024), WA (ix2 k n) = x5 (ix3 0 ⟨k.val, by omega⟩ n)) (eB : ∀ (k : Fin 512) (n : Fin 1024), WB (ix2 k n) = x5 (ix3 0 ⟨512 + k.val, by omega⟩ n)) (n : Fin 1024) :
    (k0_pay2 (F := Ideal) X0 X1 WA X2 WB : FVec Ideal S1024x1024 .f32) (ix2 r n) = (Cert.PostRefIdeal.Read.val_main_v5 (F := Ideal) x0 x1 x2 x5 : FVec Ideal Cert.PostRefIdeal.S8x8192x1024 .f32) (ix3 b p n) := by
  refine (pay2_at X0 X1 X2 WA WB r n).trans ?_
  rw [ref5, ref4]
  simp only [e0, e1, e2, eA, eB]
  exact add_assoc _ _ _

/-- The kernel's queries are the reference's. -/
theorem query (WA WB : FVec Ideal S512x1024 .bf16) (b : Fin 8) (p : Fin 8192) (r : Fin 1024)
    (eP : ∀ n, (k0_pay2 (F := Ideal) X0 X1 WA X2 WB : FVec Ideal S1024x1024 .f32) (ix2 r n) = (Cert.PostRefIdeal.Read.val_main_v5 (F := Ideal) x0 x1 x2 x5 : FVec Ideal Cert.PostRefIdeal.S8x8192x1024 .f32) (ix3 b p n))
    (e6 : ∀ n, X6 (ix2 0 n) = x6 (ix2 0 n)) (e7 : ∀ n j, X7 (ix2 n j) = x7 (ix3 0 n j)) (j : Fin 512) :
    (k0_pay3 (F := Ideal) X0 X1 WA X2 WB X6 X7 : FVec Ideal S1024x512 .bf16) (ix2 r j) = (Cert.PostRefIdeal.Read.val_main_v22 (F := Ideal) x0 x1 x2 x5 x6 x7 : FVec Ideal Cert.PostRefIdeal.S8x8192x512 .f32) (ix3 b p j) := by
  refine (pay3_at X0 X1 X2 WA WB X6 X7 _ rfl r j).trans ?_
  rw [ref22]
  simp only [ref19, eP, e6, e7]

/-- The kernel's attended row is the reference's. -/
theorem attended (Q : FVec Ideal S1024x512 .bf16) (b : Fin 8) (p : Fin 8192) (r : Fin 1024)
    (eQ : ∀ j, Q (ix2 r j) = (Cert.PostRefIdeal.Read.val_main_v22 (F := Ideal) x0 x1 x2 x5 x6 x7 : FVec Ideal Cert.PostRefIdeal.S8x8192x512 .f32) (ix3 b p j))
    (e3 : ∀ (k : Fin 256) (j : Fin 512), X3 (ix3 0 k j) = x3 (ix4 b k ⟨j.val / 128, by omega⟩ ⟨j.val % 128, by omega⟩))
    (e4 : ∀ (k : Fin 256) (j : Fin 512), X4 (ix3 0 k j) = x4 (ix4 b k ⟨j.val / 128, by omega⟩ ⟨j.val % 128, by omega⟩)) (j : Fin 512) :
    soft (fun k => ((∑ x : Fin 128, Q (ix2 r ⟨j.val / 128 * 128 + x.val, by omega⟩) * X3 (ix3 0 k ⟨j.val / 128 * 128 + x.val, by omega⟩)) * Ideal.ofBits FTy.f32 0x3DB504F3#32 : EReal)) (fun k => X4 (ix3 0 k j))
      = (Cert.PostRefIdeal.Read.val_main_v40 (F := Ideal) x0 x1 x2 x3 x4 x5 x6 x7 : FVec Ideal Cert.PostRefIdeal.S8x8192x512 .f32) (ix3 b p j) := by
  rw [ref40s]
  refine congrArg₂ soft (funext fun k => congrArg (fun z : EReal => z * _) (Finset.sum_congr rfl fun x _ => congrArg₂ (fun u v : EReal => u * v) (eQ _) ((e3 _ _).trans ?_))) (funext fun k => e4 _ _)
  have q : ∀ (u v : Fin 4) (y z : Fin 128), u.val = v.val → y.val = z.val → x3 (ix4 b k u y) = x3 (ix4 b k v z) := fun u v y z eu ey => by rw [Fin.ext eu, Fin.ext ey]
  exact q _ _ _ _ (by dsimp only; omega) (by dsimp only; omega)

end Row

/-- The result array of the call is the reference's at every entry. -/
theorem final9 (c : Dev nD) : (dats m 0 c).arrAt 9 (cfgs 0).N = Cert.PostRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]; frame_out
  idx_vars y
  have ht : t.val < 64 := t.isLt
  have h1 : t.val / 8 < 8 := by omega
  have h2 : t.val % 8 * 1024 + y1.val < 8192 := by omega
  have hy : y0 = 0 := Fin.fin_one_eq_zero y0
  subst hy
  rw [emb9 t y1 y2 h1 h2]
  have e0 := fun k => blk0 m c t y1 k h1 h2
  have e1 := fun k => blk1 m c t y1 k h1 h2
  have e2 := fun k => blk2 m c t y1 k h1 h2
  have e3 := fun k j => blk3 m c t k j h1
  have e4 := fun k j => blk4 m c t k j h1
  have e5 := blk5 m c t
  have e6 := blk6 m c t
  have e7 := blk7 m c t
  have e8 := blk8 m c t
  rw [pay7_eq]
  generalize (iblk m c 0 t : FVec Ideal S1x1024x1024 .f32) = X0 at e0 ⊢
  generalize (iblk m c 1 t : FVec Ideal S1x1024x512 .bf16) = X1 at e1 ⊢
  generalize (iblk m c 2 t : FVec Ideal S1x1024x512 .bf16) = X2 at e2 ⊢
  generalize (iblk m c 3 t : FVec Ideal S1x256x512 .bf16) = X3 at e3 ⊢
  generalize (iblk m c 4 t : FVec Ideal S1x256x512 .bf16) = X4 at e4 ⊢
  generalize (iblk m c 5 t : FVec Ideal S1024x1024 .bf16) = X5 at e5 ⊢
  generalize (iblk m c 6 t : FVec Ideal S1x1024 .f32) = X6 at e6 ⊢
  generalize (iblk m c 7 t : FVec Ideal S1024x512 .bf16) = X7 at e7 ⊢
  generalize (iblk m c 8 t : FVec Ideal S512x1024 .bf16) = X8 at e8 ⊢
  generalize (m ((c : Thread nD τ).loc main_arg0) : FVec Ideal Cert.PostRefIdeal.S8x8192x1024 .f32) = x0 at e0 ⊢
  generalize (m ((c : Thread nD τ).loc main_arg1) : FVec Ideal Cert.PostRefIdeal.S8x8192x512 .bf16) = x1 at e1 ⊢
  generalize (m ((c : Thread nD τ).loc main_arg2) : FVec Ideal Cert.PostRefIdeal.S8x8192x512 .bf16) = x2 at e2 ⊢
  generalize (m ((c : Thread nD τ).loc main_arg3) : FVec Ideal Cert.PostRefIdeal.S8x256x4x128 .f32) = x3 at e3 ⊢
  generalize (m ((c : Thread nD τ).loc main_arg4) : FVec Ideal Cert.PostRefIdeal.S8x256x4x128 .f32) = x4 at e4 ⊢
  generalize (m ((c : Thread nD τ).loc main_arg5) : FVec Ideal Cert.PostRefIdeal.S1x1024x1024 .f32) = x5 at e5 ⊢
  generalize (m ((c : Thread nD τ).loc main_arg6) : FVec Ideal Cert.PostRefIdeal.S1x1024 .f32) = x6 at e6 ⊢
  generalize (m ((c : Thread nD τ).loc main_arg7) : FVec Ideal Cert.PostRefIdeal.S1x1024x512 .f32) = x7 at e7 ⊢
  generalize (m ((c : Thread nD τ).loc main_arg8) : FVec Ideal Cert.PostRefIdeal.S1x512x1024 .f32) = x8 at e8 ⊢
  have eP := resid x0 x1 x2 x5 X0 X1 X2 (View.ld (Val := Elt Ideal) (S := S1024x1024) (e' := .bf16) X5 r0_2) (View.ld (Val := Elt Ideal) (S := S1024x1024) (e' := .bf16) X5 r0_3) _ _ y1 e0 e1 e2 (fun k n => (ldA X5 k n).trans (e5 _ _)) (fun k n => (ldB X5 k n).trans (e5 _ _))
  have eQ := query x0 x1 x2 x5 x6 x7 X0 X1 X2 X6 X7 _ _ _ _ y1 eP e6 e7
  refine (pay1_at _ _ _ y1 y2).trans ?_
  rw [ref42]
  refine congrArg₂ (fun u v : EReal => u + v) (eP y2) (Finset.sum_congr rfl fun j _ => congrArg₂ (fun u v : EReal => u * v) ?_ (e8 j y2))
  exact (attend _ X3 X4 y1 j).trans (attended x0 x1 x2 x3 x4 x5 x6 x7 X3 X4 _ _ _ y1 eQ e3 e4 j)

end Cert.PostIdeal.Value
-- ==== Proof.lean ====
/- The certificate: every program's frame, every kernel's idealization, and for every kernel the
   equality of its results with its reference's. The mathematics is in the modules under `Proof/`. -/
module

public import proofs.«01_k».proof.Defs
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.MlpRefIdeal.Run
public import proofs.«01_k».proof.Proof.MlpValue
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.MemKvValue
public import proofs.«01_k».proof.Proof.Gen.MlpS
public import proofs.«01_k».proof.Proof.Gen.MlpS.Frame
public import proofs.«01_k».proof.Proof.Gen.MlpSIdeal
public import proofs.«01_k».proof.Proof.Gen.MlpSIdeal.Frame
public import proofs.«01_k».proof.Proof.Gen.MlpSRefIdeal
public import proofs.«01_k».proof.Proof.Gen.MlpSRefIdeal.Run
public import proofs.«01_k».proof.Proof.MlpSValue
public import proofs.«01_k».proof.Proof.Gen.ProjS
public import proofs.«01_k».proof.Proof.Gen.ProjS.Frame
public import proofs.«01_k».proof.Proof.Gen.ProjSIdeal
public import proofs.«01_k».proof.Proof.Gen.ProjSIdeal.Frame
public import proofs.«01_k».proof.Proof.Gen.ProjSRefIdeal
public import proofs.«01_k».proof.Proof.Gen.ProjSRefIdeal.Run
public import proofs.«01_k».proof.Proof.ProjSMain
public import proofs.«01_k».proof.Proof.ProjSVal
public import proofs.«01_k».proof.Proof.ProjSRope
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.ProjMain
public import proofs.«01_k».proof.Proof.ProjVal
public import proofs.«01_k».proof.Proof.ProjRope
public import proofs.«01_k».proof.Proof.Gen.Gdn
public import proofs.«01_k».proof.Proof.Gen.Gdn.Frame
public import proofs.«01_k».proof.Proof.Gen.GdnIdeal
public import proofs.«01_k».proof.Proof.Gen.GdnIdeal.Frame
public import proofs.«01_k».proof.Proof.Gen.GdnRefIdeal
public import proofs.«01_k».proof.Proof.Gen.GdnRefIdeal.Run
public import proofs.«01_k».proof.Proof.GdnValue
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.PostValue
public import proofs.«01_k».proof.Proof.Gen.Pre_gates_finite
public import Idealize.ShloMosaic.Adequacy
public import Idealize.ShloMosaic.Init
public import Idealize.ShloMosaic.Lib.Claim

@[expose] public section

set_option maxRecDepth 16384
set_option maxHeartbeats 1600000

noncomputable section

namespace Cert.Proof

open Idealize.ShloMosaic Idealize.SL.Sem

/-- The feed-forward call returns what the reference layer returns. -/
theorem algebraic_Mlp : Cert.algebraic_MlpIdeal_MlpRefIdeal := by
  pair_intro
  · run_from Cert.MlpIdeal.Gen.run_main m g
  · run_from Cert.MlpRefIdeal.Value.run m' g'
    rw [Cert.MlpRefIdeal.Read.val_main_v34_eq]
    obtain ⟨h0, h1, h2, h3, h4⟩ := hagree c
    rw [h0, h1, h2, h3, h4]
    exact (Cert.MlpIdeal.Value.final5 m c).symm

/-- The memory projection returns the reference keys and values. -/
theorem algebraic_MemKv : Cert.algebraic_MemKvIdeal_MemKvRefIdeal := by
  pair_intro
  · run_from Cert.MemKvIdeal.Gen.run_main m g
  · run_from Cert.MemKvRefIdeal.Value.run m' g'
    · exact (Cert.MemKvIdeal.Value.final3 m c).symm
    · exact (Cert.MemKvIdeal.Value.final4 m c).symm

/-- The feed-forward call of the second batch returns what the reference layer returns. -/
theorem algebraic_MlpS : Cert.algebraic_MlpSIdeal_MlpSRefIdeal := by
  pair_intro
  · run_from Cert.MlpSIdeal.Gen.run_main m g
  · run_from Cert.MlpSRefIdeal.Value.run m' g'
    rw [Cert.MlpSRefIdeal.Read.val_main_v34_eq]
    obtain ⟨h0, h1, h2, h3, h4⟩ := hagree c
    rw [h0, h1, h2, h3, h4]
    exact (Cert.MlpSIdeal.Value.final5 m c).symm

/-- The projection call of the second batch returns the reference projection, gate, rotated keys and values. -/
theorem algebraic_ProjS : Cert.algebraic_ProjSIdeal_ProjSRefIdeal := by
  pair_intro
  · run_from Cert.ProjSIdeal.Gen.run_main m g
  · run_from Cert.ProjSRefIdeal.Value.run m' g'
    · exact (Cert.ProjSIdeal.Value.final9 m c).symm
    · exact (Cert.ProjSIdeal.Value.final10 m c).symm
    · rw [Cert.ProjSRefIdeal.Read.val_main_v44_eq]
      obtain ⟨h0, h1, h2, h3, h4, h5, h6⟩ := hagree c
      rw [h0, h1, h2, h3, h4]
      exact (Cert.ProjSIdeal.Value.final13 m c).symm
    · exact (Cert.ProjSIdeal.Value.final15 m c).symm

/-- The projection call of the first batch returns the reference projection, gate, rotated keys and values. -/
theorem algebraic_Proj : Cert.algebraic_ProjIdeal_ProjRefIdeal := by
  pair_intro
  · run_from Cert.ProjIdeal.Gen.run_main m g
  · run_from Cert.ProjRefIdeal.Value.run m' g'
    · exact (Cert.ProjIdeal.Value.final9 m c).symm
    · exact (Cert.ProjIdeal.Value.final10 m c).symm
    · rw [Cert.ProjRefIdeal.Read.val_main_v44_eq]
      obtain ⟨h0, h1, h2, h3, h4, h5, h6⟩ := hagree c
      rw [h0, h1, h2, h3, h4]
      exact (Cert.ProjIdeal.Value.final13 m c).symm
    · exact (Cert.ProjIdeal.Value.final15 m c).symm

/-- The recurrence of the second batch returns the reference rows and the reference state. -/
theorem algebraic_Gdn : Cert.algebraic_GdnIdeal_GdnRefIdeal_pre_gates_finite := by
  pair_intro
  · run_from Cert.GdnIdeal.Gen.run_main m g
  · run_from Cert.GdnRefIdeal.Value.run m' g'
    · obtain ⟨h0, h1, h2, h3, h4, h5, h6, h7⟩ := hagree c
      have e := (Cert.GdnIdeal.Value.final7 m hpre c).symm
      rw [← h0, ← h1, ← h2, ← h3, ← h4, ← h5, ← h6, ← h7] at e
      rw [← h7]
      exact (Cert.GdnRefIdeal.Read.val_main_v329_eq (F := Ideal) (StableHlo.launchContents m' c)).trans e
    · rw [Cert.GdnRefIdeal.Read.val_main_v306_eq]
      obtain ⟨h0, h1, h2, h3, h4, h5, h6, h7⟩ := hagree c
      have e := (Cert.GdnIdeal.Value.final8 m hpre c).symm
      rw [← h0, ← h2, ← h3, ← h4, ← h5, ← h6] at e
      exact e

/-- The output projection with its attention over the memory returns what the reference layer returns. -/
theorem algebraic_Post : Cert.algebraic_PostIdeal_PostRefIdeal := by
  pair_intro
  · run_from Cert.PostIdeal.Gen.run_main m g
  · run_from Cert.PostRefIdeal.Value.run m' g'
    rw [Cert.PostRefIdeal.Read.val_main_v42_eq]
    obtain ⟨h0, h1, h2, h3, h4, h5, h6, h7, h8⟩ := hagree c
    rw [h0, h1, h2, h3, h4, h5, h6, h7, h8]
    exact (Cert.PostIdeal.Value.final9 m c).symm

/-- The claim: the frames, the idealizations, and the equalities. -/
theorem claim : Cert.Claim := ⟨Cert.Mlp.Gen.facts,
  Cert.MlpIdeal.Gen.facts,
  Cert.MlpRefIdeal.Gen.facts,
  Cert.MemKv.Gen.facts,
  Cert.MemKvIdeal.Gen.facts,
  Cert.MemKvRefIdeal.Gen.facts,
  Cert.MlpS.Gen.facts,
  Cert.MlpSIdeal.Gen.facts,
  Cert.MlpSRefIdeal.Gen.facts,
  Cert.ProjS.Gen.facts,
  Cert.ProjSIdeal.Gen.facts,
  Cert.ProjSRefIdeal.Gen.facts,
  Cert.Proj.Gen.facts,
  Cert.ProjIdeal.Gen.facts,
  Cert.ProjRefIdeal.Gen.facts,
  Cert.Gdn.Gen.facts,
  Cert.GdnIdeal.Gen.facts,
  Cert.GdnRefIdeal.Gen.facts,
  Cert.Post.Gen.facts,
  Cert.PostIdeal.Gen.facts,
  Cert.PostRefIdeal.Gen.facts,
  Cert.Pre_gates_finite.Gen.facts,
  fun m ρ _ => Cert.Mlp.Gen.frame m ρ,
  fun m ρ _ => Cert.MlpIdeal.Gen.frame m ρ,
  fun m g _ => (θ_run _ _ _).mono (fun r h => ⟨fun c => (h c).2, sem_eq_zero_of_no_sems rfl r.2⟩) (Cert.MlpRefIdeal.Value.run m g),
  fun m ρ _ => Cert.MemKv.Gen.frame m ρ,
  fun m ρ _ => Cert.MemKvIdeal.Gen.frame m ρ,
  fun m g _ => (θ_run _ _ _).mono (fun r h => ⟨fun c => (h c).2.2, sem_eq_zero_of_no_sems rfl r.2⟩) (Cert.MemKvRefIdeal.Value.run m g),
  fun m ρ _ => Cert.MlpS.Gen.frame m ρ,
  fun m ρ _ => Cert.MlpSIdeal.Gen.frame m ρ,
  fun m g _ => (θ_run _ _ _).mono (fun r h => ⟨fun c => (h c).2, sem_eq_zero_of_no_sems rfl r.2⟩) (Cert.MlpSRefIdeal.Value.run m g),
  fun m ρ _ => Cert.ProjS.Gen.frame m ρ,
  fun m ρ _ => Cert.ProjSIdeal.Gen.frame m ρ,
  fun m g _ => (θ_run _ _ _).mono (fun r h => ⟨fun c => (h c).2.2.2.2, sem_eq_zero_of_no_sems rfl r.2⟩) (Cert.ProjSRefIdeal.Value.run m g),
  fun m ρ _ => Cert.Proj.Gen.frame m ρ,
  fun m ρ _ => Cert.ProjIdeal.Gen.frame m ρ,
  fun m g _ => (θ_run _ _ _).mono (fun r h => ⟨fun c => (h c).2.2.2.2, sem_eq_zero_of_no_sems rfl r.2⟩) (Cert.ProjRefIdeal.Value.run m g),
  fun m ρ _ => Cert.Gdn.Gen.frame m ρ,
  fun m ρ _ => Cert.GdnIdeal.Gen.frame m ρ,
  fun m ρ _ => Cert.GdnIdeal.Gen.frame m ρ,
  fun m g _ => (θ_run _ _ _).mono (fun r h => ⟨fun c => (h c).2.2, sem_eq_zero_of_no_sems rfl r.2⟩) (Cert.GdnRefIdeal.Value.run m g),
  fun m g _ => (θ_run _ _ _).mono (fun r h => ⟨fun c => (h c).2.2, sem_eq_zero_of_no_sems rfl r.2⟩) (Cert.GdnRefIdeal.Value.run m g),
  fun m ρ _ => Cert.Post.Gen.frame m ρ,
  fun m ρ _ => Cert.PostIdeal.Gen.frame m ρ,
  fun m g _ => (θ_run _ _ _).mono (fun r h => ⟨fun c => (h c).2, sem_eq_zero_of_no_sems rfl r.2⟩) (Cert.PostRefIdeal.Value.run m g),
  trivial,
  algebraic_Mlp,
  trivial,
  algebraic_MemKv,
  trivial,
  algebraic_MlpS,
  trivial,
  algebraic_ProjS,
  trivial,
  algebraic_Proj,
  trivial,
  algebraic_Gdn,
  trivial,
  algebraic_Post⟩

end Cert.Proof

end
